-- ==== Defs.lean ====
def Pre_KernelIdeal (m : (ℓ : Loc Cert.KernelIdeal.nD Cert.KernelIdeal.τ Cert.KernelIdeal.sig) → Buf (Elt Ideal) ℓ) : Prop :=
  True

def Pre_KernelIdeal_selected [hPre_selected : Cert.Pre_selected.Facts] (m : (ℓ : Loc Cert.KernelIdeal.nD Cert.KernelIdeal.τ Cert.KernelIdeal.sig) → Buf (Elt Ideal) ℓ) : Prop :=
  ∀ c : Dev Cert.KernelIdeal.nD,
    (Cert.Pre_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selected [hPre_selected : Cert.Pre_selected.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Softmax (m : (ℓ : Loc Cert.Softmax.nD Cert.Softmax.τ Cert.Softmax.sig) → Buf (Elt Bits) ℓ) : Prop :=
  True

def Pre_SoftmaxIdeal (m : (ℓ : Loc Cert.SoftmaxIdeal.nD Cert.SoftmaxIdeal.τ Cert.SoftmaxIdeal.sig) → Buf (Elt Ideal) ℓ) : Prop :=
  True

def Pre_MaskedIdeal (m : (ℓ : Loc Cert.MaskedIdeal.nD Cert.MaskedIdeal.τ Cert.MaskedIdeal.sig) → Buf (Elt Ideal) ℓ) : Prop :=
  True

def Pre_Threshold (m : (ℓ : Loc Cert.Threshold.nD Cert.Threshold.τ Cert.Threshold.sig) → Buf (Elt Bits) ℓ) : Prop :=
  True

def Pre_Compact (m : (ℓ : Loc Cert.Compact.nD Cert.Compact.τ Cert.Compact.sig) → Buf (Elt Bits) ℓ) : Prop :=
  True

def Pre_Search (m : (ℓ : Loc Cert.Search.nD Cert.Search.τ Cert.Search.sig) → Buf (Elt Bits) ℓ) : Prop :=
  True

def Pre_SearchIdeal (m : (ℓ : Loc Cert.SearchIdeal.nD Cert.SearchIdeal.τ Cert.SearchIdeal.sig) → Buf (Elt Ideal) ℓ) : Prop :=
  True

def Pre_SearchIdeal_in_range [hPre_in_range : Cert.Pre_in_range.Facts] (m : (ℓ : Loc Cert.SearchIdeal.nD Cert.SearchIdeal.τ Cert.SearchIdeal.sig) → Buf (Elt Ideal) ℓ) : Prop :=
  ∀ c : Dev Cert.SearchIdeal.nD,
    (Cert.Pre_in_range.fn (F := Ideal) (m ((c.tc : Thread Cert.SearchIdeal.nD Cert.SearchIdeal.τ).loc Cert.SearchIdeal.main_arg0))) = (fun _ => 1#1)

def Pre_KthIdeal (m : (ℓ : Loc Cert.KthIdeal.nD Cert.KthIdeal.τ Cert.KthIdeal.sig) → Buf (Elt Ideal) ℓ) : Prop :=
  True

def Pre_KthIdeal_in_range [hPre_in_range : Cert.Pre_in_range.Facts] (m : (ℓ : Loc Cert.KthIdeal.nD Cert.KthIdeal.τ Cert.KthIdeal.sig) → Buf (Elt Ideal) ℓ) : Prop :=
  ∀ c : Dev Cert.KthIdeal.nD,
    (Cert.Pre_in_range.fn (F := Ideal) (m ((c.tc : Thread Cert.KthIdeal.nD Cert.KthIdeal.τ).loc Cert.KthIdeal.main_arg0))) = (fun _ => 1#1)

def Pre_Listing (m : (ℓ : Loc Cert.Listing.nD Cert.Listing.τ Cert.Listing.sig) → Buf (Elt Bits) ℓ) : Prop :=
  True

def Pre_ListingIdeal (m : (ℓ : Loc Cert.ListingIdeal.nD Cert.ListingIdeal.τ Cert.ListingIdeal.sig) → Buf (Elt Ideal) ℓ) : Prop :=
  True

def Pre_ListingIdeal_kth_given [hPre_kth_given : Cert.Pre_kth_given.Facts] (m : (ℓ : Loc Cert.ListingIdeal.nD Cert.ListingIdeal.τ Cert.ListingIdeal.sig) → Buf (Elt Ideal) ℓ) : Prop :=
  ∀ c : Dev Cert.ListingIdeal.nD,
    (Cert.Pre_kth_given.fn (F := Ideal) (m ((c.tc : Thread Cert.ListingIdeal.nD Cert.ListingIdeal.τ).loc Cert.ListingIdeal.main_arg0)) (m ((c.tc : Thread Cert.ListingIdeal.nD Cert.ListingIdeal.τ).loc Cert.ListingIdeal.main_arg1))) = (fun _ => 1#1)

def Pre_SortedIdeal (m : (ℓ : Loc Cert.SortedIdeal.nD Cert.SortedIdeal.τ Cert.SortedIdeal.sig) → Buf (Elt Ideal) ℓ) : Prop :=
  True

def Pre_SortedIdeal_kth_given [hPre_kth_given : Cert.Pre_kth_given.Facts] (m : (ℓ : Loc Cert.SortedIdeal.nD Cert.SortedIdeal.τ Cert.SortedIdeal.sig) → Buf (Elt Ideal) ℓ) : Prop :=
  ∀ c : Dev Cert.SortedIdeal.nD,
    (Cert.Pre_kth_given.fn (F := Ideal) (m ((c.tc : Thread Cert.SortedIdeal.nD Cert.SortedIdeal.τ).loc Cert.SortedIdeal.main_arg0)) (m ((c.tc : Thread Cert.SortedIdeal.nD Cert.SortedIdeal.τ).loc Cert.SortedIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_selected [hKernelIdeal : Cert.KernelIdeal.Facts] [hPre_selected : Cert.Pre_selected.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selected m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_selected [hReferenceIdeal : Cert.ReferenceIdeal.Facts] [hPre_selected : Cert.Pre_selected.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selected m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Softmax [hSoftmax : Cert.Softmax.Facts] : Prop :=
  ∀ (m : (ℓ : Loc Cert.Softmax.nD Cert.Softmax.τ Cert.Softmax.sig) → Buf (Elt Bits) ℓ) (g : Dev Cert.Softmax.nD → PrngReg), Pre_Softmax m →
    θ_run (Cert.Softmax.defs (F := Bits)) (onTc (τ := Cert.Softmax.τ) (Cert.Softmax.main (F := Bits))) ⟨m, fun _ => 0, g⟩ (fun r => (∀ c : Dev Cert.Softmax.nD,
      r.2.mem ((c.tc : Thread Cert.Softmax.nD Cert.Softmax.τ).loc Cert.Softmax.main_arg0) = m ((c.tc : Thread Cert.Softmax.nD Cert.Softmax.τ).loc Cert.Softmax.main_arg0))
      ∧ r.2.sem = fun _ => 0)

def quiescent_SoftmaxIdeal [hSoftmaxIdeal : Cert.SoftmaxIdeal.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0))
      ∧ r.2.sem = fun _ => 0)

def quiescent_MaskedIdeal [hMaskedIdeal : Cert.MaskedIdeal.Facts] : Prop :=
  ∀ (m : (ℓ : Loc Cert.MaskedIdeal.nD Cert.MaskedIdeal.τ Cert.MaskedIdeal.sig) → Buf (Elt Ideal) ℓ) (g : Dev Cert.MaskedIdeal.nD → PrngReg), Pre_MaskedIdeal m →
    θ_run (Cert.MaskedIdeal.defs (F := Ideal)) (onTc (τ := Cert.MaskedIdeal.τ) (Cert.MaskedIdeal.main (F := Ideal))) ⟨m, fun _ => 0, g⟩ (fun r => (∀ c : Dev Cert.MaskedIdeal.nD,
      r.2.mem ((c.tc : Thread Cert.MaskedIdeal.nD Cert.MaskedIdeal.τ).loc Cert.MaskedIdeal.main_arg0) = m ((c.tc : Thread Cert.MaskedIdeal.nD Cert.MaskedIdeal.τ).loc Cert.MaskedIdeal.main_arg0))
      ∧ r.2.sem = fun _ => 0)

def quiescent_Threshold [hThreshold : Cert.Threshold.Facts] : Prop :=
  ∀ (m : (ℓ : Loc Cert.Threshold.nD Cert.Threshold.τ Cert.Threshold.sig) → Buf (Elt Bits) ℓ) (g : Dev Cert.Threshold.nD → PrngReg), Pre_Threshold m →
    θ_run (Cert.Threshold.defs (F := Bits)) (onTc (τ := Cert.Threshold.τ) (Cert.Threshold.main (F := Bits))) ⟨m, fun _ => 0, g⟩ (fun r => (∀ c : Dev Cert.Threshold.nD,
      r.2.mem ((c.tc : Thread Cert.Threshold.nD Cert.Threshold.τ).loc Cert.Threshold.main_arg0) = m ((c.tc : Thread Cert.Threshold.nD Cert.Threshold.τ).loc Cert.Threshold.main_arg0))
      ∧ r.2.sem = fun _ => 0)

def quiescent_Compact [hCompact : Cert.Compact.Facts] : Prop :=
  ∀ (m : (ℓ : Loc Cert.Compact.nD Cert.Compact.τ Cert.Compact.sig) → Buf (Elt Bits) ℓ) (g : Dev Cert.Compact.nD → PrngReg), Pre_Compact m →
    θ_run (Cert.Compact.defs (F := Bits)) (onTc (τ := Cert.Compact.τ) (Cert.Compact.main (F := Bits))) ⟨m, fun _ => 0, g⟩ (fun r => (∀ c : Dev Cert.Compact.nD,
      r.2.mem ((c.tc : Thread Cert.Compact.nD Cert.Compact.τ).loc Cert.Compact.main_arg0) = m ((c.tc : Thread Cert.Compact.nD Cert.Compact.τ).loc Cert.Compact.main_arg0)
      ∧ r.2.mem ((c.tc : Thread Cert.Compact.nD Cert.Compact.τ).loc Cert.Compact.main_arg1) = m ((c.tc : Thread Cert.Compact.nD Cert.Compact.τ).loc Cert.Compact.main_arg1))
      ∧ r.2.sem = fun _ => 0)

def quiescent_Search [hSearch : Cert.Search.Facts] : Prop :=
  ∀ (m : (ℓ : Loc Cert.Search.nD Cert.Search.τ Cert.Search.sig) → Buf (Elt Bits) ℓ) (g : Dev Cert.Search.nD → PrngReg), Pre_Search m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0))
      ∧ r.2.sem = fun _ => 0)

def quiescent_SearchIdeal [hSearchIdeal : Cert.SearchIdeal.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0))
      ∧ r.2.sem = fun _ => 0)

def quiescent_SearchIdeal_pre_in_range [hSearchIdeal : Cert.SearchIdeal.Facts] [hPre_in_range : Cert.Pre_in_range.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal_in_range m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0))
      ∧ r.2.sem = fun _ => 0)

def quiescent_KthIdeal [hKthIdeal : Cert.KthIdeal.Facts] : Prop :=
  ∀ (m : (ℓ : Loc Cert.KthIdeal.nD Cert.KthIdeal.τ Cert.KthIdeal.sig) → Buf (Elt Ideal) ℓ) (g : Dev Cert.KthIdeal.nD → PrngReg), Pre_KthIdeal m →
    θ_run (Cert.KthIdeal.defs (F := Ideal)) (onTc (τ := Cert.KthIdeal.τ) (Cert.KthIdeal.main (F := Ideal))) ⟨m, fun _ => 0, g⟩ (fun r => (∀ c : Dev Cert.KthIdeal.nD,
      r.2.mem ((c.tc : Thread Cert.KthIdeal.nD Cert.KthIdeal.τ).loc Cert.KthIdeal.main_arg0) = m ((c.tc : Thread Cert.KthIdeal.nD Cert.KthIdeal.τ).loc Cert.KthIdeal.main_arg0))
      ∧ r.2.sem = fun _ => 0)

def quiescent_KthIdeal_pre_in_range [hKthIdeal : Cert.KthIdeal.Facts] [hPre_in_range : Cert.Pre_in_range.Facts] : Prop :=
  ∀ (m : (ℓ : Loc Cert.KthIdeal.nD Cert.KthIdeal.τ Cert.KthIdeal.sig) → Buf (Elt Ideal) ℓ) (g : Dev Cert.KthIdeal.nD → PrngReg), Pre_KthIdeal_in_range m →
    θ_run (Cert.KthIdeal.defs (F := Ideal)) (onTc (τ := Cert.KthIdeal.τ) (Cert.KthIdeal.main (F := Ideal))) ⟨m, fun _ => 0, g⟩ (fun r => (∀ c : Dev Cert.KthIdeal.nD,
      r.2.mem ((c.tc : Thread Cert.KthIdeal.nD Cert.KthIdeal.τ).loc Cert.KthIdeal.main_arg0) = m ((c.tc : Thread Cert.KthIdeal.nD Cert.KthIdeal.τ).loc Cert.KthIdeal.main_arg0))
      ∧ r.2.sem = fun _ => 0)

def quiescent_Listing [hListing : Cert.Listing.Facts] : Prop :=
  ∀ (m : (ℓ : Loc Cert.Listing.nD Cert.Listing.τ Cert.Listing.sig) → Buf (Elt Bits) ℓ) (g : Dev Cert.Listing.nD → PrngReg), Pre_Listing m →
    θ_run (Cert.Listing.defs (F := Bits)) (onTc (τ := Cert.Listing.τ) (Cert.Listing.main (F := Bits))) ⟨m, fun _ => 0, g⟩ (fun r => (∀ c : Dev Cert.Listing.nD,
      r.2.mem ((c.tc : Thread Cert.Listing.nD Cert.Listing.τ).loc Cert.Listing.main_arg0) = m ((c.tc : Thread Cert.Listing.nD Cert.Listing.τ).loc Cert.Listing.main_arg0)
      ∧ r.2.mem ((c.tc : Thread Cert.Listing.nD Cert.Listing.τ).loc Cert.Listing.main_arg1) = m ((c.tc : Thread Cert.Listing.nD Cert.Listing.τ).loc Cert.Listing.main_arg1))
      ∧ r.2.sem = fun _ => 0)

def quiescent_ListingIdeal [hListingIdeal : Cert.ListingIdeal.Facts] : Prop :=
  ∀ (m : (ℓ : Loc Cert.ListingIdeal.nD Cert.ListingIdeal.τ Cert.ListingIdeal.sig) → Buf (Elt Ideal) ℓ) (g : Dev Cert.ListingIdeal.nD → PrngReg), Pre_ListingIdeal m →
    θ_run (Cert.ListingIdeal.defs (F := Ideal)) (onTc (τ := Cert.ListingIdeal.τ) (Cert.ListingIdeal.main (F := Ideal))) ⟨m, fun _ => 0, g⟩ (fun r => (∀ c : Dev Cert.ListingIdeal.nD,
      r.2.mem ((c.tc : Thread Cert.ListingIdeal.nD Cert.ListingIdeal.τ).loc Cert.ListingIdeal.main_arg0) = m ((c.tc : Thread Cert.ListingIdeal.nD Cert.ListingIdeal.τ).loc Cert.ListingIdeal.main_arg0)
      ∧ r.2.mem ((c.tc : Thread Cert.ListingIdeal.nD Cert.ListingIdeal.τ).loc Cert.ListingIdeal.main_arg1) = m ((c.tc : Thread Cert.ListingIdeal.nD Cert.ListingIdeal.τ).loc Cert.ListingIdeal.main_arg1))
      ∧ r.2.sem = fun _ => 0)

def quiescent_ListingIdeal_pre_kth_given [hListingIdeal : Cert.ListingIdeal.Facts] [hPre_kth_given : Cert.Pre_kth_given.Facts] : Prop :=
  ∀ (m : (ℓ : Loc Cert.ListingIdeal.nD Cert.ListingIdeal.τ Cert.ListingIdeal.sig) → Buf (Elt Ideal) ℓ) (g : Dev Cert.ListingIdeal.nD → PrngReg), Pre_ListingIdeal_kth_given m →
    θ_run (Cert.ListingIdeal.defs (F := Ideal)) (onTc (τ := Cert.ListingIdeal.τ) (Cert.ListingIdeal.main (F := Ideal))) ⟨m, fun _ => 0, g⟩ (fun r => (∀ c : Dev Cert.ListingIdeal.nD,
      r.2.mem ((c.tc : Thread Cert.ListingIdeal.nD Cert.ListingIdeal.τ).loc Cert.ListingIdeal.main_arg0) = m ((c.tc : Thread Cert.ListingIdeal.nD Cert.ListingIdeal.τ).loc Cert.ListingIdeal.main_arg0)
      ∧ r.2.mem ((c.tc : Thread Cert.ListingIdeal.nD Cert.ListingIdeal.τ).loc Cert.ListingIdeal.main_arg1) = m ((c.tc : Thread Cert.ListingIdeal.nD Cert.ListingIdeal.τ).loc Cert.ListingIdeal.main_arg1))
      ∧ r.2.sem = fun _ => 0)

def quiescent_SortedIdeal [hSortedIdeal : Cert.SortedIdeal.Facts] : Prop :=
  ∀ (m : (ℓ : Loc Cert.SortedIdeal.nD Cert.SortedIdeal.τ Cert.SortedIdeal.sig) → Buf (Elt Ideal) ℓ) (g : Dev Cert.SortedIdeal.nD → PrngReg), Pre_SortedIdeal m →
    θ_run (Cert.SortedIdeal.defs (F := Ideal)) (onTc (τ := Cert.SortedIdeal.τ) (Cert.SortedIdeal.main (F := Ideal))) ⟨m, fun _ => 0, g⟩ (fun r => (∀ c : Dev Cert.SortedIdeal.nD,
      r.2.mem ((c.tc : Thread Cert.SortedIdeal.nD Cert.SortedIdeal.τ).loc Cert.SortedIdeal.main_arg0) = m ((c.tc : Thread Cert.SortedIdeal.nD Cert.SortedIdeal.τ).loc Cert.SortedIdeal.main_arg0)
      ∧ r.2.mem ((c.tc : Thread Cert.SortedIdeal.nD Cert.SortedIdeal.τ).loc Cert.SortedIdeal.main_arg1) = m ((c.tc : Thread Cert.SortedIdeal.nD Cert.SortedIdeal.τ).loc Cert.SortedIdeal.main_arg1))
      ∧ r.2.sem = fun _ => 0)

def quiescent_SortedIdeal_pre_kth_given [hSortedIdeal : Cert.SortedIdeal.Facts] [hPre_kth_given : Cert.Pre_kth_given.Facts] : Prop :=
  ∀ (m : (ℓ : Loc Cert.SortedIdeal.nD Cert.SortedIdeal.τ Cert.SortedIdeal.sig) → Buf (Elt Ideal) ℓ) (g : Dev Cert.SortedIdeal.nD → PrngReg), Pre_SortedIdeal_kth_given m →
    θ_run (Cert.SortedIdeal.defs (F := Ideal)) (onTc (τ := Cert.SortedIdeal.τ) (Cert.SortedIdeal.main (F := Ideal))) ⟨m, fun _ => 0, g⟩ (fun r => (∀ c : Dev Cert.SortedIdeal.nD,
      r.2.mem ((c.tc : Thread Cert.SortedIdeal.nD Cert.SortedIdeal.τ).loc Cert.SortedIdeal.main_arg0) = m ((c.tc : Thread Cert.SortedIdeal.nD Cert.SortedIdeal.τ).loc Cert.SortedIdeal.main_arg0)
      ∧ r.2.mem ((c.tc : Thread Cert.SortedIdeal.nD Cert.SortedIdeal.τ).loc Cert.SortedIdeal.main_arg1) = m ((c.tc : Thread Cert.SortedIdeal.nD Cert.SortedIdeal.τ).loc Cert.SortedIdeal.main_arg1))
      ∧ r.2.sem = fun _ => 0)

def algebraic_KernelIdeal_ReferenceIdeal_pre_selected [hKernelIdeal : Cert.KernelIdeal.Facts] [hReferenceIdeal : Cert.ReferenceIdeal.Facts] [hPre_selected : Cert.Pre_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selected m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Softmax_SoftmaxIdeal : Prop :=
  True

def algebraic_SoftmaxIdeal_MaskedIdeal [hSoftmaxIdeal : Cert.SoftmaxIdeal.Facts] [hMaskedIdeal : Cert.MaskedIdeal.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg)
    (m' : (ℓ : Loc Cert.MaskedIdeal.nD Cert.MaskedIdeal.τ Cert.MaskedIdeal.sig) → Buf (Elt Ideal) ℓ) (g' : Dev Cert.MaskedIdeal.nD → PrngReg), Pre_SoftmaxIdeal m →
    (∀ c : Dev Cert.SoftmaxIdeal.nD,
      m' ((c.tc : Thread Cert.MaskedIdeal.nD Cert.MaskedIdeal.τ).loc Cert.MaskedIdeal.main_arg0) = m ((c.tc : Thread Cert.SoftmaxIdeal.nD Cert.SoftmaxIdeal.τ).loc Cert.SoftmaxIdeal.main_arg0)) →
    ∃ (v0 : (c : Dev Cert.SoftmaxIdeal.nD) → Buf (Elt Ideal) ((c.tc : Thread Cert.SoftmaxIdeal.nD Cert.SoftmaxIdeal.τ).loc Cert.SoftmaxIdeal.main_v2)),
      θ_run (Cert.SoftmaxIdeal.defs (F := Ideal)) (onTc (τ := Cert.SoftmaxIdeal.τ) (Cert.SoftmaxIdeal.main (F := Ideal))) ⟨m, fun _ => 0, g⟩ (fun r => ∀ c : Dev Cert.SoftmaxIdeal.nD,
          r.2.mem ((c.tc : Thread Cert.SoftmaxIdeal.nD Cert.SoftmaxIdeal.τ).loc Cert.SoftmaxIdeal.main_v2) = v0 c
          ∧ r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0))
      ∧ θ_run (Cert.MaskedIdeal.defs (F := Ideal)) (onTc (τ := Cert.MaskedIdeal.τ) (Cert.MaskedIdeal.main (F := Ideal))) ⟨m', fun _ => 0, g'⟩ (fun r => ∀ c : Dev Cert.MaskedIdeal.nD,
          r.2.mem ((c.tc : Thread Cert.MaskedIdeal.nD Cert.MaskedIdeal.τ).loc Cert.MaskedIdeal.main_v15) = v0 c
          ∧ r.2.mem ((c.tc : Thread Cert.MaskedIdeal.nD Cert.MaskedIdeal.τ).loc Cert.MaskedIdeal.main_arg0) = m' ((c.tc : Thread Cert.MaskedIdeal.nD Cert.MaskedIdeal.τ).loc Cert.MaskedIdeal.main_arg0))

def preserves_Search_SearchIdeal : Prop :=
  True

def algebraic_SearchIdeal_KthIdeal_pre_in_range [hSearchIdeal : Cert.SearchIdeal.Facts] [hKthIdeal : Cert.KthIdeal.Facts] [hPre_in_range : Cert.Pre_in_range.Facts] : Prop :=
  ∀ (m : (ℓ : Loc Cert.SearchIdeal.nD Cert.SearchIdeal.τ Cert.SearchIdeal.sig) → Buf (Elt Ideal) ℓ) (g : Dev Cert.SearchIdeal.nD → PrngReg)
    (m' : (ℓ : Loc Cert.KthIdeal.nD Cert.KthIdeal.τ Cert.KthIdeal.sig) → Buf (Elt Ideal) ℓ) (g' : Dev Cert.KthIdeal.nD → PrngReg), Pre_SearchIdeal_in_range m →
    (∀ c : Dev Cert.SearchIdeal.nD,
      m' ((c.tc : Thread Cert.KthIdeal.nD Cert.KthIdeal.τ).loc Cert.KthIdeal.main_arg0) = m ((c.tc : Thread Cert.SearchIdeal.nD Cert.SearchIdeal.τ).loc Cert.SearchIdeal.main_arg0)) →
    ∃ (v0 : (c : Dev Cert.SearchIdeal.nD) → Buf (Elt Ideal) ((c.tc : Thread Cert.SearchIdeal.nD Cert.SearchIdeal.τ).loc Cert.SearchIdeal.main_v0)),
      θ_run (Cert.SearchIdeal.defs (F := Ideal)) (onTc (τ := Cert.SearchIdeal.τ) (Cert.SearchIdeal.main (F := Ideal))) ⟨m, fun _ => 0, g⟩ (fun r => ∀ c : Dev Cert.SearchIdeal.nD,
          r.2.mem ((c.tc : Thread Cert.SearchIdeal.nD Cert.SearchIdeal.τ).loc Cert.SearchIdeal.main_v0) = v0 c
          ∧ r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0))
      ∧ θ_run (Cert.KthIdeal.defs (F := Ideal)) (onTc (τ := Cert.KthIdeal.τ) (Cert.KthIdeal.main (F := Ideal))) ⟨m', fun _ => 0, g'⟩ (fun r => ∀ c : Dev Cert.KthIdeal.nD,
          r.2.mem ((c.tc : Thread Cert.KthIdeal.nD Cert.KthIdeal.τ).loc Cert.KthIdeal.main_v4) = v0 c
          ∧ r.2.mem ((c.tc : Thread Cert.KthIdeal.nD Cert.KthIdeal.τ).loc Cert.KthIdeal.main_arg0) = m' ((c.tc : Thread Cert.KthIdeal.nD Cert.KthIdeal.τ).loc Cert.KthIdeal.main_arg0))

def preserves_Listing_ListingIdeal : Prop :=
  True

def algebraic_ListingIdeal_SortedIdeal_pre_kth_given [hListingIdeal : Cert.ListingIdeal.Facts] [hSortedIdeal : Cert.SortedIdeal.Facts] [hPre_kth_given : Cert.Pre_kth_given.Facts] : Prop :=
  ∀ (m : (ℓ : Loc Cert.ListingIdeal.nD Cert.ListingIdeal.τ Cert.ListingIdeal.sig) → Buf (Elt Ideal) ℓ) (g : Dev Cert.ListingIdeal.nD → PrngReg)
    (m' : (ℓ : Loc Cert.SortedIdeal.nD Cert.SortedIdeal.τ Cert.SortedIdeal.sig) → Buf (Elt Ideal) ℓ) (g' : Dev Cert.SortedIdeal.nD → PrngReg), Pre_ListingIdeal_kth_given m →
    (∀ c : Dev Cert.ListingIdeal.nD,
      m' ((c.tc : Thread Cert.SortedIdeal.nD Cert.SortedIdeal.τ).loc Cert.SortedIdeal.main_arg0) = m ((c.tc : Thread Cert.ListingIdeal.nD Cert.ListingIdeal.τ).loc Cert.ListingIdeal.main_arg0)
      ∧ m' ((c.tc : Thread Cert.SortedIdeal.nD Cert.SortedIdeal.τ).loc Cert.SortedIdeal.main_arg1) = m ((c.tc : Thread Cert.ListingIdeal.nD Cert.ListingIdeal.τ).loc Cert.ListingIdeal.main_arg1)) →
    ∃ (v0 : (c : Dev Cert.ListingIdeal.nD) → Buf (Elt Ideal) ((c.tc : Thread Cert.ListingIdeal.nD Cert.ListingIdeal.τ).loc Cert.ListingIdeal.main_v0_0)) (v1 : (c : Dev Cert.ListingIdeal.nD) → Buf (Elt Ideal) ((c.tc : Thread Cert.ListingIdeal.nD Cert.ListingIdeal.τ).loc Cert.ListingIdeal.main_v0_1)),
      θ_run (Cert.ListingIdeal.defs (F := Ideal)) (onTc (τ := Cert.ListingIdeal.τ) (Cert.ListingIdeal.main (F := Ideal))) ⟨m, fun _ => 0, g⟩ (fun r => ∀ c : Dev Cert.ListingIdeal.nD,
          r.2.mem ((c.tc : Thread Cert.ListingIdeal.nD Cert.ListingIdeal.τ).loc Cert.ListingIdeal.main_v0_0) = v0 c
          ∧ r.2.mem ((c.tc : Thread Cert.ListingIdeal.nD Cert.ListingIdeal.τ).loc Cert.ListingIdeal.main_v0_1) = v1 c
          ∧ r.2.mem ((c.tc : Thread Cert.ListingIdeal.nD Cert.ListingIdeal.τ).loc Cert.ListingIdeal.main_arg0) = m ((c.tc : Thread Cert.ListingIdeal.nD Cert.ListingIdeal.τ).loc Cert.ListingIdeal.main_arg0)
          ∧ r.2.mem ((c.tc : Thread Cert.ListingIdeal.nD Cert.ListingIdeal.τ).loc Cert.ListingIdeal.main_arg1) = m ((c.tc : Thread Cert.ListingIdeal.nD Cert.ListingIdeal.τ).loc Cert.ListingIdeal.main_arg1))
      ∧ θ_run (Cert.SortedIdeal.defs (F := Ideal)) (onTc (τ := Cert.SortedIdeal.τ) (Cert.SortedIdeal.main (F := Ideal))) ⟨m', fun _ => 0, g'⟩ (fun r => ∀ c : Dev Cert.SortedIdeal.nD,
          r.2.mem ((c.tc : Thread Cert.SortedIdeal.nD Cert.SortedIdeal.τ).loc Cert.SortedIdeal.main_v3) = v0 c
          ∧ r.2.mem ((c.tc : Thread Cert.SortedIdeal.nD Cert.SortedIdeal.τ).loc Cert.SortedIdeal.main_v6) = v1 c
          ∧ r.2.mem ((c.tc : Thread Cert.SortedIdeal.nD Cert.SortedIdeal.τ).loc Cert.SortedIdeal.main_arg0) = m' ((c.tc : Thread Cert.SortedIdeal.nD Cert.SortedIdeal.τ).loc Cert.SortedIdeal.main_arg0)
          ∧ r.2.mem ((c.tc : Thread Cert.SortedIdeal.nD Cert.SortedIdeal.τ).loc Cert.SortedIdeal.main_arg1) = m' ((c.tc : Thread Cert.SortedIdeal.nD Cert.SortedIdeal.τ).loc Cert.SortedIdeal.main_arg1))

def Claim : Prop :=
  ∃ (hKernelIdeal : Cert.KernelIdeal.Facts) (hReferenceIdeal : Cert.ReferenceIdeal.Facts) (hSoftmax : Cert.Softmax.Facts) (hSoftmaxIdeal : Cert.SoftmaxIdeal.Facts) (hMaskedIdeal : Cert.MaskedIdeal.Facts) (hThreshold : Cert.Threshold.Facts) (hCompact : Cert.Compact.Facts) (hSearch : Cert.Search.Facts) (hSearchIdeal : Cert.SearchIdeal.Facts) (hKthIdeal : Cert.KthIdeal.Facts) (hListing : Cert.Listing.Facts) (hListingIdeal : Cert.ListingIdeal.Facts) (hSortedIdeal : Cert.SortedIdeal.Facts) (hPre_selected : Cert.Pre_selected.Facts) (hPre_in_range : Cert.Pre_in_range.Facts) (hPre_kth_given : Cert.Pre_kth_given.Facts),
    quiescent_KernelIdeal (hKernelIdeal := hKernelIdeal)
    ∧ quiescent_KernelIdeal_pre_selected (hKernelIdeal := hKernelIdeal) (hPre_selected := hPre_selected)
    ∧ quiescent_ReferenceIdeal (hReferenceIdeal := hReferenceIdeal)
    ∧ quiescent_ReferenceIdeal_pre_selected (hReferenceIdeal := hReferenceIdeal) (hPre_selected := hPre_selected)
    ∧ quiescent_Softmax (hSoftmax := hSoftmax)
    ∧ quiescent_SoftmaxIdeal (hSoftmaxIdeal := hSoftmaxIdeal)
    ∧ quiescent_MaskedIdeal (hMaskedIdeal := hMaskedIdeal)
    ∧ quiescent_Threshold (hThreshold := hThreshold)
    ∧ quiescent_Compact (hCompact := hCompact)
    ∧ quiescent_Search (hSearch := hSearch)
    ∧ quiescent_SearchIdeal (hSearchIdeal := hSearchIdeal)
    ∧ quiescent_SearchIdeal_pre_in_range (hSearchIdeal := hSearchIdeal) (hPre_in_range := hPre_in_range)
    ∧ quiescent_KthIdeal (hKthIdeal := hKthIdeal)
    ∧ quiescent_KthIdeal_pre_in_range (hKthIdeal := hKthIdeal) (hPre_in_range := hPre_in_range)
    ∧ quiescent_Listing (hListing := hListing)
    ∧ quiescent_ListingIdeal (hListingIdeal := hListingIdeal)
    ∧ quiescent_ListingIdeal_pre_kth_given (hListingIdeal := hListingIdeal) (hPre_kth_given := hPre_kth_given)
    ∧ quiescent_SortedIdeal (hSortedIdeal := hSortedIdeal)
    ∧ quiescent_SortedIdeal_pre_kth_given (hSortedIdeal := hSortedIdeal) (hPre_kth_given := hPre_kth_given)
    ∧ algebraic_KernelIdeal_ReferenceIdeal_pre_selected (hKernelIdeal := hKernelIdeal) (hReferenceIdeal := hReferenceIdeal) (hPre_selected := hPre_selected)
    ∧ preserves_Softmax_SoftmaxIdeal
    ∧ algebraic_SoftmaxIdeal_MaskedIdeal (hSoftmaxIdeal := hSoftmaxIdeal) (hMaskedIdeal := hMaskedIdeal)
    ∧ preserves_Search_SearchIdeal
    ∧ algebraic_SearchIdeal_KthIdeal_pre_in_range (hSearchIdeal := hSearchIdeal) (hKthIdeal := hKthIdeal) (hPre_in_range := hPre_in_range)
    ∧ preserves_Listing_ListingIdeal
    ∧ algebraic_ListingIdeal_SortedIdeal_pre_kth_given (hListingIdeal := hListingIdeal) (hSortedIdeal := hSortedIdeal) (hPre_kth_given := hPre_kth_given)
-- ==== Pre_in_range.lean ====
abbrev S80x160x128 : Shape := ⟨3, ![80, 160, 128]⟩
abbrev S_ : Shape := ⟨0, ![]⟩

class Facts : Prop where
  bcast_S_S80x160x128 : S_.BroadcastsInDim S80x160x128 (![] : Fin 0 → Fin S80x160x128.rank)
  reducesTo_S80x160x128_S_d0_1_2 : S80x160x128.ReducesTo [0, 1, 2] S_
  h_S_ : 0 < S_.numel

variable [Facts]

def fn {F : FTy → Type} [FloatOps F] (main_arg0 : IVec S80x160x128 32) : IVec S_ 1 :=
  let main_c : IVec S_ 32 := constantI S_ 32 0#32
  let main_v0 : IVec S80x160x128 32 := broadcastInDim S80x160x128 ![] bcast_S_S80x160x128 main_c
  let main_v1 : IVec S80x160x128 1 := cmpi .sge main_arg0 main_v0
  let main_c_0 : IVec S_ 32 := constantI S_ 32 1073741824#32
  let main_v2 : IVec S80x160x128 32 := broadcastInDim S80x160x128 ![] bcast_S_S80x160x128 main_c_0
  let main_v3 : IVec S80x160x128 1 := cmpi .slt main_arg0 main_v2
  let main_v4 : IVec S80x160x128 1 := andi main_v1 main_v3
  let main_c_1 : IVec S_ 1 := constantI S_ 1 1#1
  let main_v5 : IVec S_ 1 := (fun x v => Host.reduce IntOp.andi x v reducesTo_S80x160x128_S_d0_1_2 h_S_) main_v4 main_c_1
  main_v5
-- ==== Pre_kth_given.lean ====
abbrev S80x160x128 : Shape := ⟨3, ![80, 160, 128]⟩
abbrev S80x1x128 : Shape := ⟨3, ![80, 1, 128]⟩
abbrev S80x20480 : Shape := ⟨2, ![80, 20480]⟩
abbrev S80x500 : Shape := ⟨2, ![80, 500]⟩
abbrev S80x1 : Shape := ⟨2, ![80, 1]⟩
abbrev S80 : Shape := ⟨1, ![80]⟩
abbrev S80x1x1 : Shape := ⟨3, ![80, 1, 1]⟩
abbrev S_ : Shape := ⟨0, ![]⟩

class Facts : Prop where
  shapeCasts_S80x160x128_S80x20480 : S80x160x128.ShapeCasts S80x20480
  sliceFits_S80x20480_S80x500 : S80x20480.Slices (fun _ => 0) S80x500
  slices_S80x500_S80x1_0_499 : S80x500.Slices ![0, 499] S80x1
  shapeCasts_S80x1_S80 : S80x1.ShapeCasts S80
  bcast_S80_S80x1x1_0 : S80.BroadcastsInDim S80x1x1 (![0] : Fin 1 → Fin S80x1x1.rank)
  bcast_S80x1x1_S80x1x128_0_1_2 : S80x1x1.BroadcastsInDim S80x1x128 (![0, 1, 2] : Fin 3 → Fin S80x1x128.rank)
  reducesTo_S80x1x128_S_d0_1_2 : S80x1x128.ReducesTo [0, 1, 2] S_
  h_S_ : 0 < S_.numel

variable [Facts]

def fn {F : FTy → Type} [FloatOps F] (main_arg0 : IVec S80x160x128 32) (main_arg1 : IVec S80x1x128 32) : IVec S_ 1 :=
  let main_v0 : IVec S80x20480 32 := shapeCast S80x20480 main_arg0 shapeCasts_S80x160x128_S80x20480
  let main_values : IVec S80x500 32 := (fun x => (Host.topK S80x500 1 (IntOp.cmpi .sgt) x sliceFits_S80x20480_S80x500).1) main_v0
  let main_indices : IVec S80x500 32 := (fun x => (Host.topK S80x500 1 (IntOp.cmpi .sgt) x sliceFits_S80x20480_S80x500).2) main_v0
  let main_v1 : IVec S80x1 32 := (extractStridedSlice S80x1 ![0, 499] · slices_S80x500_S80x1_0_499) main_values
  let main_v2 : IVec S80 32 := shapeCast S80 main_v1 shapeCasts_S80x1_S80
  let main_v3 : IVec S80x1x1 32 := broadcastInDim S80x1x1 ![0] bcast_S80_S80x1x1_0 main_v2
  let main_v4 : IVec S80x1x128 32 := broadcastInDim S80x1x128 ![0, 1, 2] bcast_S80x1x1_S80x1x128_0_1_2 main_v3
  let main_v5 : IVec S80x1x128 1 := cmpi .eq main_arg1 main_v4
  let main_c : IVec S_ 1 := constantI S_ 1 1#1
  let main_v6 : IVec S_ 1 := (fun x v => Host.reduce IntOp.andi x v reducesTo_S80x1x128_S_d0_1_2 h_S_) main_v5 main_c
  main_v6
-- ==== Pre_selected.lean ====
abbrev S80x512x1 : Shape := ⟨3, ![80, 512, 1]⟩
abbrev S20000x324 : Shape := ⟨2, ![20000, 324]⟩
abbrev S20000x1024 : Shape := ⟨2, ![20000, 1024]⟩
abbrev S20000x4 : Shape := ⟨2, ![20000, 4]⟩
abbrev S80x500x1 : Shape := ⟨3, ![80, 500, 1]⟩
abbrev S80x500 : Shape := ⟨2, ![80, 500]⟩
abbrev S_ : Shape := ⟨0, ![]⟩
abbrev S80x499 : Shape := ⟨2, ![80, 499]⟩

class Facts : Prop where
  slices_S80x512x1_S80x500x1_0_0_0 : S80x512x1.Slices ![0, 0, 0] S80x500x1
  shapeCasts_S80x500x1_S80x500 : S80x500x1.ShapeCasts S80x500
  bcast_S_S80x500 : S_.BroadcastsInDim S80x500 (![] : Fin 0 → Fin S80x500.rank)
  reducesTo_S80x500_S_d0_1 : S80x500.ReducesTo [0, 1] S_
  h_S_ : 0 < S_.numel
  slices_S80x500_S80x499_0_1 : S80x500.Slices ![0, 1] S80x499
  slices_S80x500_S80x499_0_0 : S80x500.Slices ![0, 0] S80x499
  reducesTo_S80x499_S_d0_1 : S80x499.ReducesTo [0, 1] S_

variable [Facts]

def fn {F : FTy → Type} [FloatOps F] (main_arg0 : FVec F S80x512x1 .f32) (main_arg1 : FVec F S80x512x1 .f32) (main_arg2 : FVec F S20000x324 .f32) (main_arg3 : FVec F S20000x1024 .f32) (main_arg4 : FVec F S20000x4 .f32) : IVec S_ 1 :=
  let main_v0 : FVec F S80x500x1 .f32 := (extractStridedSlice S80x500x1 ![0, 0, 0] · slices_S80x512x1_S80x500x1_0_0_0) main_arg0
  let main_v1 : FVec F S80x500 .f32 := shapeCast S80x500 main_v0 shapeCasts_S80x500x1_S80x500
  let main_v2 : FVec F S80x500x1 .f32 := (extractStridedSlice S80x500x1 ![0, 0, 0] · slices_S80x512x1_S80x500x1_0_0_0) main_arg1
  let main_v3 : FVec F S80x500 .f32 := shapeCast S80x500 main_v2 shapeCasts_S80x500x1_S80x500
  let main_cst : FVec F S_ .f32 := constant S_ .f32 0xFF800000#32
  let main_v4 : FVec F S80x500 .f32 := broadcastInDim S80x500 ![] bcast_S_S80x500 main_cst
  let main_v5 : IVec S80x500 1 := cmpf .oeq main_v1 main_v4
  let main_cst_0 : FVec F S_ .f32 := constant S_ .f32 0x00000000#32
  let main_v6 : FVec F S80x500 .f32 := broadcastInDim S80x500 ![] bcast_S_S80x500 main_cst_0
  let main_v7 : IVec S80x500 1 := cmpf .ogt main_v1 main_v6
  let main_cst_1 : FVec F S_ .f32 := constant S_ .f32 0x7F800000#32
  let main_v8 : FVec F S80x500 .f32 := broadcastInDim S80x500 ![] bcast_S_S80x500 main_cst_1
  let main_v9 : IVec S80x500 1 := cmpf .olt main_v1 main_v8
  let main_v10 : IVec S80x500 1 := andi main_v7 main_v9
  let main_v11 : IVec S80x500 1 := ori main_v5 main_v10
  let main_c : IVec S_ 1 := constantI S_ 1 1#1
  let main_v12 : IVec S_ 1 := (fun x v => Host.reduce IntOp.andi x v reducesTo_S80x500_S_d0_1 h_S_) main_v11 main_c
  let main_v13 : FVec F S80x499 .f32 := (extractStridedSlice S80x499 ![0, 1] · slices_S80x500_S80x499_0_1) main_v3
  let main_v14 : FVec F S80x499 .f32 := (extractStridedSlice S80x499 ![0, 0] · slices_S80x500_S80x499_0_0) main_v3
  let main_v15 : IVec S80x499 1 := cmpf .ogt main_v13 main_v14
  let main_c_2 : IVec S_ 1 := constantI S_ 1 1#1
  let main_v16 : IVec S_ 1 := (fun x v => Host.reduce IntOp.andi x v reducesTo_S80x499_S_d0_1 h_S_) main_v15 main_c_2
  let main_v17 : IVec S_ 1 := andi main_v12 main_v16
  main_v17
-- ==== KernelIdeal.lean ====
abbrev S80x512x1 : Shape := ⟨3, ![80, 512, 1]⟩
abbrev S20000x324 : Shape := ⟨2, ![20000, 324]⟩
abbrev S20000x1024 : Shape := ⟨2, ![20000, 1024]⟩
abbrev S20000x4 : Shape := ⟨2, ![20000, 4]⟩
abbrev S80x500x1 : Shape := ⟨3, ![80, 500, 1]⟩
abbrev S80x500 : Shape := ⟨2, ![80, 500]⟩
abbrev S80x1x500 : Shape := ⟨3, ![80, 1, 500]⟩
abbrev S20000x81x4 : Shape := ⟨3, ![20000, 81, 4]⟩
abbrev S80 : Shape := ⟨1, ![80]⟩
abbrev S_ : Shape := ⟨0, ![]⟩
abbrev S80x1 : Shape := ⟨2, ![80, 1]⟩
abbrev S80x500x2 : Shape := ⟨3, ![80, 500, 2]⟩
abbrev S80x500x4 : Shape := ⟨3, ![80, 500, 4]⟩
abbrev S80x4x500 : Shape := ⟨3, ![80, 4, 500]⟩
abbrev S1x1x500 : Shape := ⟨3, ![1, 1, 500]⟩
abbrev S1x4x500 : Shape := ⟨3, ![1, 4, 500]⟩
abbrev S1x500 : Shape := ⟨2, ![1, 500]⟩
abbrev S4x500 : Shape := ⟨2, ![4, 500]⟩
abbrev S500x1 : Shape := ⟨2, ![500, 1]⟩
abbrev S500x500 : Shape := ⟨2, ![500, 500]⟩
abbrev S1 : Shape := ⟨1, ![1]⟩
abbrev S1x1x1 : Shape := ⟨3, ![1, 1, 1]⟩
abbrev S40000 : Shape := ⟨1, ![40000]⟩
abbrev S40000x4 : Shape := ⟨2, ![40000, 4]⟩
abbrev S100 : Shape := ⟨1, ![100]⟩
abbrev S100x1 : Shape := ⟨2, ![100, 1]⟩
abbrev S100x4 : Shape := ⟨2, ![100, 4]⟩
abbrev S100x1024 : Shape := ⟨2, ![100, 1024]⟩
abbrev S100x1030 : Shape := ⟨2, ![100, 1030]⟩

abbrev nBuf : Space → Nat
  | .hbm => 113
  | .vmem => 12
  | .smem => 0
  | _ => 0

abbrev bufTy : (tb : Table) → Fin (tcTables nBuf tb) → BufTy
  | .hbm, ⟨0, _⟩ => ⟨S80x512x1, .f32⟩
  | .hbm, ⟨1, _⟩ => ⟨S80x512x1, .f32⟩
  | .hbm, ⟨2, _⟩ => ⟨S20000x324, .f32⟩
  | .hbm, ⟨3, _⟩ => ⟨S20000x1024, .f32⟩
  | .hbm, ⟨4, _⟩ => ⟨S20000x4, .f32⟩
  | .hbm, ⟨5, _⟩ => ⟨S80x500x1, .f32⟩
  | .hbm, ⟨6, _⟩ => ⟨S80x500, .f32⟩
  | .hbm, ⟨7, _⟩ => ⟨S80x500x1, .f32⟩
  | .hbm, ⟨8, _⟩ => ⟨S80x500, .f32⟩
  | .hbm, ⟨9, _⟩ => ⟨S80x1x500, .f32⟩
  | .hbm, ⟨10, _⟩ => ⟨S80x500x1, .f32⟩
  | .hbm, ⟨11, _⟩ => ⟨S80x500, .f32⟩
  | .hbm, ⟨12, _⟩ => ⟨S80x500, .i32⟩
  | .hbm, ⟨13, _⟩ => ⟨S20000x81x4, .f32⟩
  | .hbm, ⟨14, _⟩ => ⟨S80, .i32⟩
  | .hbm, ⟨15, _⟩ => ⟨S_, .i32⟩
  | .hbm, ⟨16, _⟩ => ⟨S80, .i32⟩
  | .hbm, ⟨17, _⟩ => ⟨S80, .i32⟩
  | .hbm, ⟨18, _⟩ => ⟨S80x1, .i32⟩
  | .hbm, ⟨19, _⟩ => ⟨S_, .i32⟩
  | .hbm, ⟨20, _⟩ => ⟨S80x500, .i32⟩
  | .hbm, ⟨21, _⟩ => ⟨S80x500, .i1⟩
  | .hbm, ⟨22, _⟩ => ⟨S_, .i32⟩
  | .hbm, ⟨23, _⟩ => ⟨S80x500, .i32⟩
  | .hbm, ⟨24, _⟩ => ⟨S80x500, .i32⟩
  | .hbm, ⟨25, _⟩ => ⟨S80x500, .i32⟩
  | .hbm, ⟨26, _⟩ => ⟨S_, .i32⟩
  | .hbm, ⟨27, _⟩ => ⟨S80x1, .i32⟩
  | .hbm, ⟨28, _⟩ => ⟨S80x1, .i1⟩
  | .hbm, ⟨29, _⟩ => ⟨S_, .i32⟩
  | .hbm, ⟨30, _⟩ => ⟨S80x1, .i32⟩
  | .hbm, ⟨31, _⟩ => ⟨S80x1, .i32⟩
  | .hbm, ⟨32, _⟩ => ⟨S80x1, .i32⟩
  | .hbm, ⟨33, _⟩ => ⟨S80x500, .i32⟩
  | .hbm, ⟨34, _⟩ => ⟨S80x500x1, .i32⟩
  | .hbm, ⟨35, _⟩ => ⟨S80x500x1, .i32⟩
  | .hbm, ⟨36, _⟩ => ⟨S80x500x2, .i32⟩
  | .hbm, ⟨37, _⟩ => ⟨S80x500x4, .f32⟩
  | .hbm, ⟨38, _⟩ => ⟨S80x4x500, .f32⟩
  | .hbm, ⟨39, _⟩ => ⟨S_, .i32⟩
  | .hbm, ⟨40, _⟩ => ⟨S80x500, .i32⟩
  | .hbm, ⟨41, _⟩ => ⟨S80x500, .i1⟩
  | .hbm, ⟨42, _⟩ => ⟨S_, .i32⟩
  | .hbm, ⟨43, _⟩ => ⟨S80x500, .i32⟩
  | .hbm, ⟨44, _⟩ => ⟨S80x500, .i32⟩
  | .hbm, ⟨45, _⟩ => ⟨S80x500, .i32⟩
  | .hbm, ⟨46, _⟩ => ⟨S80x500x1, .i32⟩
  | .hbm, ⟨47, _⟩ => ⟨S80x500x4, .f32⟩
  | .hbm, ⟨48, _⟩ => ⟨S80x4x500, .f32⟩
  | .hbm, ⟨49, _⟩ => ⟨S80x1x500, .f32⟩
  | .hbm, ⟨50, _⟩ => ⟨S80x1x500, .f32⟩
  | .hbm, ⟨51, _⟩ => ⟨S80x4x500, .f32⟩
  | .hbm, ⟨52, _⟩ => ⟨S40000, .f32⟩
  | .hbm, ⟨53, _⟩ => ⟨S80x500x4, .f32⟩
  | .hbm, ⟨54, _⟩ => ⟨S40000x4, .f32⟩
  | .hbm, ⟨55, _⟩ => ⟨S40000, .i32⟩
  | .hbm, ⟨56, _⟩ => ⟨S80, .i32⟩
  | .hbm, ⟨57, _⟩ => ⟨S_, .i32⟩
  | .hbm, ⟨58, _⟩ => ⟨S80, .i32⟩
  | .hbm, ⟨59, _⟩ => ⟨S80, .i32⟩
  | .hbm, ⟨60, _⟩ => ⟨S80x1, .i32⟩
  | .hbm, ⟨61, _⟩ => ⟨S80x500, .i32⟩
  | .hbm, ⟨62, _⟩ => ⟨S40000, .i32⟩
  | .hbm, ⟨63, _⟩ => ⟨S100, .f32⟩
  | .hbm, ⟨64, _⟩ => ⟨S100, .i32⟩
  | .hbm, ⟨65, _⟩ => ⟨S_, .i32⟩
  | .hbm, ⟨66, _⟩ => ⟨S100, .i32⟩
  | .hbm, ⟨67, _⟩ => ⟨S100, .i1⟩
  | .hbm, ⟨68, _⟩ => ⟨S_, .i32⟩
  | .hbm, ⟨69, _⟩ => ⟨S100, .i32⟩
  | .hbm, ⟨70, _⟩ => ⟨S100, .i32⟩
  | .hbm, ⟨71, _⟩ => ⟨S100, .i32⟩
  | .hbm, ⟨72, _⟩ => ⟨S100x1, .i32⟩
  | .hbm, ⟨73, _⟩ => ⟨S100x4, .f32⟩
  | .hbm, ⟨74, _⟩ => ⟨S_, .i32⟩
  | .hbm, ⟨75, _⟩ => ⟨S100, .i32⟩
  | .hbm, ⟨76, _⟩ => ⟨S100, .i1⟩
  | .hbm, ⟨77, _⟩ => ⟨S_, .i32⟩
  | .hbm, ⟨78, _⟩ => ⟨S100, .i32⟩
  | .hbm, ⟨79, _⟩ => ⟨S100, .i32⟩
  | .hbm, ⟨80, _⟩ => ⟨S100, .i32⟩
  | .hbm, ⟨81, _⟩ => ⟨S100x1, .i32⟩
  | .hbm, ⟨82, _⟩ => ⟨S100, .i32⟩
  | .hbm, ⟨83, _⟩ => ⟨S100, .f32⟩
  | .hbm, ⟨84, _⟩ => ⟨S_, .i32⟩
  | .hbm, ⟨85, _⟩ => ⟨S100, .i32⟩
  | .hbm, ⟨86, _⟩ => ⟨S100, .i1⟩
  | .hbm, ⟨87, _⟩ => ⟨S_, .i32⟩
  | .hbm, ⟨88, _⟩ => ⟨S100, .i32⟩
  | .hbm, ⟨89, _⟩ => ⟨S100, .i32⟩
  | .hbm, ⟨90, _⟩ => ⟨S100, .i32⟩
  | .hbm, ⟨91, _⟩ => ⟨S100x1, .i32⟩
  | .hbm, ⟨92, _⟩ => ⟨S100, .i32⟩
  | .hbm, ⟨93, _⟩ => ⟨S_, .i32⟩
  | .hbm, ⟨94, _⟩ => ⟨S100, .i32⟩
  | .hbm, ⟨95, _⟩ => ⟨S100, .i1⟩
  | .hbm, ⟨96, _⟩ => ⟨S_, .i32⟩
  | .hbm, ⟨97, _⟩ => ⟨S100, .i32⟩
  | .hbm, ⟨98, _⟩ => ⟨S100, .i32⟩
  | .hbm, ⟨99, _⟩ => ⟨S100, .i32⟩
  | .hbm, ⟨100, _⟩ => ⟨S100x1, .i32⟩
  | .hbm, ⟨101, _⟩ => ⟨S100x1024, .f32⟩
  | .hbm, ⟨102, _⟩ => ⟨S100, .f32⟩
  | .hbm, ⟨103, _⟩ => ⟨S_, .f32⟩
  | .hbm, ⟨104, _⟩ => ⟨S100, .f32⟩
  | .hbm, ⟨105, _⟩ => ⟨S100, .i1⟩
  | .hbm, ⟨106, _⟩ => ⟨S_, .f32⟩
  | .hbm, ⟨107, _⟩ => ⟨S_, .f32⟩
  | .hbm, ⟨108, _⟩ => ⟨S100, .f32⟩
  | .hbm, ⟨109, _⟩ => ⟨S100, .f32⟩
  | .hbm, ⟨110, _⟩ => ⟨S100x1, .f32⟩
  | .hbm, ⟨111, _⟩ => ⟨S100x1, .f32⟩
  | .hbm, ⟨112, _⟩ => ⟨S100x1030, .f32⟩
  | .local _ .vmem, ⟨0, _⟩ => ⟨S1x1x500, .f32⟩
  | .local _ .vmem, ⟨1, _⟩ => ⟨S1x1x500, .f32⟩
  | .local _ .vmem, ⟨2, _⟩ => ⟨S1x1x500, .f32⟩
  | .local _ .vmem, ⟨3, _⟩ => ⟨S1x1x500, .f32⟩
  | .local _ .vmem, ⟨4, _⟩ => ⟨S1x4x500, .f32⟩
  | .local _ .vmem, ⟨5, _⟩ => ⟨S1x4x500, .f32⟩
  | .local _ .vmem, ⟨6, _⟩ => ⟨S1x4x500, .f32⟩
  | .local _ .vmem, ⟨7, _⟩ => ⟨S1x4x500, .f32⟩
  | .local _ .vmem, ⟨8, _⟩ => ⟨S1x1x500, .f32⟩
  | .local _ .vmem, ⟨9, _⟩ => ⟨S1x1x500, .f32⟩
  | .local _ .vmem, ⟨10, _⟩ => ⟨S1x4x500, .f32⟩
  | .local _ .vmem, ⟨11, _⟩ => ⟨S1x4x500, .f32⟩
  | _, _ => ⟨S80x512x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_values : Ref sig .tc := ⟨.hbm, 63, rfl⟩
abbrev main_indices : Ref sig .tc := ⟨.hbm, 64, rfl⟩
abbrev main_c_7 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_9 : Ref sig .tc := ⟨.hbm, 74, rfl⟩
abbrev main_v56 : Ref sig .tc := ⟨.hbm, 75, rfl⟩
abbrev main_v57 : Ref sig .tc := ⟨.hbm, 76, rfl⟩
abbrev main_c_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_11 : Ref sig .tc := ⟨.hbm, 84, rfl⟩
abbrev main_v64 : Ref sig .tc := ⟨.hbm, 85, rfl⟩
abbrev main_v65 : Ref sig .tc := ⟨.hbm, 86, rfl⟩
abbrev main_c_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_13 : Ref sig .tc := ⟨.hbm, 93, rfl⟩
abbrev main_v71 : Ref sig .tc := ⟨.hbm, 94, rfl⟩
abbrev main_v72 : Ref sig .tc := ⟨.hbm, 95, rfl⟩
abbrev main_c_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst : Ref sig .tc := ⟨.hbm, 103, rfl⟩
abbrev main_v79 : Ref sig .tc := ⟨.hbm, 104, rfl⟩
abbrev main_v80 : Ref sig .tc := ⟨.hbm, 105, rfl⟩
abbrev main_cst_15 : Ref sig .tc := ⟨.hbm, 106, rfl⟩
abbrev main_call0_v0 : Ref sig .tc := ⟨.hbm, 107, rfl⟩
abbrev main_call0_v1 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x500 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x500 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S80x512x1 : Shape := ⟨3, ![80, 512, 1]⟩
abbrev S20000x324 : Shape := ⟨2, ![20000, 324]⟩
abbrev S20000x1024 : Shape := ⟨2, ![20000, 1024]⟩
abbrev S20000x4 : Shape := ⟨2, ![20000, 4]⟩
abbrev S80x500x1 : Shape := ⟨3, ![80, 500, 1]⟩
abbrev S80x500 : Shape := ⟨2, ![80, 500]⟩
abbrev S20000x1 : Shape := ⟨2, ![20000, 1]⟩
abbrev S20000 : Shape := ⟨1, ![20000]⟩
abbrev S_ : Shape := ⟨0, ![]⟩
abbrev S20000x81x4 : Shape := ⟨3, ![20000, 81, 4]⟩
abbrev S20000x81x1 : Shape := ⟨3, ![20000, 81, 1]⟩
abbrev S20000x81 : Shape := ⟨2, ![20000, 81]⟩
abbrev S80 : Shape := ⟨1, ![80]⟩
abbrev S80x1 : Shape := ⟨2, ![80, 1]⟩
abbrev S80x500x2 : Shape := ⟨3, ![80, 500, 2]⟩
abbrev S80x500x4 : Shape := ⟨3, ![80, 500, 4]⟩
abbrev S80x1x500 : Shape := ⟨3, ![80, 1, 500]⟩
abbrev S80x500x500 : Shape := ⟨3, ![80, 500, 500]⟩
abbrev S500 : Shape := ⟨1, ![500]⟩
abbrev S1x500 : Shape := ⟨2, ![1, 500]⟩
abbrev S40000 : Shape := ⟨1, ![40000]⟩
abbrev S40000x4 : Shape := ⟨2, ![40000, 4]⟩
abbrev S100 : Shape := ⟨1, ![100]⟩
abbrev S100x1 : Shape := ⟨2, ![100, 1]⟩
abbrev S100x4 : Shape := ⟨2, ![100, 4]⟩
abbrev S100x1024 : Shape := ⟨2, ![100, 1024]⟩
abbrev S100x1030 : Shape := ⟨2, ![100, 1030]⟩

abbrev nBuf : Space → Nat
  | .hbm => 403
  | .vmem => 0
  | .smem => 0
  | _ => 0

abbrev hbmTy0_0 (i : Nat) : BufTy := match i % 128 with
  | 0 => ⟨S80x512x1, .f32⟩
  | 1 => ⟨S80x512x1, .f32⟩
  | 2 => ⟨S20000x324, .f32⟩
  | 3 => ⟨S20000x1024, .f32⟩
  | 4 => ⟨S20000x4, .f32⟩
  | 5 => ⟨S80x500x1, .f32⟩
  | 6 => ⟨S80x500, .f32⟩
  | 7 => ⟨S80x500x1, .f32⟩
  | 8 => ⟨S80x500, .f32⟩
  | 9 => ⟨S80x500, .i32⟩
  | 10 => ⟨S20000x1, .f32⟩
  | 11 => ⟨S20000, .f32⟩
  | 12 => ⟨S20000x1, .f32⟩
  | 13 => ⟨S20000, .f32⟩
  | 14 => ⟨S20000, .f32⟩
  | 15 => ⟨S_, .f32⟩
  | 16 => ⟨S20000, .f32⟩
  | 17 => ⟨S20000, .f32⟩
  | 18 => ⟨S20000x1, .f32⟩
  | 19 => ⟨S20000, .f32⟩
  | 20 => ⟨S20000x1, .f32⟩
  | 21 => ⟨S20000, .f32⟩
  | 22 => ⟨S20000, .f32⟩
  | 23 => ⟨S_, .f32⟩
  | 24 => ⟨S20000, .f32⟩
  | 25 => ⟨S20000, .f32⟩
  | 26 => ⟨S20000x1, .f32⟩
  | 27 => ⟨S20000, .f32⟩
  | 28 => ⟨S_, .f32⟩
  | 29 => ⟨S20000, .f32⟩
  | 30 => ⟨S20000, .f32⟩
  | 31 => ⟨S20000, .f32⟩
  | 32 => ⟨S20000x1, .f32⟩
  | 33 => ⟨S20000, .f32⟩
  | 34 => ⟨S_, .f32⟩
  | 35 => ⟨S20000, .f32⟩
  | 36 => ⟨S20000, .f32⟩
  | 37 => ⟨S20000, .f32⟩
  | 38 => ⟨S20000x81x4, .f32⟩
  | 39 => ⟨S20000x81x1, .f32⟩
  | 40 => ⟨S20000x81, .f32⟩
  | 41 => ⟨S_, .f32⟩
  | 42 => ⟨S20000x81, .f32⟩
  | 43 => ⟨S20000x81, .f32⟩
  | 44 => ⟨S20000x81x1, .f32⟩
  | 45 => ⟨S20000x81, .f32⟩
  | 46 => ⟨S_, .f32⟩
  | 47 => ⟨S20000x81, .f32⟩
  | 48 => ⟨S20000x81, .f32⟩
  | 49 => ⟨S20000x81x1, .f32⟩
  | 50 => ⟨S20000x81, .f32⟩
  | 51 => ⟨S_, .f32⟩
  | 52 => ⟨S20000x81, .f32⟩
  | 53 => ⟨S20000x81, .f32⟩
  | 54 => ⟨S_, .f32⟩
  | 55 => ⟨S20000x81, .f32⟩
  | 56 => ⟨S20000x81, .f32⟩
  | 57 => ⟨S20000x81x1, .f32⟩
  | 58 => ⟨S20000x81, .f32⟩
  | 59 => ⟨S_, .f32⟩
  | 60 => ⟨S20000x81, .f32⟩
  | 61 => ⟨S20000x81, .f32⟩
  | 62 => ⟨S_, .f32⟩
  | 63 => ⟨S20000x81, .f32⟩
  | 64 => ⟨S20000x81, .f32⟩
  | 65 => ⟨S20000x1, .f32⟩
  | 66 => ⟨S20000x81, .f32⟩
  | 67 => ⟨S20000x81, .f32⟩
  | 68 => ⟨S20000x1, .f32⟩
  | 69 => ⟨S20000x81, .f32⟩
  | 70 => ⟨S20000x81, .f32⟩
  | 71 => ⟨S20000x1, .f32⟩
  | 72 => ⟨S20000x81, .f32⟩
  | 73 => ⟨S20000x81, .f32⟩
  | 74 => ⟨S20000x1, .f32⟩
  | 75 => ⟨S20000x81, .f32⟩
  | 76 => ⟨S20000x81, .f32⟩
  | 77 => ⟨S20000x81, .f32⟩
  | 78 => ⟨S20000x1, .f32⟩
  | 79 => ⟨S20000x81, .f32⟩
  | 80 => ⟨S20000x81, .f32⟩
  | 81 => ⟨S20000x81, .f32⟩
  | 82 => ⟨S20000x1, .f32⟩
  | 83 => ⟨S20000x81, .f32⟩
  | 84 => ⟨S20000x81, .f32⟩
  | 85 => ⟨S_, .f32⟩
  | 86 => ⟨S20000x81, .f32⟩
  | 87 => ⟨S20000x81, .f32⟩
  | 88 => ⟨S20000x81, .f32⟩
  | 89 => ⟨S_, .f32⟩
  | 90 => ⟨S20000x81, .f32⟩
  | 91 => ⟨S20000x81, .f32⟩
  | 92 => ⟨S20000x81, .f32⟩
  | 93 => ⟨S_, .f32⟩
  | 94 => ⟨S20000x81, .f32⟩
  | 95 => ⟨S20000x81, .f32⟩
  | 96 => ⟨S20000x81, .f32⟩
  | 97 => ⟨S_, .f32⟩
  | 98 => ⟨S20000x81, .f32⟩
  | 99 => ⟨S20000x81, .f32⟩
  | 100 => ⟨S_, .f32⟩
  | 101 => ⟨S20000x81, .f32⟩
  | 102 => ⟨S20000x81, .f32⟩
  | 103 => ⟨S20000x81, .f32⟩
  | 104 => ⟨S_, .f32⟩
  | 105 => ⟨S20000x81, .f32⟩
  | 106 => ⟨S20000x81, .f32⟩
  | 107 => ⟨S20000x81x1, .f32⟩
  | 108 => ⟨S20000x81x1, .f32⟩
  | 109 => ⟨S20000x81x1, .f32⟩
  | 110 => ⟨S20000x81x1, .f32⟩
  | 111 => ⟨S20000x81x4, .f32⟩
  | 112 => ⟨S20000x81x1, .f32⟩
  | 113 => ⟨S20000x81, .f32⟩
  | 114 => ⟨S_, .f32⟩
  | 115 => ⟨S_, .f32⟩
  | 116 => ⟨S_, .f32⟩
  | 117 => ⟨S20000x81, .f32⟩
  | 118 => ⟨S20000x81, .f32⟩
  | 119 => ⟨S_, .f32⟩
  | 120 => ⟨S20000x81, .f32⟩
  | 121 => ⟨S20000x81, .f32⟩
  | 122 => ⟨S20000x81x1, .f32⟩
  | 123 => ⟨S20000x81, .f32⟩
  | 124 => ⟨S_, .f32⟩
  | 125 => ⟨S_, .f32⟩
  | 126 => ⟨S_, .f32⟩
  | 127 => ⟨S20000x81, .f32⟩
  | _ => ⟨S80x512x1, .f32⟩

abbrev hbmTy0_1 (i : Nat) : BufTy := match i % 128 with
  | 0 => ⟨S20000x81, .f32⟩
  | 1 => ⟨S_, .f32⟩
  | 2 => ⟨S20000x81, .f32⟩
  | 3 => ⟨S20000x81, .f32⟩
  | 4 => ⟨S20000x81x1, .f32⟩
  | 5 => ⟨S20000x81, .f32⟩
  | 6 => ⟨S_, .f32⟩
  | 7 => ⟨S_, .f32⟩
  | 8 => ⟨S_, .f32⟩
  | 9 => ⟨S20000x81, .f32⟩
  | 10 => ⟨S20000x81, .f32⟩
  | 11 => ⟨S_, .f32⟩
  | 12 => ⟨S20000x81, .f32⟩
  | 13 => ⟨S20000x81, .f32⟩
  | 14 => ⟨S20000x81x1, .f32⟩
  | 15 => ⟨S20000x81, .f32⟩
  | 16 => ⟨S_, .f32⟩
  | 17 => ⟨S_, .f32⟩
  | 18 => ⟨S_, .f32⟩
  | 19 => ⟨S20000x81, .f32⟩
  | 20 => ⟨S20000x81, .f32⟩
  | 21 => ⟨S_, .f32⟩
  | 22 => ⟨S20000x81, .f32⟩
  | 23 => ⟨S20000x81, .f32⟩
  | 24 => ⟨S20000x81x1, .f32⟩
  | 25 => ⟨S20000x81x1, .f32⟩
  | 26 => ⟨S20000x81x1, .f32⟩
  | 27 => ⟨S20000x81x1, .f32⟩
  | 28 => ⟨S20000x81x4, .f32⟩
  | 29 => ⟨S80, .i32⟩
  | 30 => ⟨S_, .i32⟩
  | 31 => ⟨S80, .i32⟩
  | 32 => ⟨S80, .i32⟩
  | 33 => ⟨S80x1, .i32⟩
  | 34 => ⟨S_, .i32⟩
  | 35 => ⟨S80x500, .i32⟩
  | 36 => ⟨S80x500, .i1⟩
  | 37 => ⟨S_, .i32⟩
  | 38 => ⟨S80x500, .i32⟩
  | 39 => ⟨S80x500, .i32⟩
  | 40 => ⟨S80x500, .i32⟩
  | 41 => ⟨S_, .i32⟩
  | 42 => ⟨S80x1, .i32⟩
  | 43 => ⟨S80x1, .i1⟩
  | 44 => ⟨S_, .i32⟩
  | 45 => ⟨S80x1, .i32⟩
  | 46 => ⟨S80x1, .i32⟩
  | 47 => ⟨S80x1, .i32⟩
  | 48 => ⟨S80x500, .i32⟩
  | 49 => ⟨S80x500x1, .i32⟩
  | 50 => ⟨S80x500x1, .i32⟩
  | 51 => ⟨S80x500x2, .i32⟩
  | 52 => ⟨S80x500x4, .f32⟩
  | 53 => ⟨S80, .i32⟩
  | 54 => ⟨S80x1, .i32⟩
  | 55 => ⟨S80x500, .f32⟩
  | 56 => ⟨S80x500, .i32⟩
  | 57 => ⟨S_, .i32⟩
  | 58 => ⟨S80x1, .i32⟩
  | 59 => ⟨S80x1, .i1⟩
  | 60 => ⟨S_, .i32⟩
  | 61 => ⟨S80x1, .i32⟩
  | 62 => ⟨S80x1, .i32⟩
  | 63 => ⟨S80x1, .i32⟩
  | 64 => ⟨S_, .i32⟩
  | 65 => ⟨S80x500, .i32⟩
  | 66 => ⟨S80x500, .i1⟩
  | 67 => ⟨S_, .i32⟩
  | 68 => ⟨S80x500, .i32⟩
  | 69 => ⟨S80x500, .i32⟩
  | 70 => ⟨S80x500, .i32⟩
  | 71 => ⟨S80x500, .i32⟩
  | 72 => ⟨S80x500x1, .i32⟩
  | 73 => ⟨S80x500x1, .i32⟩
  | 74 => ⟨S80x500x2, .i32⟩
  | 75 => ⟨S80x500x4, .f32⟩
  | 76 => ⟨S80x500x1, .f32⟩
  | 77 => ⟨S80x500, .f32⟩
  | 78 => ⟨S80x500x1, .f32⟩
  | 79 => ⟨S80x500, .f32⟩
  | 80 => ⟨S80x500, .f32⟩
  | 81 => ⟨S80x500x1, .f32⟩
  | 82 => ⟨S80x500, .f32⟩
  | 83 => ⟨S80x500x1, .f32⟩
  | 84 => ⟨S80x500, .f32⟩
  | 85 => ⟨S80x500, .f32⟩
  | 86 => ⟨S80x500, .f32⟩
  | 87 => ⟨S80x500x1, .f32⟩
  | 88 => ⟨S80x500, .f32⟩
  | 89 => ⟨S80x500x1, .f32⟩
  | 90 => ⟨S80x500x1, .f32⟩
  | 91 => ⟨S80x500, .f32⟩
  | 92 => ⟨S80x1x500, .f32⟩
  | 93 => ⟨S80x500x500, .f32⟩
  | 94 => ⟨S80x500x500, .f32⟩
  | 95 => ⟨S80x500x500, .f32⟩
  | 96 => ⟨S80x500x1, .f32⟩
  | 97 => ⟨S80x500, .f32⟩
  | 98 => ⟨S80x500x1, .f32⟩
  | 99 => ⟨S80x500x1, .f32⟩
  | 100 => ⟨S80x500, .f32⟩
  | 101 => ⟨S80x1x500, .f32⟩
  | 102 => ⟨S80x500x500, .f32⟩
  | 103 => ⟨S80x500x500, .f32⟩
  | 104 => ⟨S80x500x500, .f32⟩
  | 105 => ⟨S80x500x1, .f32⟩
  | 106 => ⟨S80x500, .f32⟩
  | 107 => ⟨S80x500x1, .f32⟩
  | 108 => ⟨S80x500x1, .f32⟩
  | 109 => ⟨S80x500, .f32⟩
  | 110 => ⟨S80x1x500, .f32⟩
  | 111 => ⟨S80x500x500, .f32⟩
  | 112 => ⟨S80x500x500, .f32⟩
  | 113 => ⟨S80x500x500, .f32⟩
  | 114 => ⟨S80x500x1, .f32⟩
  | 115 => ⟨S80x500, .f32⟩
  | 116 => ⟨S80x500x1, .f32⟩
  | 117 => ⟨S80x500x1, .f32⟩
  | 118 => ⟨S80x500, .f32⟩
  | 119 => ⟨S80x1x500, .f32⟩
  | 120 => ⟨S80x500x500, .f32⟩
  | 121 => ⟨S80x500x500, .f32⟩
  | 122 => ⟨S80x500x500, .f32⟩
  | 123 => ⟨S80x500x500, .f32⟩
  | 124 => ⟨S_, .f32⟩
  | 125 => ⟨S80x500x500, .f32⟩
  | 126 => ⟨S80x500x500, .f32⟩
  | 127 => ⟨S80x500x500, .f32⟩
  | _ => ⟨S80x512x1, .f32⟩

abbrev hbmTy0_2 (i : Nat) : BufTy := match i % 128 with
  | 0 => ⟨S_, .f32⟩
  | 1 => ⟨S80x500x500, .f32⟩
  | 2 => ⟨S80x500x500, .f32⟩
  | 3 => ⟨S80x500x500, .f32⟩
  | 4 => ⟨S80x500x1, .f32⟩
  | 5 => ⟨S80x1x500, .f32⟩
  | 6 => ⟨S80x500x500, .f32⟩
  | 7 => ⟨S80x500x500, .f32⟩
  | 8 => ⟨S80x500x500, .f32⟩
  | 9 => ⟨S80x500x500, .f32⟩
  | 10 => ⟨S_, .f32⟩
  | 11 => ⟨S80x500x500, .f32⟩
  | 12 => ⟨S80x500x500, .f32⟩
  | 13 => ⟨S80x500x500, .f32⟩
  | 14 => ⟨S80x500, .f32⟩
  | 15 => ⟨S_, .f32⟩
  | 16 => ⟨S80x500, .f32⟩
  | 17 => ⟨S80x500, .i1⟩
  | 18 => ⟨S_, .i32⟩
  | 19 => ⟨S_, .i32⟩
  | 20 => ⟨S80x500x500, .f32⟩
  | 21 => ⟨S_, .i32⟩
  | 22 => ⟨S_, .i32⟩
  | 23 => ⟨S80x500, .i1⟩
  | 24 => ⟨S_, .i32⟩
  | 25 => ⟨S_, .i1⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S80x1x500, .f32⟩
  | 37 => ⟨S80x500, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S80x1, .i1⟩
  | 46 => ⟨S_, .f32⟩
  | 47 => ⟨S80x500, .f32⟩
  | 48 => ⟨S80x500, .i1⟩
  | 49 => ⟨S500, .i32⟩
  | 50 => ⟨S_, .i32⟩
  | 51 => ⟨S500, .i32⟩
  | 52 => ⟨S500, .i1⟩
  | 53 => ⟨S1x500, .i1⟩
  | 54 => ⟨S80x500, .i1⟩
  | 55 => ⟨S80x500, .i1⟩
  | 56 => ⟨S80x500, .i1⟩
  | 57 => ⟨S80x500, .i1⟩
  | 58 => ⟨S80x500, .i1⟩
  | 59 => ⟨S80x500, .i1⟩
  | 60 => ⟨S_, .i32⟩
  | 61 => ⟨S_, .i32⟩
  | 62 => ⟨S_, .f32⟩
  | 63 => ⟨S_, .f32⟩
  | 64 => ⟨S80x500, .f32⟩
  | 65 => ⟨S80x500, .f32⟩
  | 66 => ⟨S_, .f32⟩
  | 67 => ⟨S80x500, .f32⟩
  | 68 => ⟨S_, .i32⟩
  | 69 => ⟨S80x1, .i32⟩
  | 70 => ⟨S80x1, .i1⟩
  | 71 => ⟨S_, .i32⟩
  | 72 => ⟨S80x1, .i32⟩
  | 73 => ⟨S80x1, .i32⟩
  | 74 => ⟨S80x1, .i32⟩
  | 75 => ⟨S_, .i32⟩
  | 76 => ⟨S80x500, .i32⟩
  | 77 => ⟨S80x500, .i1⟩
  | 78 => ⟨S_, .i32⟩
  | 79 => ⟨S80x500, .i32⟩
  | 80 => ⟨S80x500, .i32⟩
  | 81 => ⟨S80x500, .i32⟩
  | 82 => ⟨S80x500, .i32⟩
  | 83 => ⟨S80x500x1, .i32⟩
  | 84 => ⟨S80x500x1, .i32⟩
  | 85 => ⟨S80x500x2, .i32⟩
  | 86 => ⟨S80x500, .f32⟩
  | 87 => ⟨S80, .i32⟩
  | 88 => ⟨S_, .i32⟩
  | 89 => ⟨S80, .i32⟩
  | 90 => ⟨S80, .i32⟩
  | 91 => ⟨S80x1, .i32⟩
  | 92 => ⟨S80x500, .i32⟩
  | 93 => ⟨S40000, .f32⟩
  | 94 => ⟨S40000x4, .f32⟩
  | 95 => ⟨S40000, .i32⟩
  | 96 => ⟨S40000, .i32⟩
  | 97 => ⟨S100, .f32⟩
  | 98 => ⟨S100, .i32⟩
  | 99 => ⟨S_, .i32⟩
  | 100 => ⟨S100, .i32⟩
  | 101 => ⟨S100, .i1⟩
  | 102 => ⟨S_, .i32⟩
  | 103 => ⟨S100, .i32⟩
  | 104 => ⟨S100, .i32⟩
  | 105 => ⟨S100, .i32⟩
  | 106 => ⟨S100x1, .i32⟩
  | 107 => ⟨S100x4, .f32⟩
  | 108 => ⟨S_, .i32⟩
  | 109 => ⟨S100, .i32⟩
  | 110 => ⟨S100, .i1⟩
  | 111 => ⟨S_, .i32⟩
  | 112 => ⟨S100, .i32⟩
  | 113 => ⟨S100, .i32⟩
  | 114 => ⟨S100, .i32⟩
  | 115 => ⟨S100x1, .i32⟩
  | 116 => ⟨S100, .i32⟩
  | 117 => ⟨S100, .f32⟩
  | 118 => ⟨S_, .i32⟩
  | 119 => ⟨S100, .i32⟩
  | 120 => ⟨S100, .i1⟩
  | 121 => ⟨S_, .i32⟩
  | 122 => ⟨S100, .i32⟩
  | 123 => ⟨S100, .i32⟩
  | 124 => ⟨S100, .i32⟩
  | 125 => ⟨S100x1, .i32⟩
  | 126 => ⟨S100, .i32⟩
  | 127 => ⟨S_, .i32⟩
  | _ => ⟨S80x512x1, .f32⟩

abbrev hbmTy0_3 (i : Nat) : BufTy := match i % 128 with
  | 0 => ⟨S100, .i32⟩
  | 1 => ⟨S100, .i1⟩
  | 2 => ⟨S_, .i32⟩
  | 3 => ⟨S100, .i32⟩
  | 4 => ⟨S100, .i32⟩
  | 5 => ⟨S100, .i32⟩
  | 6 => ⟨S100x1, .i32⟩
  | 7 => ⟨S100x1024, .f32⟩
  | 8 => ⟨S100, .f32⟩
  | 9 => ⟨S_, .f32⟩
  | 10 => ⟨S100, .f32⟩
  | 11 => ⟨S100, .i1⟩
  | 12 => ⟨S_, .f32⟩
  | 13 => ⟨S_, .f32⟩
  | 14 => ⟨S100, .f32⟩
  | 15 => ⟨S100, .f32⟩
  | 16 => ⟨S100x1, .f32⟩
  | 17 => ⟨S100x1, .f32⟩
  | 18 => ⟨S100x1030, .f32⟩
  | _ => ⟨S80x512x1, .f32⟩

abbrev hbmTy (i : Nat) : BufTy := match i / 128 with
  | 0 => hbmTy0_0 i
  | 1 => hbmTy0_1 i
  | 2 => hbmTy0_2 i
  | 3 => hbmTy0_3 i
  | _ => ⟨S80x512x1, .f32⟩

abbrev bufTy : (tb : Table) → Fin (tcTables nBuf tb) → BufTy
  | .hbm, ⟨i, _⟩ => hbmTy i
  | _, _ => ⟨S80x512x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_9 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_10 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_11 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_cst_13 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_14 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_15 : Ref sig .tc := ⟨.hbm, 114, rfl⟩
abbrev main_cst_16 : Ref sig .tc := ⟨.hbm, 115, rfl⟩
abbrev main_call0_v0 : Ref sig .tc := ⟨.hbm, 116, rfl⟩
abbrev main_call0_v1 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_17 : Ref sig .tc := ⟨.hbm, 124, rfl⟩
abbrev main_cst_18 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_call1_v3 : Ref sig .tc := ⟨.hbm, 129, rfl⟩
abbrev main_call1_v4 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_19 : Ref sig .tc := ⟨.hbm, 134, rfl⟩
abbrev main_cst_20 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_21 : Ref sig .tc := ⟨.hbm, 144, rfl⟩
abbrev main_cst_22 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_c : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_c_23 : Ref sig .tc := ⟨.hbm, 162, rfl⟩
abbrev main_v112 : Ref sig .tc := ⟨.hbm, 163, rfl⟩
abbrev main_v113 : Ref sig .tc := ⟨.hbm, 164, rfl⟩
abbrev main_c_24 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_c_25 : Ref sig .tc := ⟨.hbm, 169, rfl⟩
abbrev main_v117 : Ref sig .tc := ⟨.hbm, 170, rfl⟩
abbrev main_v118 : Ref sig .tc := ⟨.hbm, 171, rfl⟩
abbrev main_c_26 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_values : Ref sig .tc := ⟨.hbm, 183, rfl⟩
abbrev main_indices : Ref sig .tc := ⟨.hbm, 184, rfl⟩
abbrev main_c_27 : Ref sig .tc := ⟨.hbm, 185, rfl⟩
abbrev main_v129 : Ref sig .tc := ⟨.hbm, 186, rfl⟩
abbrev main_v130 : Ref sig .tc := ⟨.hbm, 187, rfl⟩
abbrev main_c_28 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_c_29 : Ref sig .tc := ⟨.hbm, 192, rfl⟩
abbrev main_v134 : Ref sig .tc := ⟨.hbm, 193, rfl⟩
abbrev main_v135 : Ref sig .tc := ⟨.hbm, 194, rfl⟩
abbrev main_c_30 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_31 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_cst_32 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_cst_33 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_cst_34 : Ref sig .tc := ⟨.hbm, 271, rfl⟩
abbrev main_v208 : Ref sig .tc := ⟨.hbm, 272, rfl⟩
abbrev main_v209 : Ref sig .tc := ⟨.hbm, 273, rfl⟩
abbrev main_c_35 : Ref sig .tc := ⟨.hbm, 274, rfl⟩
abbrev main_c_36 : Ref sig .tc := ⟨.hbm, 275, rfl⟩
abbrev main_v210_0 : Ref sig .tc := ⟨.hbm, 276, rfl⟩
abbrev main_v210_1 : Ref sig .tc := ⟨.hbm, 277, rfl⟩
abbrev main_v210_2 : Ref sig .tc := ⟨.hbm, 278, rfl⟩
abbrev main_v210_3 : Ref sig .tc := ⟨.hbm, 279, rfl⟩
abbrev main_while0c_c_59 : Ref sig .tc := ⟨.hbm, 280, rfl⟩
abbrev main_while0c_v273 : Ref sig .tc := ⟨.hbm, 281, rfl⟩
abbrev main_while0b_c_59 : Ref sig .tc := ⟨.hbm, 282, rfl⟩
abbrev main_while0b_v273 : Ref sig .tc := ⟨.hbm, 283, rfl⟩
abbrev main_while0b_call4_c : Ref sig .tc := ⟨.hbm, 284, rfl⟩
abbrev main_while0b_call4_v0 : Ref sig .tc := ⟨.hbm, 285, rfl⟩
abbrev main_while0b_call4_v1 : Ref sig .tc := ⟨.hbm, 286, rfl⟩
abbrev main_while0b_call4_c_0 : Ref sig .tc := ⟨.hbm, 287, rfl⟩
abbrev main_while0b_call4_v2 : Ref sig .tc := ⟨.hbm, 288, rfl⟩
abbrev main_while0b_call4_v3 : Ref sig .tc := ⟨.hbm, 289, rfl⟩
abbrev main_while0b_call4_c_1 : Ref sig .tc := ⟨.hbm, 290, rfl⟩
abbrev main_while0b_call4_c_2 : Ref sig .tc := ⟨.hbm, 291, rfl⟩
abbrev main_while0b_call4_v4 : Ref sig .tc := ⟨.hbm, 292, rfl⟩
abbrev main_while0b_v274 : Ref sig .tc := ⟨.hbm, 293, rfl⟩
abbrev main_while0b_call5_c : Ref sig .tc := ⟨.hbm, 294, rfl⟩
abbrev main_while0b_call5_v0 : Ref sig .tc := ⟨.hbm, 295, rfl⟩
abbrev main_while0b_call5_v1 : Ref sig .tc := ⟨.hbm, 296, rfl⟩
abbrev main_while0b_call5_c_0 : Ref sig .tc := ⟨.hbm, 297, rfl⟩
abbrev main_while0b_call5_v2 : Ref sig .tc := ⟨.hbm, 298, rfl⟩
abbrev main_while0b_call5_v3 : Ref sig .tc := ⟨.hbm, 299, rfl⟩
abbrev main_while0b_call5_c_1 : Ref sig .tc := ⟨.hbm, 300, rfl⟩
abbrev main_while0b_v275 : Ref sig .tc := ⟨.hbm, 301, rfl⟩
abbrev main_while0b_cst_60 : Ref sig .tc := ⟨.hbm, 302, rfl⟩
abbrev main_while0b_v276 : Ref sig .tc := ⟨.hbm, 303, rfl⟩
abbrev main_while0b_v277 : Ref sig .tc := ⟨.hbm, 304, rfl⟩
abbrev main_while0b_v278 : Ref sig .tc := ⟨.hbm, 305, rfl⟩
abbrev main_while0b_v279 : Ref sig .tc := ⟨.hbm, 306, rfl⟩
abbrev main_while0b_v280 : Ref sig .tc := ⟨.hbm, 307, rfl⟩
abbrev main_while0b_v281 : Ref sig .tc := ⟨.hbm, 308, rfl⟩
abbrev main_while0b_v282 : Ref sig .tc := ⟨.hbm, 309, rfl⟩
abbrev main_while0b_v283 : Ref sig .tc := ⟨.hbm, 310, rfl⟩
abbrev main_while0b_v284 : Ref sig .tc := ⟨.hbm, 311, rfl⟩
abbrev main_while0b_v285 : Ref sig .tc := ⟨.hbm, 312, rfl⟩
abbrev main_while0b_v286 : Ref sig .tc := ⟨.hbm, 313, rfl⟩
abbrev main_while0b_v287 : Ref sig .tc := ⟨.hbm, 314, rfl⟩
abbrev main_while0b_v288 : Ref sig .tc := ⟨.hbm, 315, rfl⟩
abbrev main_while0b_c_61 : Ref sig .tc := ⟨.hbm, 316, rfl⟩
abbrev main_while0b_v289 : Ref sig .tc := ⟨.hbm, 317, rfl⟩
abbrev main_cst_37 : Ref sig .tc := ⟨.hbm, 318, rfl⟩
abbrev main_call6_v0 : Ref sig .tc := ⟨.hbm, 319, rfl⟩
abbrev main_call6_v1 : Ref sig .tc := ⟨.hbm, 320, rfl⟩
abbrev main_v211 : Ref sig .tc := ⟨.hbm, 321, rfl⟩
abbrev main_cst_38 : Ref sig .tc := ⟨.hbm, 322, rfl⟩
abbrev main_v212 : Ref sig .tc := ⟨.hbm, 323, rfl⟩
abbrev main_c_39 : Ref sig .tc := ⟨.hbm, 324, rfl⟩
abbrev main_v213 : Ref sig .tc := ⟨.hbm, 325, rfl⟩
abbrev main_v214 : Ref sig .tc := ⟨.hbm, 326, rfl⟩
abbrev main_c_40 : Ref sig .tc := ⟨.hbm, 327, rfl⟩
abbrev main_v215 : Ref sig .tc := ⟨.hbm, 328, rfl⟩
abbrev main_v216 : Ref sig .tc := ⟨.hbm, 329, rfl⟩
abbrev main_v217 : Ref sig .tc := ⟨.hbm, 330, rfl⟩
abbrev main_c_41 : Ref sig .tc := ⟨.hbm, 331, rfl⟩
abbrev main_v218 : Ref sig .tc := ⟨.hbm, 332, rfl⟩
abbrev main_v219 : Ref sig .tc := ⟨.hbm, 333, rfl⟩
abbrev main_c_42 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_c_43 : Ref sig .tc := ⟨.hbm, 344, rfl⟩
abbrev main_v229 : Ref sig .tc := ⟨.hbm, 345, rfl⟩
abbrev main_v230 : Ref sig .tc := ⟨.hbm, 346, rfl⟩
abbrev main_v231 : Ref sig .tc := ⟨.hbm, 347, rfl⟩
abbrev main_v232 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_values_44 : Ref sig .tc := ⟨.hbm, 353, rfl⟩
abbrev main_indices_45 : Ref sig .tc := ⟨.hbm, 354, rfl⟩
abbrev main_c_46 : Ref sig .tc := ⟨.hbm, 355, rfl⟩
abbrev main_v237 : Ref sig .tc := ⟨.hbm, 356, rfl⟩
abbrev main_v238 : Ref sig .tc := ⟨.hbm, 357, rfl⟩
abbrev main_c_47 : Ref sig .tc := ⟨.hbm, 358, rfl⟩
abbrev main_v239 : Ref sig .tc := ⟨.hbm, 359, rfl⟩
abbrev main_v240 : Ref sig .tc := ⟨.hbm, 360, rfl⟩
abbrev main_v241 : Ref sig .tc := ⟨.hbm, 361, rfl⟩
abbrev main_v242 : Ref sig .tc := ⟨.hbm, 362, rfl⟩
abbrev main_v243 : Ref sig .tc := ⟨.hbm, 363, rfl⟩
abbrev main_c_48 : Ref sig .tc := ⟨.hbm, 364, rfl⟩
abbrev main_v244 : Ref sig .tc := ⟨.hbm, 365, rfl⟩
abbrev main_v245 : Ref sig .tc := ⟨.hbm, 366, rfl⟩
abbrev main_c_49 : Ref sig .tc := ⟨.hbm, 367, rfl⟩
abbrev main_v246 : Ref sig .tc := ⟨.hbm, 368, rfl⟩
abbrev main_v247 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩
abbrev main_v251 : Ref sig .tc := ⟨.hbm, 373, rfl⟩
abbrev main_c_50 : Ref sig .tc := ⟨.hbm, 374, rfl⟩
abbrev main_v252 : Ref sig .tc := ⟨.hbm, 375, rfl⟩
abbrev main_v253 : Ref sig .tc := ⟨.hbm, 376, rfl⟩
abbrev main_c_51 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_c_52 : Ref sig .tc := ⟨.hbm, 383, rfl⟩
abbrev main_v259 : Ref sig .tc := ⟨.hbm, 384, rfl⟩
abbrev main_v260 : Ref sig .tc := ⟨.hbm, 385, rfl⟩
abbrev main_c_53 : Ref sig .tc := ⟨.hbm, 386, rfl⟩
abbrev main_v261 : Ref sig .tc := ⟨.hbm, 387, rfl⟩
abbrev main_v262 : Ref sig .tc := ⟨.hbm, 388, rfl⟩
abbrev main_v263 : Ref sig .tc := ⟨.hbm, 389, rfl⟩
abbrev main_v264 : Ref sig .tc := ⟨.hbm, 390, rfl⟩
abbrev main_v265 : Ref sig .tc := ⟨.hbm, 391, rfl⟩
abbrev main_v266 : Ref sig .tc := ⟨.hbm, 392, rfl⟩
abbrev main_cst_54 : Ref sig .tc := ⟨.hbm, 393, rfl⟩
abbrev main_v267 : Ref sig .tc := ⟨.hbm, 394, rfl⟩
abbrev main_v268 : Ref sig .tc := ⟨.hbm, 395, rfl⟩
abbrev main_cst_55 : Ref sig .tc := ⟨.hbm, 396, rfl⟩
abbrev main_call7_v0 : Ref sig .tc := ⟨.hbm, 397, rfl⟩
abbrev main_call7_v1 : Ref sig .tc := ⟨.hbm, 398, rfl⟩
abbrev main_v269 : Ref sig .tc := ⟨.hbm, 399, rfl⟩
abbrev main_v270 : Ref sig .tc := ⟨.hbm, 400, rfl⟩
abbrev main_v271 : Ref sig .tc := ⟨.hbm, 401, rfl⟩
abbrev main_v272 : Ref sig .tc := ⟨.hbm, 402, rfl⟩

abbrev nD : Nat := 1
abbrev τ : Topo := Topo.v7x

variable {F : FTy → Type} [FloatOps F]

abbrev main_while0_count : Scf.Loop 32 := ⟨0#32, 500#32, 1#32⟩
-- ==== Softmax.lean ====
abbrev S20000x81 : Shape := ⟨2, ![20000, 81]⟩
abbrev S2000x81 : Shape := ⟨2, ![2000, 81]⟩
abbrev S2000 : Shape := ⟨1, ![2000]⟩
abbrev S2000x1 : Shape := ⟨2, ![2000, 1]⟩
abbrev S81x20000 : Shape := ⟨2, ![81, 20000]⟩
abbrev S80x20000 : Shape := ⟨2, ![80, 20000]⟩

abbrev nBuf : Space → Nat
  | .hbm => 4
  | .vmem => 4
  | .smem => 0
  | _ => 0

abbrev bufTy : (tb : Table) → Fin (tcTables nBuf tb) → BufTy
  | .hbm, ⟨0, _⟩ => ⟨S20000x81, .f32⟩
  | .hbm, ⟨1, _⟩ => ⟨S20000x81, .f32⟩
  | .hbm, ⟨2, _⟩ => ⟨S81x20000, .f32⟩
  | .hbm, ⟨3, _⟩ => ⟨S80x20000, .f32⟩
  | .local _ .vmem, ⟨0, _⟩ => ⟨S2000x81, .f32⟩
  | .local _ .vmem, ⟨1, _⟩ => ⟨S2000x81, .f32⟩
  | .local _ .vmem, ⟨2, _⟩ => ⟨S2000x81, .f32⟩
  | .local _ .vmem, ⟨3, _⟩ => ⟨S2000x81, .f32⟩
  | _, _ => ⟨S20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== MaskedIdeal.lean ====
abbrev S20000x81 : Shape := ⟨2, ![20000, 81]⟩
abbrev S_ : Shape := ⟨0, ![]⟩
abbrev S20000 : Shape := ⟨1, ![20000]⟩
abbrev S20000x1 : Shape := ⟨2, ![20000, 1]⟩
abbrev S20000x80 : Shape := ⟨2, ![20000, 80]⟩
abbrev S80x20000 : Shape := ⟨2, ![80, 20000]⟩

abbrev nBuf : Space → Nat
  | .hbm => 24
  | .vmem => 0
  | .smem => 0
  | _ => 0

abbrev bufTy : (tb : Table) → Fin (tcTables nBuf tb) → BufTy
  | .hbm, ⟨0, _⟩ => ⟨S20000x81, .f32⟩
  | .hbm, ⟨1, _⟩ => ⟨S_, .f32⟩
  | .hbm, ⟨2, _⟩ => ⟨S20000, .f32⟩
  | .hbm, ⟨3, _⟩ => ⟨S_, .f32⟩
  | .hbm, ⟨4, _⟩ => ⟨S20000, .f32⟩
  | .hbm, ⟨5, _⟩ => ⟨S20000, .f32⟩
  | .hbm, ⟨6, _⟩ => ⟨S20000x1, .f32⟩
  | .hbm, ⟨7, _⟩ => ⟨S20000x81, .f32⟩
  | .hbm, ⟨8, _⟩ => ⟨S20000x81, .f32⟩
  | .hbm, ⟨9, _⟩ => ⟨S20000x81, .f32⟩
  | .hbm, ⟨10, _⟩ => ⟨S_, .f32⟩
  | .hbm, ⟨11, _⟩ => ⟨S20000, .f32⟩
  | .hbm, ⟨12, _⟩ => ⟨S20000x1, .f32⟩
  | .hbm, ⟨13, _⟩ => ⟨S20000x81, .f32⟩
  | .hbm, ⟨14, _⟩ => ⟨S20000x81, .f32⟩
  | .hbm, ⟨15, _⟩ => ⟨S20000x80, .f32⟩
  | .hbm, ⟨16, _⟩ => ⟨S80x20000, .f32⟩
  | .hbm, ⟨17, _⟩ => ⟨S_, .f32⟩
  | .hbm, ⟨18, _⟩ => ⟨S80x20000, .f32⟩
  | .hbm, ⟨19, _⟩ => ⟨S80x20000, .i1⟩
  | .hbm, ⟨20, _⟩ => ⟨S_, .f32⟩
  | .hbm, ⟨21, _⟩ => ⟨S_, .f32⟩
  | .hbm, ⟨22, _⟩ => ⟨S80x20000, .f32⟩
  | .hbm, ⟨23, _⟩ => ⟨S80x20000, .f32⟩
  | _, _ => ⟨S20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Threshold.lean ====
abbrev S80x160x128 : Shape := ⟨3, ![80, 160, 128]⟩
abbrev S80x1x128 : Shape := ⟨3, ![80, 1, 128]⟩
abbrev S10x160x128 : Shape := ⟨3, ![10, 160, 128]⟩
abbrev S10x1x128 : Shape := ⟨3, ![10, 1, 128]⟩
abbrev S10x1x1 : Shape := ⟨3, ![10, 1, 1]⟩
abbrev S10 : Shape := ⟨1, ![10]⟩

abbrev nBuf : Space → Nat
  | .hbm => 2
  | .vmem => 4
  | .smem => 0
  | _ => 0

abbrev bufTy : (tb : Table) → Fin (tcTables nBuf tb) → BufTy
  | .hbm, ⟨0, _⟩ => ⟨S80x160x128, .f32⟩
  | .hbm, ⟨1, _⟩ => ⟨S80x1x128, .i32⟩
  | .local _ .vmem, ⟨0, _⟩ => ⟨S10x160x128, .f32⟩
  | .local _ .vmem, ⟨1, _⟩ => ⟨S10x160x128, .f32⟩
  | .local _ .vmem, ⟨2, _⟩ => ⟨S10x1x128, .i32⟩
  | .local _ .vmem, ⟨3, _⟩ => ⟨S10x1x128, .i32⟩
  | _, _ => ⟨S80x160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32_4 : BitVec 32 := 0#32
  let c30_i32 : BitVec 32 := 30#32
  let v7 : BitVec 32 := Scalar.addi c0_i32_4 c30_i32
  let c1_i32 : BitVec 32 := 1#32
  ⟨c0_i32_4, v7, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Compact.lean ====
abbrev S80x160x128 : Shape := ⟨3, ![80, 160, 128]⟩
abbrev S80x1x128 : Shape := ⟨3, ![80, 1, 128]⟩
abbrev S80x512x1 : Shape := ⟨3, ![80, 512, 1]⟩
abbrev S1x160x128 : Shape := ⟨3, ![1, 160, 128]⟩
abbrev S1x1x128 : Shape := ⟨3, ![1, 1, 128]⟩
abbrev S1x512x1 : Shape := ⟨3, ![1, 512, 1]⟩
abbrev S160x128 : Shape := ⟨2, ![160, 128]⟩
abbrev S1x128 : Shape := ⟨2, ![1, 128]⟩
abbrev S1 : Shape := ⟨1, ![1]⟩
abbrev S1x1x1 : Shape := ⟨3, ![1, 1, 1]⟩
abbrev S128x128 : Shape := ⟨2, ![128, 128]⟩
abbrev S160x160 : Shape := ⟨2, ![160, 160]⟩
abbrev S160 : Shape := ⟨1, ![160]⟩
abbrev S160x1 : Shape := ⟨2, ![160, 1]⟩
abbrev S512x1 : Shape := ⟨2, ![512, 1]⟩
abbrev S1x512 : Shape := ⟨2, ![1, 512]⟩
abbrev S160x512 : Shape := ⟨2, ![160, 512]⟩
abbrev S160x1152 : Shape := ⟨2, ![160, 1152]⟩
abbrev S512x1152 : Shape := ⟨2, ![512, 1152]⟩
abbrev S512x128 : Shape := ⟨2, ![512, 128]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S80x160x128, .f32⟩
  | .hbm, ⟨1, _⟩ => ⟨S80x1x128, .i32⟩
  | .hbm, ⟨2, _⟩ => ⟨S80x512x1, .f32⟩
  | .hbm, ⟨3, _⟩ => ⟨S80x512x1, .f32⟩
  | .local _ .vmem, ⟨0, _⟩ => ⟨S1x160x128, .f32⟩
  | .local _ .vmem, ⟨1, _⟩ => ⟨S1x160x128, .f32⟩
  | .local _ .vmem, ⟨2, _⟩ => ⟨S1x1x128, .i32⟩
  | .local _ .vmem, ⟨3, _⟩ => ⟨S1x1x128, .i32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | _, _ => ⟨S80x160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Search.lean ====
abbrev S80x160x128 : Shape := ⟨3, ![80, 160, 128]⟩
abbrev S80x1x128 : Shape := ⟨3, ![80, 1, 128]⟩
abbrev S10x160x128 : Shape := ⟨3, ![10, 160, 128]⟩
abbrev S10x1x128 : Shape := ⟨3, ![10, 1, 128]⟩
abbrev S10x1x1 : Shape := ⟨3, ![10, 1, 1]⟩
abbrev S10 : Shape := ⟨1, ![10]⟩

abbrev nBuf : Space → Nat
  | .hbm => 2
  | .vmem => 4
  | .smem => 0
  | _ => 0

abbrev bufTy : (tb : Table) → Fin (tcTables nBuf tb) → BufTy
  | .hbm, ⟨0, _⟩ => ⟨S80x160x128, .i32⟩
  | .hbm, ⟨1, _⟩ => ⟨S80x1x128, .i32⟩
  | .local _ .vmem, ⟨0, _⟩ => ⟨S10x160x128, .i32⟩
  | .local _ .vmem, ⟨1, _⟩ => ⟨S10x160x128, .i32⟩
  | .local _ .vmem, ⟨2, _⟩ => ⟨S10x1x128, .i32⟩
  | .local _ .vmem, ⟨3, _⟩ => ⟨S10x1x128, .i32⟩
  | _, _ => ⟨S80x160x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c30_i32 : BitVec 32 := 30#32
  let v2 : BitVec 32 := Scalar.addi c0_i32_2 c30_i32
  let c1_i32 : BitVec 32 := 1#32
  ⟨c0_i32_2, v2, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x160x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KthIdeal.lean ====
abbrev S80x160x128 : Shape := ⟨3, ![80, 160, 128]⟩
abbrev S80x20480 : Shape := ⟨2, ![80, 20480]⟩
abbrev S80x500 : Shape := ⟨2, ![80, 500]⟩
abbrev S80x1 : Shape := ⟨2, ![80, 1]⟩
abbrev S80 : Shape := ⟨1, ![80]⟩
abbrev S80x1x1 : Shape := ⟨3, ![80, 1, 1]⟩
abbrev S80x1x128 : Shape := ⟨3, ![80, 1, 128]⟩

abbrev nBuf : Space → Nat
  | .hbm => 8
  | .vmem => 0
  | .smem => 0
  | _ => 0

abbrev bufTy : (tb : Table) → Fin (tcTables nBuf tb) → BufTy
  | .hbm, ⟨0, _⟩ => ⟨S80x160x128, .i32⟩
  | .hbm, ⟨1, _⟩ => ⟨S80x20480, .i32⟩
  | .hbm, ⟨2, _⟩ => ⟨S80x500, .i32⟩
  | .hbm, ⟨3, _⟩ => ⟨S80x500, .i32⟩
  | .hbm, ⟨4, _⟩ => ⟨S80x1, .i32⟩
  | .hbm, ⟨5, _⟩ => ⟨S80, .i32⟩
  | .hbm, ⟨6, _⟩ => ⟨S80x1x1, .i32⟩
  | .hbm, ⟨7, _⟩ => ⟨S80x1x128, .i32⟩
  | _, _ => ⟨S80x160x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Listing.lean ====
abbrev S80x160x128 : Shape := ⟨3, ![80, 160, 128]⟩
abbrev S80x1x128 : Shape := ⟨3, ![80, 1, 128]⟩
abbrev S80x512x1 : Shape := ⟨3, ![80, 512, 1]⟩
abbrev S1x160x128 : Shape := ⟨3, ![1, 160, 128]⟩
abbrev S1x1x128 : Shape := ⟨3, ![1, 1, 128]⟩
abbrev S1x512x1 : Shape := ⟨3, ![1, 512, 1]⟩
abbrev S160x128 : Shape := ⟨2, ![160, 128]⟩
abbrev S1x128 : Shape := ⟨2, ![1, 128]⟩
abbrev S1 : Shape := ⟨1, ![1]⟩
abbrev S1x1x1 : Shape := ⟨3, ![1, 1, 1]⟩
abbrev S128x128 : Shape := ⟨2, ![128, 128]⟩
abbrev S160x160 : Shape := ⟨2, ![160, 160]⟩
abbrev S160 : Shape := ⟨1, ![160]⟩
abbrev S160x1 : Shape := ⟨2, ![160, 1]⟩
abbrev S512x1 : Shape := ⟨2, ![512, 1]⟩
abbrev S1x512 : Shape := ⟨2, ![1, 512]⟩
abbrev S160x512 : Shape := ⟨2, ![160, 512]⟩
abbrev S160x1152 : Shape := ⟨2, ![160, 1152]⟩
abbrev S512x1152 : Shape := ⟨2, ![512, 1152]⟩
abbrev S512x128 : Shape := ⟨2, ![512, 128]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S80x160x128, .i32⟩
  | .hbm, ⟨1, _⟩ => ⟨S80x1x128, .i32⟩
  | .hbm, ⟨2, _⟩ => ⟨S80x512x1, .i32⟩
  | .hbm, ⟨3, _⟩ => ⟨S80x512x1, .f32⟩
  | .local _ .vmem, ⟨0, _⟩ => ⟨S1x160x128, .i32⟩
  | .local _ .vmem, ⟨1, _⟩ => ⟨S1x160x128, .i32⟩
  | .local _ .vmem, ⟨2, _⟩ => ⟨S1x1x128, .i32⟩
  | .local _ .vmem, ⟨3, _⟩ => ⟨S1x1x128, .i32⟩
  | .local _ .vmem, ⟨4, _⟩ => ⟨S1x512x1, .i32⟩
  | .local _ .vmem, ⟨5, _⟩ => ⟨S1x512x1, .i32⟩
  | .local _ .vmem, ⟨6, _⟩ => ⟨S1x512x1, .f32⟩
  | .local _ .vmem, ⟨7, _⟩ => ⟨S1x512x1, .f32⟩
  | _, _ => ⟨S80x160x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x160x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SortedIdeal.lean ====
abbrev S80x160x128 : Shape := ⟨3, ![80, 160, 128]⟩
abbrev S80x1x128 : Shape := ⟨3, ![80, 1, 128]⟩
abbrev S80x20480 : Shape := ⟨2, ![80, 20480]⟩
abbrev S80x500 : Shape := ⟨2, ![80, 500]⟩
abbrev S_ : Shape := ⟨0, ![]⟩
abbrev S80x512 : Shape := ⟨2, ![80, 512]⟩
abbrev S80x512x1 : Shape := ⟨3, ![80, 512, 1]⟩

abbrev nBuf : Space → Nat
  | .hbm => 16
  | .vmem => 0
  | .smem => 0
  | _ => 0

abbrev bufTy : (tb : Table) → Fin (tcTables nBuf tb) → BufTy
  | .hbm, ⟨0, _⟩ => ⟨S80x160x128, .i32⟩
  | .hbm, ⟨1, _⟩ => ⟨S80x1x128, .i32⟩
  | .hbm, ⟨2, _⟩ => ⟨S80x20480, .i32⟩
  | .hbm, ⟨3, _⟩ => ⟨S80x500, .i32⟩
  | .hbm, ⟨4, _⟩ => ⟨S80x500, .i32⟩
  | .hbm, ⟨5, _⟩ => ⟨S80x500, .i32⟩
  | .hbm, ⟨6, _⟩ => ⟨S80x500, .i32⟩
  | .hbm, ⟨7, _⟩ => ⟨S_, .i32⟩
  | .hbm, ⟨8, _⟩ => ⟨S_, .i32⟩
  | .hbm, ⟨9, _⟩ => ⟨S80x512, .i32⟩
  | .hbm, ⟨10, _⟩ => ⟨S80x512x1, .i32⟩
  | .hbm, ⟨11, _⟩ => ⟨S80x500, .f32⟩
  | .hbm, ⟨12, _⟩ => ⟨S_, .i32⟩
  | .hbm, ⟨13, _⟩ => ⟨S_, .f32⟩
  | .hbm, ⟨14, _⟩ => ⟨S80x512, .f32⟩
  | .hbm, ⟨15, _⟩ => ⟨S80x512x1, .f32⟩
  | _, _ => ⟨S80x160x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_v1_0 : Ref sig .tc := ⟨.hbm, 5, rfl⟩
abbrev main_v1_1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Proof.RI.Ops.lean ====
/-
  The long stretch of host operations before the reference's loop, cut in three.
-/
module

public import proofs.«01_k».proof.Proof.Gen.ReferenceIdeal.Run

@[expose] public section

set_option maxRecDepth 100000
set_option maxHeartbeats 4000000

noncomputable section

namespace Cert.Proof.RI

open Cert.ReferenceIdeal Cert.ReferenceIdeal.Gen
open Idealize.ShloMosaic Idealize.ShloMosaic.StableHlo

variable {F : FTy → Type} [FloatOps F]

/-- The operations up to the selected slots' boxes, in order. -/
abbrev opsA : List (HloOp τ sig (Elt F)) :=
  ( StableHlo.unary main_v93 main_v103 (broadcastInDim S20000x81x1 ![0, 1] bcast_S20000x81_S20000x81x1_0_1 : (⟨S20000x81, .f32⟩ : BufTy).Contents (Elt F) → (⟨S20000x81x1, .f32⟩ : BufTy).Contents (Elt F))
  :: StableHlo.unary main_v96 main_v104 (broadcastInDim S20000x81x1 ![0, 1] bcast_S20000x81_S20000x81x1_0_1 : (⟨S20000x81, .f32⟩ : BufTy).Contents (Elt F) → (⟨S20000x81x1, .f32⟩ : BufTy).Contents (Elt F))
  :: StableHlo.unary main_v99 main_v105 (broadcastInDim S20000x81x1 ![0, 1] bcast_S20000x81_S20000x81x1_0_1 : (⟨S20000x81, .f32⟩ : BufTy).Contents (Elt F) → (⟨S20000x81x1, .f32⟩ : BufTy).Contents (Elt F))
  :: StableHlo.unary main_v102 main_v106 (broadcastInDim S20000x81x1 ![0, 1] bcast_S20000x81_S20000x81x1_0_1 : (⟨S20000x81, .f32⟩ : BufTy).Contents (Elt F) → (⟨S20000x81x1, .f32⟩ : BufTy).Contents (Elt F))
  :: StableHlo.nary ![main_v103, main_v104, main_v105, main_v106] main_v107 (fun u => (concatenate S20000x81x4 2 [⟨S20000x81x1, (u 0 : (⟨S20000x81x1, .f32⟩ : BufTy).Contents (Elt F))⟩, ⟨S20000x81x1, (u 1 : (⟨S20000x81x1, .f32⟩ : BufTy).Contents (Elt F))⟩, ⟨S20000x81x1, (u 2 : (⟨S20000x81x1, .f32⟩ : BufTy).Contents (Elt F))⟩, ⟨S20000x81x1, (u 3 : (⟨S20000x81x1, .f32⟩ : BufTy).Contents (Elt F))⟩] concatenates_S20000x81x1_S20000x81x1_S20000x81x1_S20000x81x1_S20000x81x4_d2 : (⟨S20000x81x4, .f32⟩ : BufTy).Contents (Elt F)))
  :: StableHlo.nullary main_v108 (iotaInDim S80 32 0)
  :: StableHlo.nullary main_c (constantI S_ 32 1#32)
  :: StableHlo.unary main_c main_v109 (broadcastInDim S80 ![] bcast_S_S80 : (⟨S_, .i32⟩ : BufTy).Contents (Elt F) → (⟨S80, .i32⟩ : BufTy).Contents (Elt F))
  :: StableHlo.binary main_v109 main_v108 main_v110 (addi : (⟨S80, .i32⟩ : BufTy).Contents (Elt F) → (⟨S80, .i32⟩ : BufTy).Contents (Elt F) → (⟨S80, .i32⟩ : BufTy).Contents (Elt F))
  :: StableHlo.unary main_v110 main_v111 (broadcastInDim S80x1 ![0] bcast_S80_S80x1_0 : (⟨S80, .i32⟩ : BufTy).Contents (Elt F) → (⟨S80x1, .i32⟩ : BufTy).Contents (Elt F))
  :: StableHlo.nullary main_c_23 (constantI S_ 32 0#32)
  :: StableHlo.unary main_c_23 main_v112 (broadcastInDim S80x500 ![] bcast_S_S80x500 : (⟨S_, .i32⟩ : BufTy).Contents (Elt F) → (⟨S80x500, .i32⟩ : BufTy).Contents (Elt F))
  :: StableHlo.binary main_v4 main_v112 main_v113 (cmpi .slt : (⟨S80x500, .i32⟩ : BufTy).Contents (Elt F) → (⟨S80x500, .i32⟩ : BufTy).Contents (Elt F) → (⟨S80x500, .i1⟩ : BufTy).Contents (Elt F))
  :: StableHlo.nullary main_c_24 (constantI S_ 32 20000#32)
  :: StableHlo.unary main_c_24 main_v114 (broadcastInDim S80x500 ![] bcast_S_S80x500 : (⟨S_, .i32⟩ : BufTy).Contents (Elt F) → (⟨S80x500, .i32⟩ : BufTy).Contents (Elt F))
  :: StableHlo.binary main_v4 main_v114 main_v115 (addi : (⟨S80x500, .i32⟩ : BufTy).Contents (Elt F) → (⟨S80x500, .i32⟩ : BufTy).Contents (Elt F) → (⟨S80x500, .i32⟩ : BufTy).Contents (Elt F))
  :: StableHlo.ternary main_v113 main_v115 main_v4 main_v116 (select : (⟨S80x500, .i1⟩ : BufTy).Contents (Elt F) → (⟨S80x500, .i32⟩ : BufTy).Contents (Elt F) → (⟨S80x500, .i32⟩ : BufTy).Contents (Elt F) → (⟨S80x500, .i32⟩ : BufTy).Contents (Elt F))
  :: StableHlo.nullary main_c_25 (constantI S_ 32 0#32)
  :: StableHlo.unary main_c_25 main_v117 (broadcastInDim S80x1 ![] bcast_S_S80x1 : (⟨S_, .i32⟩ : BufTy).Contents (Elt F) → (⟨S80x1, .i32⟩ : BufTy).Contents (Elt F))
  :: StableHlo.binary main_v111 main_v117 main_v118 (cmpi .slt : (⟨S80x1, .i32⟩ : BufTy).Contents (Elt F) → (⟨S80x1, .i32⟩ : BufTy).Contents (Elt F) → (⟨S80x1, .i1⟩ : BufTy).Contents (Elt F))
  :: StableHlo.nullary main_c_26 (constantI S_ 32 81#32)
  :: StableHlo.unary main_c_26 main_v119 (broadcastInDim S80x1 ![] bcast_S_S80x1 : (⟨S_, .i32⟩ : BufTy).Contents (Elt F) → (⟨S80x1, .i32⟩ : BufTy).Contents (Elt F))
  :: StableHlo.binary main_v111 main_v119 main_v120 (addi : (⟨S80x1, .i32⟩ : BufTy).Contents (Elt F) → (⟨S80x1, .i32⟩ : BufTy).Contents (Elt F) → (⟨S80x1, .i32⟩ : BufTy).Contents (Elt F))
  :: StableHlo.ternary main_v118 main_v120 main_v111 main_v121 (select : (⟨S80x1, .i1⟩ : BufTy).Contents (Elt F) → (⟨S80x1, .i32⟩ : BufTy).Contents (Elt F) → (⟨S80x1, .i32⟩ : BufTy).Contents (Elt F) → (⟨S80x1, .i32⟩ : BufTy).Contents (Elt F))
  :: StableHlo.unary main_v121 main_v122 (broadcastInDim S80x500 ![0, 1] bcast_S80x1_S80x500_0_1 : (⟨S80x1, .i32⟩ : BufTy).Contents (Elt F) → (⟨S80x500, .i32⟩ : BufTy).Contents (Elt F))
  :: StableHlo.unary main_v116 main_v123 (broadcastInDim S80x500x1 ![0, 1] bcast_S80x500_S80x500x1_0_1 : (⟨S80x500, .i32⟩ : BufTy).Contents (Elt F) → (⟨S80x500x1, .i32⟩ : BufTy).Contents (Elt F))
  :: StableHlo.unary main_v122 main_v124 (broadcastInDim S80x500x1 ![0, 1] bcast_S80x500_S80x500x1_0_1 : (⟨S80x500, .i32⟩ : BufTy).Contents (Elt F) → (⟨S80x500x1, .i32⟩ : BufTy).Contents (Elt F))
  :: StableHlo.binary main_v123 main_v124 main_v125 ((fun a b => concatenate S80x500x2 2 [⟨S80x500x1, a⟩, ⟨S80x500x1, b⟩] concatenates_S80x500x1_S80x500x1_S80x500x2_d2) : (⟨S80x500x1, .i32⟩ : BufTy).Contents (Elt F) → (⟨S80x500x1, .i32⟩ : BufTy).Contents (Elt F) → (⟨S80x500x2, .i32⟩ : BufTy).Contents (Elt F))
  :: StableHlo.binary main_v107 main_v125 main_v126 ((fun x i => Host.gather gather_S20000x81x4_S80x500x2_S80x500x4_2_01_n_n_01_2_114 x i) : (⟨S20000x81x4, .f32⟩ : BufTy).Contents (Elt F) → (⟨S80x500x2, .i32⟩ : BufTy).Contents (Elt F) → (⟨S80x500x4, .f32⟩ : BufTy).Contents (Elt F))
  :: [] )
/-- The operations from there to the sorted boxes, in order. -/
abbrev opsB : List (HloOp τ sig (Elt F)) :=
  ( StableHlo.nullary main_v127 (iotaInDim S80 32 0)
  :: StableHlo.unary main_v127 main_v128 (broadcastInDim S80x1 ![0] bcast_S80_S80x1_0 : (⟨S80, .i32⟩ : BufTy).Contents (Elt F) → (⟨S80x1, .i32⟩ : BufTy).Contents (Elt F))
  :: StableHlo.unary main_v1 main_values ((fun x => (Host.topK S80x500 1 (FloatOps.cmpfTotal .gt) x sliceFits_S80x500_S80x500).1) : (⟨S80x500, .f32⟩ : BufTy).Contents (Elt F) → (⟨S80x500, .f32⟩ : BufTy).Contents (Elt F))
  :: StableHlo.unary main_v1 main_indices ((fun x => (Host.topK S80x500 1 (FloatOps.cmpfTotal .gt) x sliceFits_S80x500_S80x500).2) : (⟨S80x500, .f32⟩ : BufTy).Contents (Elt F) → (⟨S80x500, .i32⟩ : BufTy).Contents (Elt F))
  :: StableHlo.nullary main_c_27 (constantI S_ 32 0#32)
  :: StableHlo.unary main_c_27 main_v129 (broadcastInDim S80x1 ![] bcast_S_S80x1 : (⟨S_, .i32⟩ : BufTy).Contents (Elt F) → (⟨S80x1, .i32⟩ : BufTy).Contents (Elt F))
  :: StableHlo.binary main_v128 main_v129 main_v130 (cmpi .slt : (⟨S80x1, .i32⟩ : BufTy).Contents (Elt F) → (⟨S80x1, .i32⟩ : BufTy).Contents (Elt F) → (⟨S80x1, .i1⟩ : BufTy).Contents (Elt F))
  :: StableHlo.nullary main_c_28 (constantI S_ 32 80#32)
  :: StableHlo.unary main_c_28 main_v131 (broadcastInDim S80x1 ![] bcast_S_S80x1 : (⟨S_, .i32⟩ : BufTy).Contents (Elt F) → (⟨S80x1, .i32⟩ : BufTy).Contents (Elt F))
  :: StableHlo.binary main_v128 main_v131 main_v132 (addi : (⟨S80x1, .i32⟩ : BufTy).Contents (Elt F) → (⟨S80x1, .i32⟩ : BufTy).Contents (Elt F) → (⟨S80x1, .i32⟩ : BufTy).Contents (Elt F))
  :: StableHlo.ternary main_v130 main_v132 main_v128 main_v133 (select : (⟨S80x1, .i1⟩ : BufTy).Contents (Elt F) → (⟨S80x1, .i32⟩ : BufTy).Contents (Elt F) → (⟨S80x1, .i32⟩ : BufTy).Contents (Elt F) → (⟨S80x1, .i32⟩ : BufTy).Contents (Elt F))
  :: StableHlo.nullary main_c_29 (constantI S_ 32 0#32)
  :: StableHlo.unary main_c_29 main_v134 (broadcastInDim S80x500 ![] bcast_S_S80x500 : (⟨S_, .i32⟩ : BufTy).Contents (Elt F) → (⟨S80x500, .i32⟩ : BufTy).Contents (Elt F))
  :: StableHlo.binary main_indices main_v134 main_v135 (cmpi .slt : (⟨S80x500, .i32⟩ : BufTy).Contents (Elt F) → (⟨S80x500, .i32⟩ : BufTy).Contents (Elt F) → (⟨S80x500, .i1⟩ : BufTy).Contents (Elt F))
  :: StableHlo.nullary main_c_30 (constantI S_ 32 500#32)
  :: StableHlo.unary main_c_30 main_v136 (broadcastInDim S80x500 ![] bcast_S_S80x500 : (⟨S_, .i32⟩ : BufTy).Contents (Elt F) → (⟨S80x500, .i32⟩ : BufTy).Contents (Elt F))
  :: StableHlo.binary main_indices main_v136 main_v137 (addi : (⟨S80x500, .i32⟩ : BufTy).Contents (Elt F) → (⟨S80x500, .i32⟩ : BufTy).Contents (Elt F) → (⟨S80x500, .i32⟩ : BufTy).Contents (Elt F))
  :: StableHlo.ternary main_v135 main_v137 main_indices main_v138 (select : (⟨S80x500, .i1⟩ : BufTy).Contents (Elt F) → (⟨S80x500, .i32⟩ : BufTy).Contents (Elt F) → (⟨S80x500, .i32⟩ : BufTy).Contents (Elt F) → (⟨S80x500, .i32⟩ : BufTy).Contents (Elt F))
  :: StableHlo.unary main_v133 main_v139 (broadcastInDim S80x500 ![0, 1] bcast_S80x1_S80x500_0_1 : (⟨S80x1, .i32⟩ : BufTy).Contents (Elt F) → (⟨S80x500, .i32⟩ : BufTy).Contents (Elt F))
  :: StableHlo.unary main_v139 main_v140 (broadcastInDim S80x500x1 ![0, 1] bcast_S80x500_S80x500x1_0_1 : (⟨S80x500, .i32⟩ : BufTy).Contents (Elt F) → (⟨S80x500x1, .i32⟩ : BufTy).Contents (Elt F))
  :: StableHlo.unary main_v138 main_v141 (broadcastInDim S80x500x1 ![0, 1] bcast_S80x500_S80x500x1_0_1 : (⟨S80x500, .i32⟩ : BufTy).Contents (Elt F) → (⟨S80x500x1, .i32⟩ : BufTy).Contents (Elt F))
  :: StableHlo.binary main_v140 main_v141 main_v142 ((fun a b => concatenate S80x500x2 2 [⟨S80x500x1, a⟩, ⟨S80x500x1, b⟩] concatenates_S80x500x1_S80x500x1_S80x500x2_d2) : (⟨S80x500x1, .i32⟩ : BufTy).Contents (Elt F) → (⟨S80x500x1, .i32⟩ : BufTy).Contents (Elt F) → (⟨S80x500x2, .i32⟩ : BufTy).Contents (Elt F))
  :: StableHlo.binary main_v126 main_v142 main_v143 ((fun x i => Host.gather gather_S80x500x4_S80x500x2_S80x500x4_2_01_n_n_01_2_114 x i) : (⟨S80x500x4, .f32⟩ : BufTy).Contents (Elt F) → (⟨S80x500x2, .i32⟩ : BufTy).Contents (Elt F) → (⟨S80x500x4, .f32⟩ : BufTy).Contents (Elt F))
  :: [] )
/-- The operations from there to the loop, in order. -/
abbrev opsC : List (HloOp τ sig (Elt F)) :=
  ( StableHlo.unary main_v143 main_v144 ((extractStridedSlice S80x500x1 ![0, 0, 2] · slices_S80x500x4_S80x500x1_0_0_2) : (⟨S80x500x4, .f32⟩ : BufTy).Contents (Elt F) → (⟨S80x500x1, .f32⟩ : BufTy).Contents (Elt F))
  :: StableHlo.reshape main_v144 main_v145 (rfl : (.f32 : EltTy) = .f32) shapeCasts_S80x500x1_S80x500
  :: StableHlo.unary main_v143 main_v146 ((extractStridedSlice S80x500x1 ![0, 0, 0] · slices_S80x500x4_S80x500x1_0_0_0) : (⟨S80x500x4, .f32⟩ : BufTy).Contents (Elt F) → (⟨S80x500x1, .f32⟩ : BufTy).Contents (Elt F))
  :: StableHlo.reshape main_v146 main_v147 (rfl : (.f32 : EltTy) = .f32) shapeCasts_S80x500x1_S80x500
  :: StableHlo.binary main_v145 main_v147 main_v148 (subf : (⟨S80x500, .f32⟩ : BufTy).Contents (Elt F) → (⟨S80x500, .f32⟩ : BufTy).Contents (Elt F) → (⟨S80x500, .f32⟩ : BufTy).Contents (Elt F))
  :: StableHlo.unary main_v143 main_v149 ((extractStridedSlice S80x500x1 ![0, 0, 3] · slices_S80x500x4_S80x500x1_0_0_3) : (⟨S80x500x4, .f32⟩ : BufTy).Contents (Elt F) → (⟨S80x500x1, .f32⟩ : BufTy).Contents (Elt F))
  :: StableHlo.reshape main_v149 main_v150 (rfl : (.f32 : EltTy) = .f32) shapeCasts_S80x500x1_S80x500
  :: StableHlo.unary main_v143 main_v151 ((extractStridedSlice S80x500x1 ![0, 0, 1] · slices_S80x500x4_S80x500x1_0_0_1) : (⟨S80x500x4, .f32⟩ : BufTy).Contents (Elt F) → (⟨S80x500x1, .f32⟩ : BufTy).Contents (Elt F))
  :: StableHlo.reshape main_v151 main_v152 (rfl : (.f32 : EltTy) = .f32) shapeCasts_S80x500x1_S80x500
  :: StableHlo.binary main_v150 main_v152 main_v153 (subf : (⟨S80x500, .f32⟩ : BufTy).Contents (Elt F) → (⟨S80x500, .f32⟩ : BufTy).Contents (Elt F) → (⟨S80x500, .f32⟩ : BufTy).Contents (Elt F))
  :: StableHlo.binary main_v148 main_v153 main_v154 (mulf : (⟨S80x500, .f32⟩ : BufTy).Contents (Elt F) → (⟨S80x500, .f32⟩ : BufTy).Contents (Elt F) → (⟨S80x500, .f32⟩ : BufTy).Contents (Elt F))
  :: StableHlo.unary main_v143 main_v155 ((extractStridedSlice S80x500x1 ![0, 0, 0] · slices_S80x500x4_S80x500x1_0_0_0) : (⟨S80x500x4, .f32⟩ : BufTy).Contents (Elt F) → (⟨S80x500x1, .f32⟩ : BufTy).Contents (Elt F))
  :: StableHlo.reshape main_v155 main_v156 (rfl : (.f32 : EltTy) = .f32) shapeCasts_S80x500x1_S80x500
  :: StableHlo.unary main_v156 main_v157 (broadcastInDim S80x500x1 ![0, 1] bcast_S80x500_S80x500x1_0_1 : (⟨S80x500, .f32⟩ : BufTy).Contents (Elt F) → (⟨S80x500x1, .f32⟩ : BufTy).Contents (Elt F))
  :: StableHlo.unary main_v143 main_v158 ((extractStridedSlice S80x500x1 ![0, 0, 0] · slices_S80x500x4_S80x500x1_0_0_0) : (⟨S80x500x4, .f32⟩ : BufTy).Contents (Elt F) → (⟨S80x500x1, .f32⟩ : BufTy).Contents (Elt F))
  :: StableHlo.reshape main_v158 main_v159 (rfl : (.f32 : EltTy) = .f32) shapeCasts_S80x500x1_S80x500
  :: StableHlo.unary main_v159 main_v160 (broadcastInDim S80x1x500 ![0, 2] bcast_S80x500_S80x1x500_0_2 : (⟨S80x500, .f32⟩ : BufTy).Contents (Elt F) → (⟨S80x1x500, .f32⟩ : BufTy).Contents (Elt F))
  :: StableHlo.unary main_v157 main_v161 (broadcastInDim S80x500x500 ![0, 1, 2] bcast_S80x500x1_S80x500x500_0_1_2 : (⟨S80x500x1, .f32⟩ : BufTy).Contents (Elt F) → (⟨S80x500x500, .f32⟩ : BufTy).Contents (Elt F))
  :: StableHlo.unary main_v160 main_v162 (broadcastInDim S80x500x500 ![0, 1, 2] bcast_S80x1x500_S80x500x500_0_1_2 : (⟨S80x1x500, .f32⟩ : BufTy).Contents (Elt F) → (⟨S80x500x500, .f32⟩ : BufTy).Contents (Elt F))
  :: StableHlo.binary main_v161 main_v162 main_v163 (maximumf : (⟨S80x500x500, .f32⟩ : BufTy).Contents (Elt F) → (⟨S80x500x500, .f32⟩ : BufTy).Contents (Elt F) → (⟨S80x500x500, .f32⟩ : BufTy).Contents (Elt F))
  :: StableHlo.unary main_v143 main_v164 ((extractStridedSlice S80x500x1 ![0, 0, 1] · slices_S80x500x4_S80x500x1_0_0_1) : (⟨S80x500x4, .f32⟩ : BufTy).Contents (Elt F) → (⟨S80x500x1, .f32⟩ : BufTy).Contents (Elt F))
  :: StableHlo.reshape main_v164 main_v165 (rfl : (.f32 : EltTy) = .f32) shapeCasts_S80x500x1_S80x500
  :: StableHlo.unary main_v165 main_v166 (broadcastInDim S80x500x1 ![0, 1] bcast_S80x500_S80x500x1_0_1 : (⟨S80x500, .f32⟩ : BufTy).Contents (Elt F) → (⟨S80x500x1, .f32⟩ : BufTy).Contents (Elt F))
  :: StableHlo.unary main_v143 main_v167 ((extractStridedSlice S80x500x1 ![0, 0, 1] · slices_S80x500x4_S80x500x1_0_0_1) : (⟨S80x500x4, .f32⟩ : BufTy).Contents (Elt F) → (⟨S80x500x1, .f32⟩ : BufTy).Contents (Elt F))
  :: StableHlo.reshape main_v167 main_v168 (rfl : (.f32 : EltTy) = .f32) shapeCasts_S80x500x1_S80x500
  :: StableHlo.unary main_v168 main_v169 (broadcastInDim S80x1x500 ![0, 2] bcast_S80x500_S80x1x500_0_2 : (⟨S80x500, .f32⟩ : BufTy).Contents (Elt F) → (⟨S80x1x500, .f32⟩ : BufTy).Contents (Elt F))
  :: StableHlo.unary main_v166 main_v170 (broadcastInDim S80x500x500 ![0, 1, 2] bcast_S80x500x1_S80x500x500_0_1_2 : (⟨S80x500x1, .f32⟩ : BufTy).Contents (Elt F) → (⟨S80x500x500, .f32⟩ : BufTy).Contents (Elt F))
  :: StableHlo.unary main_v169 main_v171 (broadcastInDim S80x500x500 ![0, 1, 2] bcast_S80x1x500_S80x500x500_0_1_2 : (⟨S80x1x500, .f32⟩ : BufTy).Contents (Elt F) → (⟨S80x500x500, .f32⟩ : BufTy).Contents (Elt F))
  :: StableHlo.binary main_v170 main_v171 main_v172 (maximumf : (⟨S80x500x500, .f32⟩ : BufTy).Contents (Elt F) → (⟨S80x500x500, .f32⟩ : BufTy).Contents (Elt F) → (⟨S80x500x500, .f32⟩ : BufTy).Contents (Elt F))
  :: StableHlo.unary main_v143 main_v173 ((extractStridedSlice S80x500x1 ![0, 0, 2] · slices_S80x500x4_S80x500x1_0_0_2) : (⟨S80x500x4, .f32⟩ : BufTy).Contents (Elt F) → (⟨S80x500x1, .f32⟩ : BufTy).Contents (Elt F))
  :: StableHlo.reshape main_v173 main_v174 (rfl : (.f32 : EltTy) = .f32) shapeCasts_S80x500x1_S80x500
  :: StableHlo.unary main_v174 main_v175 (broadcastInDim S80x500x1 ![0, 1] bcast_S80x500_S80x500x1_0_1 : (⟨S80x500, .f32⟩ : BufTy).Contents (Elt F) → (⟨S80x500x1, .f32⟩ : BufTy).Contents (Elt F))
  :: StableHlo.unary main_v143 main_v176 ((extractStridedSlice S80x500x1 ![0, 0, 2] · slices_S80x500x4_S80x500x1_0_0_2) : (⟨S80x500x4, .f32⟩ : BufTy).Contents (Elt F) → (⟨S80x500x1, .f32⟩ : BufTy).Contents (Elt F))
  :: StableHlo.reshape main_v176 main_v177 (rfl : (.f32 : EltTy) = .f32) shapeCasts_S80x500x1_S80x500
  :: StableHlo.unary main_v177 main_v178 (broadcastInDim S80x1x500 ![0, 2] bcast_S80x500_S80x1x500_0_2 : (⟨S80x500, .f32⟩ : BufTy).Contents (Elt F) → (⟨S80x1x500, .f32⟩ : BufTy).Contents (Elt F))
  :: StableHlo.unary main_v175 main_v179 (broadcastInDim S80x500x500 ![0, 1, 2] bcast_S80x500x1_S80x500x500_0_1_2 : (⟨S80x500x1, .f32⟩ : BufTy).Contents (Elt F) → (⟨S80x500x500, .f32⟩ : BufTy).Contents (Elt F))
  :: StableHlo.unary main_v178 main_v180 (broadcastInDim S80x500x500 ![0, 1, 2] bcast_S80x1x500_S80x500x500_0_1_2 : (⟨S80x1x500, .f32⟩ : BufTy).Contents (Elt F) → (⟨S80x500x500, .f32⟩ : BufTy).Contents (Elt F))
  :: StableHlo.binary main_v179 main_v180 main_v181 (minimumf : (⟨S80x500x500, .f32⟩ : BufTy).Contents (Elt F) → (⟨S80x500x500, .f32⟩ : BufTy).Contents (Elt F) → (⟨S80x500x500, .f32⟩ : BufTy).Contents (Elt F))
  :: StableHlo.unary main_v143 main_v182 ((extractStridedSlice S80x500x1 ![0, 0, 3] · slices_S80x500x4_S80x500x1_0_0_3) : (⟨S80x500x4, .f32⟩ : BufTy).Contents (Elt F) → (⟨S80x500x1, .f32⟩ : BufTy).Contents (Elt F))
  :: StableHlo.reshape main_v182 main_v183 (rfl : (.f32 : EltTy) = .f32) shapeCasts_S80x500x1_S80x500
  :: StableHlo.unary main_v183 main_v184 (broadcastInDim S80x500x1 ![0, 1] bcast_S80x500_S80x500x1_0_1 : (⟨S80x500, .f32⟩ : BufTy).Contents (Elt F) → (⟨S80x500x1, .f32⟩ : BufTy).Contents (Elt F))
  :: StableHlo.unary main_v143 main_v185 ((extractStridedSlice S80x500x1 ![0, 0, 3] · slices_S80x500x4_S80x500x1_0_0_3) : (⟨S80x500x4, .f32⟩ : BufTy).Contents (Elt F) → (⟨S80x500x1, .f32⟩ : BufTy).Contents (Elt F))
  :: StableHlo.reshape main_v185 main_v186 (rfl : (.f32 : EltTy) = .f32) shapeCasts_S80x500x1_S80x500
  :: StableHlo.unary main_v186 main_v187 (broadcastInDim S80x1x500 ![0, 2] bcast_S80x500_S80x1x500_0_2 : (⟨S80x500, .f32⟩ : BufTy).Contents (Elt F) → (⟨S80x1x500, .f32⟩ : BufTy).Contents (Elt F))
  :: StableHlo.unary main_v184 main_v188 (broadcastInDim S80x500x500 ![0, 1, 2] bcast_S80x500x1_S80x500x500_0_1_2 : (⟨S80x500x1, .f32⟩ : BufTy).Contents (Elt F) → (⟨S80x500x500, .f32⟩ : BufTy).Contents (Elt F))
  :: StableHlo.unary main_v187 main_v189 (broadcastInDim S80x500x500 ![0, 1, 2] bcast_S80x1x500_S80x500x500_0_1_2 : (⟨S80x1x500, .f32⟩ : BufTy).Contents (Elt F) → (⟨S80x500x500, .f32⟩ : BufTy).Contents (Elt F))
  :: StableHlo.binary main_v188 main_v189 main_v190 (minimumf : (⟨S80x500x500, .f32⟩ : BufTy).Contents (Elt F) → (⟨S80x500x500, .f32⟩ : BufTy).Contents (Elt F) → (⟨S80x500x500, .f32⟩ : BufTy).Contents (Elt F))
  :: StableHlo.binary main_v181 main_v163 main_v191 (subf : (⟨S80x500x500, .f32⟩ : BufTy).Contents (Elt F) → (⟨S80x500x500, .f32⟩ : BufTy).Contents (Elt F) → (⟨S80x500x500, .f32⟩ : BufTy).Contents (Elt F))
  :: StableHlo.nullary main_cst_31 (constant S_ .f32 0x00000000#32)
  :: StableHlo.unary main_cst_31 main_v192 (broadcastInDim S80x500x500 ![] bcast_S_S80x500x500 : (⟨S_, .f32⟩ : BufTy).Contents (Elt F) → (⟨S80x500x500, .f32⟩ : BufTy).Contents (Elt F))
  :: StableHlo.binary main_v191 main_v192 main_v193 (maximumf : (⟨S80x500x500, .f32⟩ : BufTy).Contents (Elt F) → (⟨S80x500x500, .f32⟩ : BufTy).Contents (Elt F) → (⟨S80x500x500, .f32⟩ : BufTy).Contents (Elt F))
  :: StableHlo.binary main_v190 main_v172 main_v194 (subf : (⟨S80x500x500, .f32⟩ : BufTy).Contents (Elt F) → (⟨S80x500x500, .f32⟩ : BufTy).Contents (Elt F) → (⟨S80x500x500, .f32⟩ : BufTy).Contents (Elt F))
  :: StableHlo.nullary main_cst_32 (constant S_ .f32 0x00000000#32)
  :: StableHlo.unary main_cst_32 main_v195 (broadcastInDim S80x500x500 ![] bcast_S_S80x500x500 : (⟨S_, .f32⟩ : BufTy).Contents (Elt F) → (⟨S80x500x500, .f32⟩ : BufTy).Contents (Elt F))
  :: StableHlo.binary main_v194 main_v195 main_v196 (maximumf : (⟨S80x500x500, .f32⟩ : BufTy).Contents (Elt F) → (⟨S80x500x500, .f32⟩ : BufTy).Contents (Elt F) → (⟨S80x500x500, .f32⟩ : BufTy).Contents (Elt F))
  :: StableHlo.binary main_v193 main_v196 main_v197 (mulf : (⟨S80x500x500, .f32⟩ : BufTy).Contents (Elt F) → (⟨S80x500x500, .f32⟩ : BufTy).Contents (Elt F) → (⟨S80x500x500, .f32⟩ : BufTy).Contents (Elt F))
  :: StableHlo.unary main_v154 main_v198 (broadcastInDim S80x500x1 ![0, 1] bcast_S80x500_S80x500x1_0_1 : (⟨S80x500, .f32⟩ : BufTy).Contents (Elt F) → (⟨S80x500x1, .f32⟩ : BufTy).Contents (Elt F))
  :: StableHlo.unary main_v154 main_v199 (broadcastInDim S80x1x500 ![0, 2] bcast_S80x500_S80x1x500_0_2 : (⟨S80x500, .f32⟩ : BufTy).Contents (Elt F) → (⟨S80x1x500, .f32⟩ : BufTy).Contents (Elt F))
  :: StableHlo.unary main_v198 main_v200 (broadcastInDim S80x500x500 ![0, 1, 2] bcast_S80x500x1_S80x500x500_0_1_2 : (⟨S80x500x1, .f32⟩ : BufTy).Contents (Elt F) → (⟨S80x500x500, .f32⟩ : BufTy).Contents (Elt F))
  :: StableHlo.unary main_v199 main_v201 (broadcastInDim S80x500x500 ![0, 1, 2] bcast_S80x1x500_S80x500x500_0_1_2 : (⟨S80x1x500, .f32⟩ : BufTy).Contents (Elt F) → (⟨S80x500x500, .f32⟩ : BufTy).Contents (Elt F))
  :: StableHlo.binary main_v200 main_v201 main_v202 (addf : (⟨S80x500x500, .f32⟩ : BufTy).Contents (Elt F) → (⟨S80x500x500, .f32⟩ : BufTy).Contents (Elt F) → (⟨S80x500x500, .f32⟩ : BufTy).Contents (Elt F))
  :: StableHlo.binary main_v202 main_v197 main_v203 (subf : (⟨S80x500x500, .f32⟩ : BufTy).Contents (Elt F) → (⟨S80x500x500, .f32⟩ : BufTy).Contents (Elt F) → (⟨S80x500x500, .f32⟩ : BufTy).Contents (Elt F))
  :: StableHlo.nullary main_cst_33 (constant S_ .f32 0x3089705F#32)
  :: StableHlo.unary main_cst_33 main_v204 (broadcastInDim S80x500x500 ![] bcast_S_S80x500x500 : (⟨S_, .f32⟩ : BufTy).Contents (Elt F) → (⟨S80x500x500, .f32⟩ : BufTy).Contents (Elt F))
  :: StableHlo.binary main_v203 main_v204 main_v205 (maximumf : (⟨S80x500x500, .f32⟩ : BufTy).Contents (Elt F) → (⟨S80x500x500, .f32⟩ : BufTy).Contents (Elt F) → (⟨S80x500x500, .f32⟩ : BufTy).Contents (Elt F))
  :: StableHlo.binary main_v197 main_v205 main_v206 (Host.divf : (⟨S80x500x500, .f32⟩ : BufTy).Contents (Elt F) → (⟨S80x500x500, .f32⟩ : BufTy).Contents (Elt F) → (⟨S80x500x500, .f32⟩ : BufTy).Contents (Elt F))
  :: StableHlo.unary main_values main_v207 (Host.absf : (⟨S80x500, .f32⟩ : BufTy).Contents (Elt F) → (⟨S80x500, .f32⟩ : BufTy).Contents (Elt F))
  :: StableHlo.nullary main_cst_34 (constant S_ .f32 0x7F800000#32)
  :: StableHlo.unary main_cst_34 main_v208 (broadcastInDim S80x500 ![] bcast_S_S80x500 : (⟨S_, .f32⟩ : BufTy).Contents (Elt F) → (⟨S80x500, .f32⟩ : BufTy).Contents (Elt F))
  :: StableHlo.binary main_v207 main_v208 main_v209 (cmpf .olt : (⟨S80x500, .f32⟩ : BufTy).Contents (Elt F) → (⟨S80x500, .f32⟩ : BufTy).Contents (Elt F) → (⟨S80x500, .i1⟩ : BufTy).Contents (Elt F))
  :: StableHlo.nullary main_c_35 (constantI S_ 32 0#32)
  :: StableHlo.nullary main_c_36 (constantI S_ 32 0#32)
  :: StableHlo.unary main_v206 main_v210_0 id
  :: StableHlo.unary main_c_36 main_v210_1 id
  :: StableHlo.unary main_c_35 main_v210_2 id
  :: StableHlo.unary main_v209 main_v210_3 id
  :: [] )
theorem hostOps0_8_cut : (hostOps0_8 : List (HloOp τ sig (Elt F))) = opsA ++ (opsB ++ opsC) := rfl

end Cert.Proof.RI
-- ==== Proof.Box.lean ====
/-
  The boxes over the extended reals: a corner decoded from a proposal's side and its two deltas and clipped to the image,
  and the overlap of two boxes.
-/
module

public import Idealize.ShloMosaic.PureOps.Ideal

@[expose] public section

noncomputable section

namespace Cert.Proof.Box

open Idealize.ShloMosaic

/-- The literals: 1, 1/2, 10, 5, the bound on a logarithmic delta, the overlap bound, the least union. -/
def one : EReal := 1
def half : EReal := Ideal.ofBits .f32 0x3F000000#32
def ten : EReal := Ideal.ofBits .f32 0x41200000#32
def five : EReal := Ideal.ofBits .f32 0x40A00000#32
def cap : EReal := Ideal.ofBits .f32 0x40845349#32
def least : EReal := Ideal.ofBits .f32 0x3089705F#32

/-- The side of a proposal that reaches from `p` to `q`. -/
def side (p q : EReal) : EReal := q - p + one
/-- The decoded centre along one axis, for the delta `d`. -/
def centre (p q d : EReal) : EReal := Ideal.div d ten * side p q + (p + half * side p q)
/-- The decoded extent along one axis, for the logarithmic delta `e`. -/
def extent (p q e : EReal) : EReal := Ideal.exp (min (Ideal.div e five) cap) * side p q
/-- The decoded and clipped lower corner, in an image that ends at `h`. -/
def lower (h p q d e : EReal) : EReal := min h (max 0 (centre p q d - half * extent p q e))
/-- The decoded and clipped upper corner. -/
def upper (h p q d e : EReal) : EReal := min h (max 0 (centre p q d + half * extent p q e - one))

/-- A box: its lower and upper corners along the two axes. -/
abbrev Corners : Type := Fin 4 → EReal

/-- The area of a box. -/
def area (b : Corners) : EReal := (b 2 - b 0) * (b 3 - b 1)
/-- The area that two boxes share. -/
def shared (a b : Corners) : EReal :=
  max (min (a 2) (b 2) - max (a 0) (b 0)) 0 * max (min (a 3) (b 3) - max (a 1) (b 1)) 0
/-- The overlap of two boxes: the shared area over the joint one. -/
def overlap (a b : Corners) : EReal := Ideal.div (shared a b) (max (area a + area b - shared a b) least)

/-- The ends of the image along the two axes. -/
def xEnd : EReal := Ideal.ofBits .f32 0x44A68000#32
def yEnd : EReal := Ideal.ofBits .f32 0x4447C000#32

/-- The decoded and clipped box of the proposal `p` for the deltas `d`. -/
def decoded (p d : Corners) : Corners :=
  ![lower xEnd (p 0) (p 2) (d 0) (d 2), lower yEnd (p 1) (p 3) (d 1) (d 3),
    upper xEnd (p 0) (p 2) (d 0) (d 2), upper yEnd (p 1) (p 3) (d 1) (d 3)]

end Cert.Proof.Box
-- ==== Proof.Gathers.lean ====
/-
  The gathers and the scatter of the host program, read at an index.
-/
module

public import Idealize.ShloMosaic.Lib.Pointwise
public import Idealize.ShloMosaic.Lib.Routing.OpsPair

@[expose] public section

noncomputable section

namespace Cert.Proof.Gathers

open Idealize.ShloMosaic Idealize.ShloMosaic.Routing

/-- A signed word clamped into the places of an axis. -/
def clamp (n : ℕ) (hn : 0 < n) (x : BitVec 32) : Fin n := ⟨min x.toInt.toNat (n - 1), by omega⟩

theorem clamp_of (n : ℕ) (hn : 0 < n) (x : BitVec 32) (k : Fin n) (h : x.toInt = k.val) : clamp n hn x = k := by
  apply Fin.ext
  show min x.toInt.toNat (n - 1) = k.val
  have := k.isLt
  omega

section Pair
variable {α : Type} {A B R C K : ℕ}

/-- The dimension numbers of a gather of rows of length `K`, each named by two index words. -/
abbrev pairDims (A B R C K : ℕ) (wf : GatherDims.WF (shape3 A B K) (shape3 R C 2) (shape3 R C K) [2] [0, 1] [] [0, 1] [] 2 ![1, 1, K]) :
    GatherDims (shape3 A B K) (shape3 R C 2) (shape3 R C K) where
  offsetDims := [2]
  collapsedSliceDims := [0, 1]
  operandBatchingDims := []
  startIndicesBatchingDims := []
  startIndexMap := [0, 1]
  indexVectorDim := 2
  sliceSizes := ![1, 1, K]
  wf := wf

theorem gather_pair (hA : 0 < A) (hB : 0 < B)
    (wf : GatherDims.WF (shape3 A B K) (shape3 R C 2) (shape3 R C K) [2] [0, 1] [] [0, 1] [] 2 ![1, 1, K])
    (x : (shape3 A B K).Idx → α) (idx : IVec (shape3 R C 2) 32) (r : Fin R) (c : Fin C) (k : Fin K) :
    Host.gather (pairDims A B R C K wf) x idx (ix3 r c k)
      = x (ix3 (clamp A hA (idx (ix3 r c 0))) (clamp B hB (idx (ix3 r c 1))) k) := by
  have hsi : ∀ (q : Fin 2) (h : q.val < (pairDims A B R C K wf).startIndexMap.length),
      (pairDims A B R C K wf).siIdx (ix3 r c k) ⟨q.val, h⟩ = ix3 r c q := fun q h => by
    funext b; refine Fin.ext ?_
    match b with
    | ⟨0, _⟩ => rfl
    | ⟨1, _⟩ => rfl
    | ⟨2, _⟩ => rfl
  unfold Host.gather
  congr 1
  funext a
  refine Fin.ext ?_
  show (pairDims A B R C K wf).start (ix3 r c k) idx a + (pairDims A B R C K wf).batchCoord (ix3 r c k) a
    + (pairDims A B R C K wf).offCoord (ix3 r c k) a = _
  rw [GatherDims.batchCoord_eq_zero _ _ _ List.not_mem_nil]
  match a with
  | ⟨0, _⟩ =>
    rw [GatherDims.offCoord_eq_zero _ _ _ (fun h => ((GatherDims.mem_sKept _ _).mp h).1 (by simp))]
    unfold GatherDims.start
    rw [dif_pos (by simp)]
    have := hsi 0 (by simp)
    exact congrArg (fun j => min (idx j).toInt.toNat (A - 1)) this
  | ⟨1, _⟩ =>
    rw [GatherDims.offCoord_eq_zero _ _ _ (fun h => ((GatherDims.mem_sKept _ _).mp h).1 (by simp))]
    unfold GatherDims.start
    rw [dif_pos (by simp)]
    have := hsi 1 (by simp)
    exact congrArg (fun j => min (idx j).toInt.toNat (B - 1)) this
  | ⟨2, _⟩ =>
    unfold GatherDims.start
    rw [dif_neg (fun h => by simp [Fin.ext_iff] at h)]
    simp only [Nat.zero_add]
    unfold GatherDims.offCoord
    rw [dif_pos ((GatherDims.mem_sKept _ _).2 ⟨by simp, by simp⟩)]
    rfl

end Pair

section Row
variable {α : Type} {A R C K : ℕ}

/-- The dimension numbers of a gather of rows of length `K`, each named by one index word. -/
abbrev rowDims (A R C K : ℕ) (wf : GatherDims.WF (shape2 A K) (shape3 R C 1) (shape3 R C K) [2] [0] [] [0] [] 2 ![1, K]) :
    GatherDims (shape2 A K) (shape3 R C 1) (shape3 R C K) where
  offsetDims := [2]
  collapsedSliceDims := [0]
  operandBatchingDims := []
  startIndicesBatchingDims := []
  startIndexMap := [0]
  indexVectorDim := 2
  sliceSizes := ![1, K]
  wf := wf

theorem gather_row (hA : 0 < A)
    (wf : GatherDims.WF (shape2 A K) (shape3 R C 1) (shape3 R C K) [2] [0] [] [0] [] 2 ![1, K])
    (x : (shape2 A K).Idx → α) (idx : IVec (shape3 R C 1) 32) (r : Fin R) (c : Fin C) (k : Fin K) :
    Host.gather (rowDims A R C K wf) x idx (ix3 r c k) = x (ix2 (clamp A hA (idx (ix3 r c 0))) k) := by
  have hsi : ∀ (q : Fin 1) (h : q.val < (rowDims A R C K wf).startIndexMap.length),
      (rowDims A R C K wf).siIdx (ix3 r c k) ⟨q.val, h⟩ = ix3 r c q := fun q h => by
    funext b; refine Fin.ext ?_
    match b with
    | ⟨0, _⟩ => rfl
    | ⟨1, _⟩ => rfl
    | ⟨2, _⟩ => rfl
  unfold Host.gather
  congr 1
  funext a
  refine Fin.ext ?_
  show (rowDims A R C K wf).start (ix3 r c k) idx a + (rowDims A R C K wf).batchCoord (ix3 r c k) a
    + (rowDims A R C K wf).offCoord (ix3 r c k) a = _
  rw [GatherDims.batchCoord_eq_zero _ _ _ List.not_mem_nil]
  match a with
  | ⟨0, _⟩ =>
    rw [GatherDims.offCoord_eq_zero _ _ _ (fun h => ((GatherDims.mem_sKept _ _).mp h).1 (by simp))]
    unfold GatherDims.start
    rw [dif_pos (by simp)]
    have := hsi 0 (by simp)
    exact congrArg (fun j => min (idx j).toInt.toNat (A - 1)) this
  | ⟨1, _⟩ =>
    unfold GatherDims.start
    rw [dif_neg (fun h => by simp [Fin.ext_iff] at h)]
    simp only [Nat.zero_add]
    unfold GatherDims.offCoord
    rw [dif_pos ((GatherDims.mem_sKept _ _).2 ⟨by simp, by simp⟩)]
    rfl

end Row

theorem foldl_none {β α : Type} (f : β → Prop) [DecidablePred f] (g : β → α) (l : List β) (x : α) (h : ∀ b ∈ l, ¬ f b) :
    l.foldl (fun a n => if f n then g n else a) x = x := by
  induction l generalizing x with
  | nil => rfl
  | cons b l ih =>
    rw [List.foldl_cons, if_neg (h b List.mem_cons_self)]
    exact ih x fun b hb => h b (List.mem_cons_of_mem _ hb)

theorem foldl_unique {β α : Type} (f : β → Prop) [DecidablePred f] (g : β → α) (l : List β) (x : α) (b : β) (hb : b ∈ l) (hf : f b)
    (h : ∀ c ∈ l, f c → c = b) : l.foldl (fun a n => if f n then g n else a) x = g b := by
  induction l generalizing x with
  | nil => exact absurd hb List.not_mem_nil
  | cons c l ih =>
    rw [List.foldl_cons]
    by_cases hl : b ∈ l
    · exact ih _ hl fun d hd => h d (List.mem_cons_of_mem _ hd)
    · have e : b = c := (List.mem_cons.1 hb).resolve_right hl
      subst e
      rw [if_pos hf]
      exact foldl_none f g l _ fun d hd hfd => hl (h d (List.mem_cons_of_mem _ hd) hfd ▸ hd)

/-- A scatter that puts update `(r, b)` at `(r, p r b)`, each `p r` one to one, read at such a place. -/
theorem scatter_perm {α : Type} {R C : ℕ} (d : ScatterDims (shape2 R C) (shape3 R C 2) (shape2 R C)) (hiw : d.insertedWindowDims = [0, 1])
    (hsd : d.scatterDimsToOperandDims = [0, 1]) (hivd : d.indexVectorDim = 2) (x : (shape2 R C).Idx → α) (idx : IVec (shape3 R C 2) 32)
    (u : (shape2 R C).Idx → α) (p : Fin R → Fin C → Fin C) (hp : ∀ r, Function.Injective (p r))
    (h0 : ∀ r c, (idx (ix3 r c 0)).toInt = r.val) (h1 : ∀ r c, (idx (ix3 r c 1)).toInt = (p r c).val) (r : Fin R) (c : Fin C) :
    Host.scatter d (fun _ b => b) x idx u (ix2 r (p r c)) = u (ix2 r c) := by
  rw [scatter_at]
  have e := foldl_unique (fun n => d.resultIdx? ((shape2 R C).rowMajor.symm n) idx = some (ix2 r (p r c)))
    (fun n => u ((shape2 R C).rowMajor.symm n)) (List.finRange (shape2 R C).numel) (x (ix2 r (p r c)))
    ((shape2 R C).rowMajor (ix2 r c)) (List.mem_finRange _)
    (by
      show d.resultIdx? ((shape2 R C).rowMajor.symm ((shape2 R C).rowMajor (ix2 r c))) idx = _
      rw [Equiv.symm_apply_apply]
      exact (scatter_lands2 d hiw hsd hivd idx r c r (p r c)).2 ⟨h0 r c, h1 r c⟩)
    (fun n _ hn => by
      apply (shape2 R C).rowMajor.symm.injective
      rw [Equiv.symm_apply_apply]
      generalize (shape2 R C).rowMajor.symm n = j at hn
      obtain ⟨a, b, rfl⟩ : ∃ (a : Fin R) (b : Fin C), j = ix2 a b := ⟨j 0, j 1, eq_ix2 j⟩
      have this := (scatter_lands2 d hiw hsd hivd idx a b r (p r c)).1 hn
      have f0 := (h0 a b).symm.trans this.1
      have f1 := (h1 a b).symm.trans this.2
      obtain rfl : a = r := Fin.ext (by exact_mod_cast f0)
      rw [hp a (Fin.ext (by exact_mod_cast f1) : p a b = p a c)])
  refine Eq.trans ?_ (e.trans ?_)
  · rfl
  · show u ((shape2 R C).rowMajor.symm ((shape2 R C).rowMajor (ix2 r c))) = _
    rw [Equiv.symm_apply_apply]

end Cert.Proof.Gathers
-- ==== Proof.RI.Decode.lean ====
/-
  The reference's decoding of every box, read at an index.
-/
module

public import proofs.«01_k».proof.Proof.RI.Ops
public import proofs.«01_k».proof.Proof.Box
public import proofs.«01_k».proof.Proof.Gathers
public import Idealize.ShloMosaic.Lib.Pointwise
public import Idealize.ShloMosaic.Lib.StableHlo.ReadAt

@[expose] public section

set_option maxRecDepth 100000
set_option maxHeartbeats 4000000

noncomputable section

namespace Cert.Proof.RI

open Cert.ReferenceIdeal Cert.ReferenceIdeal.Gen
open Idealize.ShloMosaic Idealize.ShloMosaic.StableHlo

variable (V : Valuation τ sig (Elt Ideal))

/-- A proposal's corners and the deltas of a proposal and a class. -/
def prop (V : Valuation τ sig (Elt Ideal)) (n : Fin 20000) : Box.Corners := fun k => V (Proc.devRef .tc main_arg4) (ix2 n k)
def delt (V : Valuation τ sig (Elt Ideal)) (n : Fin 20000) (c : Fin 81) : Box.Corners := fun k =>
  V (Proc.devRef .tc main_arg2) (ix2 n ⟨c.val * 4 + k.val, by have := c.isLt; have := k.isLt; omega⟩)

/-- The contents before the boxes of the selected slots are read. -/
def pre7 (V : Valuation τ sig (Elt Ideal)) : Valuation τ sig (Elt Ideal) :=
  after (hostOps0_7 (F := Ideal)) (after hostOps0_6 (after hostOps0_5 (after hostOps0_4 (after hostOps0_3 (after hostOps0_2 (after hostOps0_1 (after hostOps0 V)))))))

theorem dec0 (n : Fin 20000) (c : Fin 81) :
    after opsA (pre7 V) (Proc.devRef .tc main_v107) (ix3 n c 0) = Box.decoded (prop V n) (delt V n c) 0 := by
  unfold pre7
  after_reads_at
  after_reads_at
  after_reads_at
  simp only [id_eq]
  pointwise
  rfl
theorem dec1 (n : Fin 20000) (c : Fin 81) :
    after opsA (pre7 V) (Proc.devRef .tc main_v107) (ix3 n c 1) = Box.decoded (prop V n) (delt V n c) 1 := by
  unfold pre7
  after_reads_at
  after_reads_at
  after_reads_at
  simp only [id_eq]
  pointwise
  rfl
theorem dec2 (n : Fin 20000) (c : Fin 81) :
    after opsA (pre7 V) (Proc.devRef .tc main_v107) (ix3 n c 2) = Box.decoded (prop V n) (delt V n c) 2 := by
  unfold pre7
  after_reads_at
  after_reads_at
  after_reads_at
  simp only [id_eq]
  pointwise
  rfl
theorem dec3 (n : Fin 20000) (c : Fin 81) :
    after opsA (pre7 V) (Proc.devRef .tc main_v107) (ix3 n c 3) = Box.decoded (prop V n) (delt V n c) 3 := by
  unfold pre7
  after_reads_at
  after_reads_at
  after_reads_at
  simp only [id_eq]
  pointwise
  rfl

theorem dec_at (n : Fin 20000) (c : Fin 81) (k : Fin 4) :
    after opsA (pre7 V) (Proc.devRef .tc main_v107) (ix3 n c k) = Box.decoded (prop V n) (delt V n c) k := by
  match k with
  | ⟨0, _⟩ => exact dec0 V n c
  | ⟨1, _⟩ => exact dec1 V n c
  | ⟨2, _⟩ => exact dec2 V n c
  | ⟨3, _⟩ => exact dec3 V n c

end Cert.Proof.RI
-- ==== Proof.PI.Body.lean ====
/-
  The suppression kernel's body: the fixpoint loop as a function of the trips it may still make, the loop's label met by
  that function whenever the trips suffice, and the body's triple.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop as a function -/

/-- One trip's test: does the trip from `a` change an entry? -/
def changes (S : FVec F S500x500 .f32) (v a : FVec F S1x500 .f32) : BitVec 1 :=
  Scalar.cmpf .ogt (k0_pay5 S v a) (Scalar.ofBits .f32 0x00000000#32)

/-- The loop entered at `a` with flag `b`, at most `n` trips made: what it carries when the flag is down or the trips
    are spent. -/
def loopRun (S : FVec F S500x500 .f32) (v : FVec F S1x500 .f32) : ℕ → FVec F S1x500 .f32 → BitVec 1 → FVec F S1x500 .f32 × BitVec 1
  | 0, a, b => (a, b)
  | n + 1, a, b => if b = 1#1 then loopRun S v n (k0_pay4 S v a) (changes S v a) else (a, b)

theorem loopRun_stop (S : FVec F S500x500 .f32) (v a : FVec F S1x500 .f32) (b : BitVec 1) (h : b ≠ 1#1) (n : ℕ) :
    loopRun S v n a b = (a, b) := by
  cases n with
  | zero => rfl
  | succ n => simp only [loopRun, if_neg h]

theorem loopRun_succ (S : FVec F S500x500 .f32) (v a : FVec F S1x500 .f32) (n : ℕ) :
    loopRun S v (n + 1) a 1#1 = loopRun S v n (k0_pay4 S v a) (changes S v a) := by
  simp only [loopRun, if_true]

/-! ## The values the body binds, over the four blocks it loads -/

abbrev r0_0 : Rect S1x1x500 := Rect.unit (s := S1x1x500) ![0, 0, 0] S1x1x500.size inb_S1x1x500_S1x1x500_0_0_0
abbrev r0_1 : Rect S1x4x500 := Rect.unit (s := S1x4x500) ![0, 0, 0] S1x4x500.size inb_S1x4x500_S1x4x500_0_0_0

/-- The scores and the selected rows' numbers, as rows. -/
def bS (x0 : Vec F S1x1x500 .f32) : FVec F S1x500 .f32 := k0_pay6 (View.ld x0 r0_0)
def bN (x1 : Vec F S1x1x500 .f32) : FVec F S1x500 .f32 := k0_pay7 (View.ld x1 r0_0)
/-- The decoded and clipped corners, from the deltas' block `x2` and the proposals' block `x3`. -/
def bX1 (x2 x3 : Vec F S1x4x500 .f32) : FVec F S1x500 .f32 :=
  k0_pay22 (k0_pay10 (View.ld x3 r0_1)) (k0_pay12 (View.ld x3 r0_1)) (k0_pay14 (View.ld x2 r0_1)) (k0_pay16 (View.ld x2 r0_1))
def bY1 (x2 x3 : Vec F S1x4x500 .f32) : FVec F S1x500 .f32 :=
  k0_pay23 (k0_pay11 (View.ld x3 r0_1)) (k0_pay13 (View.ld x3 r0_1)) (k0_pay15 (View.ld x2 r0_1)) (k0_pay17 (View.ld x2 r0_1)) (Scalar.ofBits .f32 0x40A00000#32)
def bX2 (x2 x3 : Vec F S1x4x500 .f32) : FVec F S1x500 .f32 :=
  k0_pay24 (k0_pay10 (View.ld x3 r0_1)) (k0_pay12 (View.ld x3 r0_1)) (k0_pay14 (View.ld x2 r0_1)) (k0_pay16 (View.ld x2 r0_1))
def bY2 (x2 x3 : Vec F S1x4x500 .f32) : FVec F S1x500 .f32 :=
  k0_pay25 (k0_pay11 (View.ld x3 r0_1)) (k0_pay13 (View.ld x3 r0_1)) (k0_pay15 (View.ld x2 r0_1)) (k0_pay17 (View.ld x2 r0_1)) (Scalar.ofBits .f32 0x40A00000#32)
def bW (x2 x3 : Vec F S1x4x500 .f32) : FVec F S1x500 .f32 :=
  k0_pay26 (k0_pay10 (View.ld x3 r0_1)) (k0_pay12 (View.ld x3 r0_1)) (k0_pay14 (View.ld x2 r0_1)) (k0_pay16 (View.ld x2 r0_1))
/-- The suppression matrix and the row of candidates. -/
def bSup (x0 x1 : Vec F S1x1x500 .f32) (x2 x3 : Vec F S1x4x500 .f32) : FVec F S500x500 .f32 :=
  k0_pay27 (bS x0) (bN x1) (bX1 x2 x3) (bY1 x2 x3) (bX2 x2 x3) (bY2 x2 x3) (bW x2 x3)
def bV (x0 : Vec F S1x1x500 .f32) : FVec F S1x500 .f32 := k0_pay1 (bS x0) (k0_pay28 (F := F))
/-- The loop's result from the candidates, 501 trips allowed. -/
def bLoop (x0 x1 : Vec F S1x1x500 .f32) (x2 x3 : Vec F S1x4x500 .f32) : FVec F S1x500 .f32 × BitVec 1 :=
  loopRun (bSup x0 x1 x2 x3) (bV x0) 501 (bV x0) 1#1

/-- The loop stops within 501 trips, whatever the blocks. -/
def Halts (F : FTy → Type) [FloatOps F] : Prop :=
  ∀ (x0 x1 : Vec F S1x1x500 .f32) (x2 x3 : Vec F S1x4x500 .f32), (bLoop x0 x1 x2 x3).2 ≠ 1#1

/-- The scores' result block and the boxes' after the body. -/
def out4 (x0 x1 : Vec F S1x1x500 .f32) (x2 x3 : Vec F S1x4x500 .f32) : Vec F S1x1x500 .f32 :=
  View.canon [⟨r0_0, k0_pay2 (bS x0) (bLoop x0 x1 x2 x3).1⟩]
def out5 (x0 x1 : Vec F S1x1x500 .f32) (x2 x3 : Vec F S1x4x500 .f32) : Vec F S1x4x500 .f32 :=
  View.canon [⟨r0_1, k0_pay3 (bX1 x2 x3) (bY1 x2 x3) (bX2 x2 x3) (bY2 x2 x3)⟩]

theorem cover4 (p0 : Vec F S1x1x500 .f32) (y : S1x1x500.Idx) :
    ∃ pc ∈ ([⟨r0_0, p0⟩] : List (View.Piece (Elt F) S1x1x500 .f32)), y ∈ pc.1.set :=
  View.cover_of_tiled [⟨r0_0, p0⟩] S1x1x500.size (by rfl) y
theorem cover5 (p0 : Vec F S1x4x500 .f32) (y : S1x4x500.Idx) :
    ∃ pc ∈ ([⟨r0_1, p0⟩] : List (View.Piece (Elt F) S1x4x500 .f32)), y ∈ pc.1.set :=
  View.cover_of_tiled [⟨r0_1, p0⟩] S1x4x500.size (by rfl) y

/-! ## The loop's label -/

/-- The variants: the trips the loop may still make. -/
abbrev 𝒱₀ : Variants := Variants.nat

/-- What the label is asked for: holding nothing, the loop's result. -/
def spec (S : FVec F S500x500 .f32) (v : FVec F S1x500 .f32) (n : ℕ) (a : FVec F S1x500 .f32) (b : BitVec 1) :
    sWPT 𝕄 (FVec F S1x500 .f32 × BitVec 1) := pure (loopRun S v n a b)

theorem spec_apply (S : FVec F S500x500 .f32) (v : FVec F S1x500 .f32) (n : ℕ) (a : FVec F S1x500 .f32) (b : BitVec 1)
    (K : FVec F S1x500 .f32 × BitVec 1 → sProp 𝕄) : spec S v n a b K = K (loopRun S v n a b) := rfl

/-- The label's body meets it, at every count of trips after which the flag is down. -/
theorem spec_le (c : Dev nD) (E : Set ℕ) (i : grid0.Coords) (S : FVec F S500x500 .f32) (v : FVec F S1x500 .f32) :
    ∀ n a b, (loopRun S v n a b).2 ≠ 1#1 → ∀ K, spec S v n a b K
      ⊢ wp frame (wpE (defs₀ (F := F)) 𝒱₀ (c : Thread nD τ) (some n)) E (defs₀ (F := F) .tc 1 ⟨i, S, v, a, b⟩) K := by
  intro n
  induction n with
  | zero =>
    intro a b hb K
    rw [spec_apply]
    show _ ⊢ wp frame (wpE (defs₀ (F := F)) 𝒱₀ (c : Thread nD τ) (some 0)) E (cc0_while1 i S v a b) K
    simp only [cc0_while1_eq_skeleton]; unfold cc0_while1_skel
    have hb' : b ≠ 1#1 := hb
    simp only [if_neg hb', Prog.pure_eq_ret]
    rw [show loopRun S v 0 a b = (a, b) from rfl]
    iintro Hk
    rw [wp_ret]; imodintro
    iexact Hk
  | succ n ih =>
    intro a b hb K
    rw [spec_apply]
    show _ ⊢ wp frame (wpE (defs₀ (F := F)) 𝒱₀ (c : Thread nD τ) (some (n + 1))) E (cc0_while1 i S v a b) K
    simp only [cc0_while1_eq_skeleton]; unfold cc0_while1_skel
    by_cases h : b = 1#1
    · subst h
      rw [loopRun_succ] at hb ⊢
      simp only [if_true, Prog.lift, Prog.bind_op, Prog.bind_ret, Prog.pure_eq_ret]
      iintro Hk
      iapply (wp_call_spec 𝒱₀ (c : Thread nD τ) (some (n + 1)) E (spec S v n (k0_pay4 S v a) (changes S v a)) n
        (fun u hu => by cases hu; exact Nat.lt_succ_self n) (ih (k0_pay4 S v a) (changes S v a) hb))
      rw [spec_apply]
      rw [wp_ret]; imodintro
      iexact Hk
    · simp only [if_neg h, Prog.pure_eq_ret]
      rw [loopRun_stop S v a b h]
      iintro Hk
      rw [wp_ret]; imodintro
      iexact Hk

/-! ## The body's triple -/

set_option maxHeartbeats 1600000 in
/-- The body on whole staging buffers runs to the continuation holding the inputs as they were and each result at its
    function of the inputs. -/
theorem sound_kernel (H : Halts F) (c : Dev nD) (i : grid0.Coords) (arg1 : Memref sig .tc .vmem S1x1x500 .f32) (harg1 : arg1.IsWhole) (arg2 : Memref sig .tc .vmem S1x1x500 .f32) (harg2 : arg2.IsWhole) (arg3 : Memref sig .tc .vmem S1x4x500 .f32) (harg3 : arg3.IsWhole) (arg4 : Memref sig .tc .vmem S1x4x500 .f32) (harg4 : arg4.IsWhole) (arg5 : Memref sig .tc .vmem S1x1x500 .f32) (harg5 : arg5.IsWhole) (arg6 : Memref sig .tc .vmem S1x4x500 .f32) (harg6 : arg6.IsWhole)
    (x0 x1 : Vec F S1x1x500 .f32) (x2 x3 : Vec F S1x4x500 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3) ∗ owns (c : Thread nD τ) arg6 fullShare (out5 x0 x1 x2 x3)) -∗ K ⟨⟩))
      ⊢ wp frame (wpE (defs₀ (F := F)) 𝒱₀ c none) Set.univ (cc0__nms_kernel i arg1 harg1 arg2 harg2 arg3 harg3 arg4 harg4 arg5 harg5 arg6 harg6) K := by
  simp only [cc0__nms_kernel_eq_skeleton]; unfold cc0__nms_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  have hs := spec_le (F := F) c Set.univ i (bSup (arg1.view.read (Elt F) f0) (arg2.view.read (Elt F) f1) (arg3.view.read (Elt F) f2) (arg4.view.read (Elt F) f3))
    (bV (arg1.view.read (Elt F) f0)) 501 (bV (arg1.view.read (Elt F) f0)) 1#1
    (H (arg1.view.read (Elt F) f0) (arg2.view.read (Elt F) f1) (arg3.view.read (Elt F) f2) (arg4.view.read (Elt F) f3))
  iapply (wp_call_spec 𝒱₀ (c : Thread nD τ) none Set.univ (spec (bSup (arg1.view.read (Elt F) f0) (arg2.view.read (Elt F) f1) (arg3.view.read (Elt F) f2) (arg4.view.read (Elt F) f3))
    (bV (arg1.view.read (Elt F) f0)) 501 (bV (arg1.view.read (Elt F) f0)) 1#1) 501 (fun u hu => nomatch hu) hs)
  rw [spec_apply]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover4 _)).trans ?_
    rfl
  iexists _; isplitr
  swap; · iexact H5
  ipureintro
  refine (View.read_writes_eq_canon _ _ _ (cover5 _)).trans ?_
  rfl

end Cert.Proof.PI

end
-- ==== Proof.Greedy.lean ====
/-
  Greedy suppression over a finite set of slots, in plain terms: the sweep a kernel iterates, the fixed point it
  reaches, the loop that goes through the slots in order, and that the two select the same slots.
-/
module
public import Mathlib.Data.Fintype.Card
public import Mathlib.Data.Fin.Basic
public import Mathlib.Logic.Function.Iterate

@[expose] public section

namespace Cert.Proof.Greedy

variable {n : ℕ}

/-- One sweep: a slot stays when it is valid and no slot kept before the sweep suppresses it. -/
def step (v : Fin n → Prop) (sup : Fin n → Fin n → Prop) (K : Fin n → Prop) : Fin n → Prop :=
  fun j => v j ∧ ¬ ∃ i, K i ∧ sup i j

open Classical in
/-- How many slots come before `j`. -/
noncomputable def rank (pre : Fin n → Fin n → Prop) (j : Fin n) : ℕ :=
  (Finset.univ.filter fun i => pre i j).card

variable {pre sup : Fin n → Fin n → Prop}

/-- In a strict order fewer than `n` slots come before a slot. -/
theorem rank_lt (hirr : ∀ i, ¬ pre i i) (j : Fin n) : rank pre j < n := by
  classical
  unfold rank
  calc _ < (Finset.univ : Finset (Fin n)).card :=
        Finset.card_lt_card (Finset.ssubset_iff_subset_ne.mpr ⟨Finset.subset_univ _, fun e => hirr j (by
          have : j ∈ (Finset.univ.filter fun i => pre i j) := by rw [e]; exact Finset.mem_univ j
          exact (Finset.mem_filter.mp this).2)⟩)
    _ = n := by simp

/-- A slot before another one has the smaller rank. -/
theorem rank_lt_rank (hirr : ∀ i, ¬ pre i i) (htr : ∀ i j k, pre i j → pre j k → pre i k) {i j : Fin n}
    (h : pre i j) : rank pre i < rank pre j := by
  classical
  unfold rank
  refine Finset.card_lt_card (Finset.ssubset_iff_subset_ne.mpr ⟨fun k hk => ?_, fun e => ?_⟩)
  · exact Finset.mem_filter.mpr ⟨Finset.mem_univ _, htr _ _ _ (Finset.mem_filter.mp hk).2 h⟩
  · have : i ∈ Finset.univ.filter fun k => pre k j := Finset.mem_filter.mpr ⟨Finset.mem_univ _, h⟩
    rw [← e] at this
    exact hirr i (Finset.mem_filter.mp this).2

/-- After more sweeps than its rank a slot does not change any more. -/
theorem settled (hirr : ∀ i, ¬ pre i i) (htr : ∀ i j k, pre i j → pre j k → pre i k)
    (hsup : ∀ i j, sup i j → pre i j) (v K : Fin n → Prop) :
    ∀ (m : ℕ) (j : Fin n), rank pre j < m → ((step v sup)^[m + 1] K j ↔ (step v sup)^[m] K j) := by
  intro m
  induction m with
  | zero => intro j h; omega
  | succ m ih =>
    intro j h
    rw [Function.iterate_succ_apply' _ (m + 1), Function.iterate_succ_apply' _ m]
    show (v j ∧ ¬ ∃ i, _) ↔ (v j ∧ ¬ ∃ i, _)
    refine and_congr_right fun _ => not_congr (exists_congr fun i => and_congr_left fun hi => ?_)
    have hr := rank_lt_rank hirr htr (hsup i j hi)
    rw [← Function.iterate_succ_apply' (step v sup) m]
    exact ih i (by omega)

/-- `n` sweeps reach a fixed point, from any start. -/
theorem fixed (hirr : ∀ i, ¬ pre i i) (htr : ∀ i j k, pre i j → pre j k → pre i k)
    (hsup : ∀ i j, sup i j → pre i j) (v K : Fin n → Prop) :
    (step v sup)^[n + 1] K = (step v sup)^[n] K :=
  funext fun j => propext (settled hirr htr hsup v K n j (rank_lt hirr j))

/-- The sweep has one fixed point only. -/
theorem unique (hirr : ∀ i, ¬ pre i i) (htr : ∀ i j k, pre i j → pre j k → pre i k)
    (hsup : ∀ i j, sup i j → pre i j) (v K K' : Fin n → Prop) (h : step v sup K = K) (h' : step v sup K' = K') :
    K = K' := by
  have key : ∀ (m : ℕ) (j : Fin n), rank pre j < m → (K j ↔ K' j) := by
    intro m
    induction m with
    | zero => intro j hj; omega
    | succ m ih =>
      intro j hj
      rw [← h, ← h']
      show (v j ∧ ¬ ∃ i, _) ↔ (v j ∧ ¬ ∃ i, _)
      refine and_congr_right fun _ => not_congr (exists_congr fun i => and_congr_left fun hi => ?_)
      have hr := rank_lt_rank hirr htr (hsup i j hi)
      exact ih i (by omega)
  exact funext fun j => propext (key _ j (Nat.lt_succ_self _))

/-- One turn of the ordered loop: slot `k`, if it is still kept, strikes out the later slots it overlaps. -/
def turn (R : Fin n → Fin n → Prop) (k : ℕ) (K : Fin n → Prop) : Fin n → Prop :=
  fun j => K j ∧ ¬ ∃ h : k < n, R ⟨k, h⟩ j ∧ k < j.val ∧ K ⟨k, h⟩

/-- The kept slots after `k` turns of the ordered loop. -/
def seq (v : Fin n → Prop) (R : Fin n → Fin n → Prop) : ℕ → Fin n → Prop
  | 0 => v
  | k + 1 => turn R k (seq v R k)

/-- A slot's own turn and the turns after it leave it alone. -/
theorem seq_stays (v : Fin n → Prop) (R : Fin n → Fin n → Prop) (j : Fin n) :
    ∀ d : ℕ, seq v R (j.val + d) j ↔ seq v R j.val j := by
  intro d
  induction d with
  | zero => exact Iff.rfl
  | succ d ih =>
    rw [← ih]
    show (_ ∧ ¬ ∃ h : j.val + d < n, _) ↔ _
    refine ⟨fun h => h.1, fun h => ⟨h, ?_⟩⟩
    rintro ⟨_, _, h', _⟩
    exact absurd h' (Nat.not_lt.mpr (Nat.le_add_right _ _))

/-- What the ordered loop has struck out after `k` turns. -/
theorem seq_iff (v : Fin n → Prop) (R : Fin n → Fin n → Prop) :
    ∀ (k : ℕ) (j : Fin n), seq v R k j ↔
      v j ∧ ¬ ∃ i : Fin n, i.val < k ∧ seq v R i.val i ∧ (R i j ∧ i < j) := by
  intro k
  induction k with
  | zero => intro j; show v j ↔ _; simp
  | succ k ih =>
    intro j
    show (seq v R k j ∧ ¬ ∃ h : k < n, R ⟨k, h⟩ j ∧ k < j.val ∧ seq v R k ⟨k, h⟩) ↔ _
    rw [ih j]
    constructor
    · rintro ⟨⟨hv, h1⟩, h2⟩
      refine ⟨hv, ?_⟩
      rintro ⟨i, hi, hK, hR, hij⟩
      rcases Nat.lt_succ_iff_lt_or_eq.mp hi with hlt | heq
      · exact h1 ⟨i, hlt, hK, hR, hij⟩
      · subst heq
        exact h2 ⟨i.isLt, hR, hij, hK⟩
    · rintro ⟨hv, h⟩
      refine ⟨⟨hv, ?_⟩, ?_⟩
      · rintro ⟨i, hi, hK, hR, hij⟩
        exact h ⟨i, by omega, hK, hR, hij⟩
      · rintro ⟨hk, hR, hij, hK⟩
        exact h ⟨⟨k, hk⟩, by show k < k + 1; omega, hK, hR, hij⟩

/-- The whole ordered loop ends in the fixed point of the sweep in which the earlier slot suppresses the later. -/
theorem seq_fixed (v : Fin n → Prop) (R : Fin n → Fin n → Prop) :
    step v (fun i j => R i j ∧ i < j) (seq v R n) = seq v R n := by
  funext j
  apply propext
  rw [seq_iff v R n j]
  show (v j ∧ ¬ ∃ i, seq v R n i ∧ _) ↔ _
  refine and_congr_right fun _ => not_congr (exists_congr fun i => ?_)
  have hs : seq v R n i ↔ seq v R i.val i := by
    have := seq_stays v R i (n - i.val)
    rwa [show i.val + (n - i.val) = n by have := i.isLt; omega] at this
  rw [hs]
  exact ⟨fun h => ⟨i.isLt, h⟩, fun h => h.2⟩

/-- The sweep's fixed point over the slots as they lie, read in sorted order, is what the ordered loop over the
    sorted slots leaves. -/
theorem sorted_eq (p : Fin n → Fin n) (hp : Function.Bijective p) (v : Fin n → Prop) (O : Fin n → Fin n → Prop)
    (hpre : ∀ a b, pre (p a) (p b) ↔ a < b) (K : Fin n → Prop)
    (hK : step v (fun i j => O i j ∧ pre i j) K = K) (a : Fin n) :
    K (p a) ↔ seq (fun a => v (p a)) (fun a b => O (p a) (p b)) n a := by
  have h : step (fun a => v (p a)) (fun a b => O (p a) (p b) ∧ a < b) (fun a => K (p a)) = fun a => K (p a) := by
    funext b
    conv_rhs => rw [← hK]
    apply propext
    show (v (p b) ∧ ¬ ∃ i, _) ↔ (v (p b) ∧ ¬ ∃ i, _)
    refine and_congr_right fun _ => not_congr ⟨?_, ?_⟩
    · rintro ⟨i, h1, h2, h3⟩
      exact ⟨p i, h1, h2, (hpre i b).mpr h3⟩
    · rintro ⟨i, h1, h2, h3⟩
      obtain ⟨a, rfl⟩ := hp.2 i
      exact ⟨a, h1, h2, (hpre a b).mp h3⟩
  have hu := unique (pre := fun a b : Fin n => a < b) (sup := fun a b => O (p a) (p b) ∧ a < b)
    (fun i => lt_irrefl i) (fun _ _ _ => lt_trans) (fun _ _ h => h.2) _ _ _ h
    (seq_fixed (fun a => v (p a)) (fun a b => O (p a) (p b)))
  exact iff_of_eq (congrFun hu a)

end Cert.Proof.Greedy
-- ==== Proof.PI.Value.lean ====
/-
  The suppression kernel's body read at its slots: the loop's trip, its test, and the suppression matrix.
-/
module

public import proofs.«01_k».proof.Proof.PI.Body
public import proofs.«01_k».proof.Proof.Greedy
public import proofs.«01_k».proof.Proof.Box
public import Idealize.ShloMosaic.Lib.Pointwise
public import Idealize.ShloMosaic.Lib.Pipeline.Value
public import Idealize.ShloMosaic.Lib.Pipeline.ValueKit.Basic

@[expose] public section

set_option maxRecDepth 16384

noncomputable section

namespace Cert.Proof.PI

open Cert.KernelIdeal Cert.KernelIdeal.Gen
open Idealize.ShloMosaic

open Classical in
/-- One where `p` holds, zero elsewhere. -/
def ind (p : Prop) : EReal := if p then 1 else 0

theorem ind_eq (p : Prop) [Decidable p] : ind p = if p then 1 else 0 := by
  unfold ind
  by_cases h : p <;> simp only [h, if_true, if_false]

/-- A set of slots as a row of ones and zeros. -/
def row (K : Fin 500 → Prop) : FVec Ideal S1x500 .f32 := fun j => ind (K (j 1))

/-- A relation of slots as a matrix of ones and zeros. -/
def mat (R : Fin 500 → Fin 500 → Prop) : FVec Ideal S500x500 .f32 := fun j => ind (R (j 0) (j 1))

theorem row_at (K : Fin 500 → Prop) [DecidablePred K] (j : Fin 500) : row K (ix2 0 j) = if K j then (1 : EReal) else 0 := by
  exact (rfl : row K (ix2 0 j) = ind (K j)).trans (ind_eq (K j))

theorem mat_at (R : Fin 500 → Fin 500 → Prop) (i j : Fin 500) [Decidable (R i j)] :
    mat R (ix2 i j) = if R i j then (1 : EReal) else 0 := by
  exact (rfl : mat R (ix2 i j) = ind (R i j)).trans (ind_eq (R i j))

theorem row_inj (K K' : Fin 500 → Prop) (h : row K = row K') : K = K' := by
  classical
  funext j
  have := congrFun h (ix2 0 j)
  rw [row_at, row_at] at this
  by_cases hk : K j <;> by_cases hk' : K' j <;> simp_all

/-- A row's vector is its entries. -/
theorem row_ext (a b : FVec Ideal S1x500 .f32) (h : ∀ j : Fin 500, a (ix2 0 j) = b (ix2 0 j)) : a = b := by
  funext j
  have e : j = ix2 0 (j 1) := by
    rw [eq_ix2 j]
    congr 1
    exact Subsingleton.elim (α := Fin 1) _ _
  rw [e]; exact h _

theorem mat_ext (a b : FVec Ideal S500x500 .f32) (h : ∀ i j : Fin 500, a (ix2 i j) = b (ix2 i j)) : a = b := by
  funext j
  rw [eq_ix2 j]; exact h _ _

open Classical in
/-- A sum of products of ones and zeros is positive just when one product is a one. -/
theorem sum_pos_iff (A B : Fin 500 → Prop) :
    0 < ∑ k, (if A k then (1 : EReal) else 0) * (if B k then (1 : EReal) else 0) ↔ ∃ k, A k ∧ B k := by
  have h0 : ∀ k, 0 ≤ (if A k then (1 : EReal) else 0) * (if B k then (1 : EReal) else 0) := by
    intro k
    split_ifs <;> simp
  constructor
  · intro h
    by_contra hn
    push Not at hn
    refine absurd h (not_lt.mpr (le_of_eq (Finset.sum_eq_zero fun k _ => ?_)))
    by_cases hA : A k
    · simp [hA, hn k hA]
    · simp [hA]
  · rintro ⟨k, hA, hB⟩
    refine lt_of_lt_of_le ?_ (Finset.single_le_sum (fun k _ => h0 k) (Finset.mem_univ k))
    simp [hA, hB]

/-- One trip of the loop is one sweep. -/
theorem pay4_row (V : Fin 500 → Prop) (sup : Fin 500 → Fin 500 → Prop) (K : Fin 500 → Prop) :
    k0_pay4 (mat sup) (row V) (row K) = row (Greedy.step V sup K) := by
  classical
  refine row_ext _ _ fun j => ?_
  pointwise [k0_pay4]
  simp only [row_at, mat_at, sum_pos_iff]
  unfold Greedy.step
  by_cases hV : V j <;> by_cases hs : ∃ i, K i ∧ sup i j <;> simp [hV, hs]

theorem ofBool_one (b : Bool) : BitVec.ofBool b = 1#1 ↔ b = true := by cases b <;> decide

/-- The trip's test is up just when the sweep changed the row. -/
theorem changes_iff (S : FVec Ideal S500x500 .f32) (v a : FVec Ideal S1x500 .f32) :
    changes S v a = 1#1 ↔ k0_pay4 S v a ≠ a := by
  classical
  have e : k0_pay5 S v a = Finset.fold max (Ideal.ofBits FTy.f32 0xFF800000#32)
      (fun x : Fin 1 × Fin 500 => if k0_pay4 S v a (ix2 0 x.2) ≠ a (ix2 0 x.2) then (1 : EReal) else 0) Finset.univ := by
    pointwise [k0_pay5]
  have hb : ¬ (0 : EReal) < Ideal.ofBits FTy.f32 0xFF800000#32 := by
    simp [Ideal.ofBits, Ideal.ieee]
  have hc : changes S v a = 1#1 ↔ 0 < k0_pay5 S v a := by
    unfold changes
    pointwise
    rw [ofBool_one, decide_eq_true_iff]
  rw [hc, e, Finset.lt_fold_max]
  constructor
  · rintro (h | ⟨x, _, hx⟩) he
    · exact hb h
    · rw [he] at hx
      simp at hx
  · intro h
    right
    by_contra hn
    push Not at hn
    refine h (row_ext _ _ fun j => ?_)
    by_contra hj
    have := hn (0, j) (Finset.mem_univ _)
    rw [if_pos hj] at this
    exact absurd this (not_le.mpr zero_lt_one)

/-- The loop from a set of slots that sweeps settle in `n` rounds ends, with the flag down, in a fixed point of the
    sweep. -/
theorem loopRun_fixed (V : Fin 500 → Prop) (sup : Fin 500 → Fin 500 → Prop) :
    ∀ (n : ℕ) (K : Fin 500 → Prop), (Greedy.step V sup)^[n + 1] K = (Greedy.step V sup)^[n] K →
      ∃ (K' : Fin 500 → Prop) (b : BitVec 1), loopRun (mat sup) (row V) (n + 1) (row K) 1#1 = (row K', b) ∧ b ≠ 1#1
        ∧ Greedy.step V sup K' = K' := by
  intro n
  induction n with
  | zero =>
    intro K h
    have h' : Greedy.step V sup K = K := h
    have hc : changes (mat sup) (row V) (row K) ≠ 1#1 := fun hc => (changes_iff _ _ _).mp hc (by rw [pay4_row, h'])
    rw [loopRun_succ, loopRun_stop _ _ _ _ hc]
    exact ⟨_, _, by rw [pay4_row], hc, by rw [h', h']⟩
  | succ n ih =>
    intro K h
    rw [loopRun_succ]
    by_cases hc : changes (mat sup) (row V) (row K) = 1#1
    · rw [hc, pay4_row]
      refine ih _ ?_
      rwa [← Function.iterate_succ_apply, ← Function.iterate_succ_apply]
    · rw [loopRun_stop _ _ _ _ hc]
      have h' : Greedy.step V sup K = K := by
        by_contra hn
        exact hc ((changes_iff _ _ _).mpr fun e => hn (row_inj _ _ (by rw [← pay4_row, e])))
      exact ⟨_, _, by rw [pay4_row], hc, by rw [h', h']⟩

/-! ## The blocks -/

/-- A slot of a block of scores or of row numbers. -/
def at1 (x : Vec Ideal S1x1x500 .f32) (j : Fin 500) : EReal := x (ix3 0 0 j)
/-- The four entries of a slot of a block of boxes or deltas. -/
def at4 (x : Vec Ideal S1x4x500 .f32) (j : Fin 500) : Box.Corners := fun k => x (ix3 0 k j)

/-- The box of a slot, decoded and clipped. -/
def boxOf (x2 x3 : Vec Ideal S1x4x500 .f32) (j : Fin 500) : Box.Corners := Box.decoded (at4 x3 j) (at4 x2 j)

theorem ld0 (x : Vec Ideal S1x1x500 .f32) : View.ld x r0_0 = x := View.ld_unit_lit _ _ (by decide)
theorem ld1 (x : Vec Ideal S1x4x500 .f32) : View.ld x r0_1 = x := View.ld_unit_lit _ _ (by decide)

theorem bS_at (x : Vec Ideal S1x1x500 .f32) (j : Fin 500) : bS x (ix2 0 j) = at1 x j := by
  unfold bS at1
  rw [ld0]
  pointwise [k0_pay6]
theorem bN_at (x : Vec Ideal S1x1x500 .f32) (j : Fin 500) : bN x (ix2 0 j) = at1 x j := by
  unfold bN at1
  rw [ld0]
  pointwise [k0_pay7]
theorem bX1_at (x2 x3 : Vec Ideal S1x4x500 .f32) (j : Fin 500) : bX1 x2 x3 (ix2 0 j) = boxOf x2 x3 j 0 := by
  unfold bX1
  simp only [ld0, ld1]
  pointwise [k0_pay22, k0_pay20, k0_pay18, k0_pay8, k0_pay9, k0_pay10, k0_pay12, k0_pay14, k0_pay16]
  rfl
theorem bY1_at (x2 x3 : Vec Ideal S1x4x500 .f32) (j : Fin 500) : bY1 x2 x3 (ix2 0 j) = boxOf x2 x3 j 1 := by
  unfold bY1
  simp only [ld0, ld1]
  pointwise [k0_pay23, k0_pay21, k0_pay19, k0_pay8, k0_pay9, k0_pay11, k0_pay13, k0_pay15, k0_pay17]
  rfl
theorem bX2_at (x2 x3 : Vec Ideal S1x4x500 .f32) (j : Fin 500) : bX2 x2 x3 (ix2 0 j) = boxOf x2 x3 j 2 := by
  unfold bX2
  simp only [ld0, ld1]
  pointwise [k0_pay24, k0_pay20, k0_pay18, k0_pay8, k0_pay9, k0_pay10, k0_pay12, k0_pay14, k0_pay16]
  rfl
theorem bY2_at (x2 x3 : Vec Ideal S1x4x500 .f32) (j : Fin 500) : bY2 x2 x3 (ix2 0 j) = boxOf x2 x3 j 3 := by
  unfold bY2
  simp only [ld0, ld1]
  pointwise [k0_pay25, k0_pay21, k0_pay19, k0_pay8, k0_pay9, k0_pay11, k0_pay13, k0_pay15, k0_pay17]
  rfl
theorem bW_at (x2 x3 : Vec Ideal S1x4x500 .f32) (j : Fin 500) :
    bW x2 x3 (ix2 0 j) = boxOf x2 x3 j 2 - boxOf x2 x3 j 0 := by
  rw [← bX1_at, ← bX2_at]
  rfl

/-- The order of slots: by score, equal scores by row number. -/
def pre (s n : Fin 500 → EReal) (i j : Fin 500) : Prop := s j < s i ∨ (s i = s j ∧ n i < n j)

/-- A slot suppresses another one that comes after it and overlaps it by more than one half. -/
def sup (s n : Fin 500 → EReal) (b : Fin 500 → Box.Corners) (i j : Fin 500) : Prop :=
  Box.half < Box.overlap (b i) (b j) ∧ pre s n i j

theorem pre_irrefl (s n : Fin 500 → EReal) (i : Fin 500) : ¬ pre s n i i := by
  rintro (h | ⟨_, h⟩)
  · exact lt_irrefl _ h
  · exact lt_irrefl _ h

theorem pre_trans (s n : Fin 500 → EReal) (i j k : Fin 500) : pre s n i j → pre s n j k → pre s n i k := by
  rintro (h | ⟨e, h⟩) (h' | ⟨e', h'⟩)
  · exact Or.inl (h'.trans h)
  · exact Or.inl (e' ▸ h)
  · exact Or.inl (e ▸ h')
  · exact Or.inr ⟨e.trans e', h.trans h'⟩

/-- The kernel's four flags joined, as one condition. -/
theorem select_flags (p q r t : Prop) [Decidable p] [Decidable q] [Decidable r] [Decidable t]
    {_ : Decidable (p ∧ (q ∨ r ∧ t))} :
    Scalar.select (IntOp.andi (BitVec.ofBool (decide p)) (IntOp.ori (BitVec.ofBool (decide q))
        (IntOp.andi (BitVec.ofBool (decide r)) (BitVec.ofBool (decide t))))) (1 : EReal) 0
      = if p ∧ (q ∨ r ∧ t) then 1 else 0 := by
  by_cases hp : p <;> by_cases hq : q <;> by_cases hr : r <;> by_cases ht : t <;> simp [hp, hq, hr, ht] <;> rfl

theorem bV_eq (x0 : Vec Ideal S1x1x500 .f32) : bV x0 = row fun j => 0 < at1 x0 j := by
  classical
  refine row_ext _ _ fun j => ?_
  unfold bV
  pointwise [k0_pay1, k0_pay28]
  simp only [row_at, bS_at]

theorem bSup_eq (x0 x1 : Vec Ideal S1x1x500 .f32) (x2 x3 : Vec Ideal S1x4x500 .f32) :
    bSup x0 x1 x2 x3 = mat (sup (at1 x0) (at1 x1) (boxOf x2 x3)) := by
  classical
  refine mat_ext _ _ fun i j => ?_
  unfold bSup
  pointwise [k0_pay27]
  simp only [mat_at, bS_at, bN_at, bX1_at, bY1_at, bX2_at, bY2_at, bW_at]
  unfold sup pre Box.overlap Box.area Box.shared
  exact select_flags _ _ _ _

/-- The loop ends at Ideal, in a fixed point of the sweep. -/
theorem bLoop_fixed (x0 x1 : Vec Ideal S1x1x500 .f32) (x2 x3 : Vec Ideal S1x4x500 .f32) :
    ∃ K : Fin 500 → Prop, (bLoop x0 x1 x2 x3).1 = row K ∧ (bLoop x0 x1 x2 x3).2 ≠ 1#1
      ∧ Greedy.step (fun j => 0 < at1 x0 j) (sup (at1 x0) (at1 x1) (boxOf x2 x3)) K = K := by
  obtain ⟨K, b, h, hb, hK⟩ := loopRun_fixed (fun j => 0 < at1 x0 j) (sup (at1 x0) (at1 x1) (boxOf x2 x3)) 500
    (fun j => 0 < at1 x0 j)
    (Greedy.fixed (pre := pre (at1 x0) (at1 x1)) (pre_irrefl _ _) (pre_trans _ _) (fun _ _ h => h.2) _ _)
  refine ⟨K, ?_, ?_, hK⟩
  · unfold bLoop
    rw [bSup_eq, bV_eq, h]
  · unfold bLoop
    rw [bSup_eq, bV_eq, h]
    exact hb

theorem halts : Halts Ideal := fun x0 x1 x2 x3 => (bLoop_fixed x0 x1 x2 x3).choose_spec.2.1

/-! ## The result blocks -/

open Classical in
/-- What is left of a slot's score. -/
def kept (s : EReal) (K : Prop) : EReal := if K then s else Ideal.ofBits .f32 0xFF800000#32

/-- The scores' result block at a slot: the score where the slot is kept, the bottom elsewhere, for the one set of slots
    that the sweep leaves alone. -/
theorem out4_at (x0 x1 : Vec Ideal S1x1x500 .f32) (x2 x3 : Vec Ideal S1x4x500 .f32) :
    ∃ K : Fin 500 → Prop, Greedy.step (fun j => 0 < at1 x0 j) (sup (at1 x0) (at1 x1) (boxOf x2 x3)) K = K ∧
      ∀ j : Fin 500, out4 x0 x1 x2 x3 (ix3 0 0 j) = kept (at1 x0 j) (K j) := by
  classical
  obtain ⟨K, h, -, hK⟩ := bLoop_fixed x0 x1 x2 x3
  refine ⟨K, hK, fun j => ?_⟩
  unfold out4
  rw [View.canon_cons_unit_lit _ _ _ (by decide), h]
  pointwise [k0_pay2]
  rw [row_at, bS_at]
  unfold kept
  by_cases hj : K j <;> simp [hj]

/-- The boxes' result block. -/
theorem out5_at (x0 x1 : Vec Ideal S1x1x500 .f32) (x2 x3 : Vec Ideal S1x4x500 .f32) (k : Fin 4) (j : Fin 500) :
    out5 x0 x1 x2 x3 (ix3 0 k j) = boxOf x2 x3 j k := by
  unfold out5
  rw [View.canon_cons_unit_lit _ _ _ (by decide)]
  fin_cases k
  · refine Eq.trans ?_ (bX1_at x2 x3 j)
    pointwise [k0_pay3]
  · refine Eq.trans ?_ (bY1_at x2 x3 j)
    pointwise [k0_pay3]
  · refine Eq.trans ?_ (bX2_at x2 x3 j)
    pointwise [k0_pay3]
  · refine Eq.trans ?_ (bY2_at x2 x3 j)
    pointwise [k0_pay3]

end Cert.Proof.PI
-- ==== Proof.Order.lean ====
/-
  The stable descending sort of the slots of one class: a permutation that puts a slot before another exactly when its
  score is greater, or equal and its place earlier.
-/
module

public import proofs.«01_k».proof.Proof.PI.Value
public import Idealize.ShloMosaic.Lib.SortFacts

@[expose] public section

noncomputable section

namespace Cert.Proof.Order

open Idealize.ShloMosaic

section Lists
variable {ι : Type} (G : ι → EReal) (P : ι → ι → Prop)

/-- Before: the greater key, or the same key and before in the operand's order. -/
def Lex (a b : ι) : Prop := G b < G a ∨ (G a = G b ∧ P a b)

theorem lex_insert (R : ι → ι → Bool) (hR : ∀ a b, R a b = true ↔ G b < G a) (a : ι) (l : List ι) (ha : ∀ b ∈ l, P a b)
    (hl : l.Pairwise (Lex G P)) : (insertBefore R a l).Pairwise (Lex G P) := by
  induction l with
  | nil => simp [insertBefore]
  | cons b l ih =>
    obtain ⟨hb, hl'⟩ := List.pairwise_cons.mp hl
    unfold insertBefore
    split
    · next h =>
      have hba : G a < G b := (hR _ _).1 h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · next h =>
      have hab : G b ≤ G a := not_lt.1 fun g => h ((hR _ _).2 g)
      refine List.pairwise_cons.mpr ⟨fun x hx => ?_, hl⟩
      have hPx := ha x hx
      have hle : G x ≤ G a := by
        rcases List.mem_cons.mp hx with rfl | hx'
        · exact hab
        · rcases hb x hx' with h1 | ⟨h1, -⟩
          · exact h1.le.trans hab
          · exact h1 ▸ hab
      rcases hle.lt_or_eq with h1 | h1
      · exact Or.inl h1
      · exact Or.inr ⟨h1.symm, hPx⟩

theorem lex_sort (R : ι → ι → Bool) (hR : ∀ a b, R a b = true ↔ G b < G a) (l : List ι) (hl : l.Pairwise P) :
    (stableSort R l).Pairwise (Lex G P) := by
  induction l with
  | nil => simp [stableSort]
  | cons a l ih =>
    obtain ⟨ha, hl'⟩ := List.pairwise_cons.mp hl
    unfold stableSort
    exact lex_insert G P R hR a _ (fun b hb => ha b ((perm_stableSort _ l).mem_iff.mp hb)) (ih hl')

end Lists

/-- The place from which the `k`-th greatest score of a class comes. -/
def perm {n : ℕ} (s : Fin n → EReal) : Fin n → Fin n :=
  sortedFrom fun k k' => FloatOps.cmpfTotal (F := Ideal) (φ := .f32) .gt (s k) (s k') == 1#1

theorem perm_bijective {n : ℕ} (s : Fin n → EReal) : Function.Bijective (perm s) := ⟨sortedFrom_injective _, sortedFrom_surjective _⟩

theorem before_iff (a b : EReal) : (FloatOps.cmpfTotal (F := Ideal) (φ := .f32) .gt a b == 1#1) = true ↔ b < a := by
  rw [beq_iff_eq, Ideal.cmpfTotal_def]
  show BitVec.ofBool (decide (b < a)) = 1#1 ↔ _
  rw [PI.ofBool_one, decide_eq_true_iff]

theorem perm_lex {n : ℕ} (s : Fin n → EReal) (i j : Fin n) (h : i < j) : Lex s (· < ·) (perm s i) (perm s j) := by
  have hp := lex_sort s (· < ·) (fun k k' => FloatOps.cmpfTotal (F := Ideal) (φ := .f32) .gt (s k) (s k') == 1#1)
    (fun a b => before_iff (s a) (s b)) (List.finRange n) (List.pairwise_lt_finRange n)
  rw [List.pairwise_iff_get] at hp
  exact hp (i.cast (length_sortPositions _ _).symm) (j.cast (length_sortPositions _ _).symm) h

/-- One slot precedes another in the greedy order exactly when the sort puts it first. -/
theorem perm_pre (s n : Fin 500 → EReal) (hn : ∀ i j : Fin 500, i < j → n i < n j) (a b : Fin 500) :
    PI.pre s n (perm s a) (perm s b) ↔ a < b := by
  have key : ∀ i j : Fin 500, i < j → PI.pre s n (perm s i) (perm s j) := fun i j h => by
    rcases perm_lex s i j h with g | ⟨e, g⟩
    · exact Or.inl g
    · exact Or.inr ⟨e, hn _ _ g⟩
  refine ⟨fun h => ?_, key a b⟩
  rcases lt_trichotomy a b with g | g | g
  · exact g
  · exact absurd (g ▸ h) (PI.pre_irrefl s n _)
  · exact absurd (PI.pre_trans s n _ _ _ h (key b a g)) (PI.pre_irrefl s n _)

end Cert.Proof.Order
-- ==== Proof.Slots.lean ====
/-
  What both programs read for a slot: the row of its proposal, its class, and the sort of a class's scores.
-/
module

public import proofs.«01_k».proof.Proof.Order
public import proofs.«01_k».proof.Proof.Gathers

@[expose] public section

set_option maxRecDepth 100000

noncomputable section

namespace Cert.Proof.Slots

open Idealize.ShloMosaic Cert.Proof.Gathers

/-- The place of a slot in the padded rows. -/
def slot (i : Fin 500) : Fin 512 := ⟨i.val, by omega⟩

/-- The word that names a proposal: a float index as an integer, a negative one counted from the end. -/
def rowWord (x : EReal) : BitVec 32 :=
  Scalar.select (IntOp.cmpi .slt (FloatOps.fptosi (F := Ideal) (φ := .f32) 32 x) 0#32)
    (IntOp.addi (FloatOps.fptosi (F := Ideal) (φ := .f32) 32 x) 20000#32) (FloatOps.fptosi (F := Ideal) (φ := .f32) 32 x)

/-- The word that names a class among the classes and the background. -/
def clsWord (c : Fin 80) : BitVec 32 :=
  Scalar.select (IntOp.cmpi .slt (IntOp.addi (1#32) (BitVec.ofNat 32 c.val)) 0#32)
    (IntOp.addi (IntOp.addi (1#32) (BitVec.ofNat 32 c.val)) 81#32) (IntOp.addi (1#32) (BitVec.ofNat 32 c.val))

/-- The proposal of a slot and its class. -/
def rowOf (x : EReal) : Fin 20000 := clamp 20000 (by decide) (rowWord x)
def clsOf (c : Fin 80) : Fin 81 := clamp 81 (by decide) (clsWord c)

theorem along_ix2 {A B : ℕ} (c : Fin A) (i k : Fin B) : Shape.Idx.along (s := ⟨2, ![A, B]⟩) (ix2 c i) 1 k = ix2 c k := by
  funext b
  match b with
  | ⟨0, _⟩ => rfl
  | ⟨1, _⟩ => rfl

theorem topK_values (x : FVec Ideal ⟨2, ![80, 500]⟩ .f32) (h : (⟨2, ![80, 500]⟩ : Shape).Slices (fun _ => 0) ⟨2, ![80, 500]⟩) (c : Fin 80) (i : Fin 500) :
    (Host.topK ⟨2, ![80, 500]⟩ 1 (FloatOps.cmpfTotal .gt) x h).1 (ix2 c i) = x (ix2 c (Order.perm (fun j => x (ix2 c j)) i)) := by
  unfold Host.topK Host.sort2
  dsimp only
  pointwise
  refine (congrArg x (along_ix2 c i _)).trans ?_
  refine congrArg (fun f : Fin 500 → Fin 500 → Bool => x (ix2 c (sortedFrom f i))) ?_
  funext k k'
  exact congrArg₂ (fun a b => FloatOps.cmpfTotal (F := Ideal) (φ := .f32) .gt (x a) (x b) == 1#1) (along_ix2 c i k) (along_ix2 c i k')

theorem topK_indices (x : FVec Ideal ⟨2, ![80, 500]⟩ .f32) (h : (⟨2, ![80, 500]⟩ : Shape).Slices (fun _ => 0) ⟨2, ![80, 500]⟩) (c : Fin 80) (i : Fin 500) :
    (Host.topK ⟨2, ![80, 500]⟩ 1 (FloatOps.cmpfTotal .gt) x h).2 (ix2 c i) = BitVec.ofNat 32 (Order.perm (fun j => x (ix2 c j)) i).val := by
  unfold Host.topK Host.sort2
  dsimp only
  pointwise
  refine (congrArg (fun j : (⟨2, ![80, 500]⟩ : Shape).Idx => BitVec.ofNat 32 (j 1).val) (along_ix2 c i _)).trans ?_
  refine congrArg (fun f : Fin 500 → Fin 500 → Bool => BitVec.ofNat 32 (sortedFrom f i).val) ?_
  funext k k'
  exact congrArg₂ (fun a b => FloatOps.cmpfTotal (F := Ideal) (φ := .f32) .gt (x a) (x b) == 1#1) (along_ix2 c i k) (along_ix2 c i k')

end Cert.Proof.Slots
-- ==== Proof.RI.Boxes.lean ====
/-
  The reference's boxes of the selected slots, and the slots in the order of their scores, read at an index.
-/
module

public import proofs.«01_k».proof.Proof.RI.Decode
public import proofs.«01_k».proof.Proof.Slots

@[expose] public section

set_option maxRecDepth 100000
set_option maxHeartbeats 4000000

noncomputable section

namespace Cert.Proof.RI

open Cert.ReferenceIdeal Cert.ReferenceIdeal.Gen
open Idealize.ShloMosaic Idealize.ShloMosaic.StableHlo Cert.Proof.Gathers Cert.Proof.Slots

variable (V : Valuation τ sig (Elt Ideal))

/-- The score of a slot. -/
def score (V : Valuation τ sig (Elt Ideal)) (c : Fin 80) (i : Fin 500) : EReal := V (Proc.devRef .tc main_arg0) (ix3 c (slot i) 0)
/-- The row number of a slot, as a float. -/
def num (V : Valuation τ sig (Elt Ideal)) (c : Fin 80) (i : Fin 500) : EReal := V (Proc.devRef .tc main_arg1) (ix3 c (slot i) 0)
/-- The decoded box of a slot. -/
def box (V : Valuation τ sig (Elt Ideal)) (c : Fin 80) (i : Fin 500) : Box.Corners :=
  Box.decoded (prop V (rowOf (num V c i))) (delt V (rowOf (num V c i)) (clsOf c))
/-- The sort of a class's slots. -/
def sorted (V : Valuation τ sig (Elt Ideal)) (c : Fin 80) : Fin 500 → Fin 500 := Order.perm (score V c)

/-- The contents once the boxes of the selected slots are read. -/
def preA (V : Valuation τ sig (Elt Ideal)) : Valuation τ sig (Elt Ideal) := after (opsA (F := Ideal)) (pre7 V)

theorem preA_idx0 (c : Fin 80) (i : Fin 500) : preA V (Proc.devRef .tc main_v125) (ix3 c i 0) = rowWord (num V c i) := by
  unfold preA pre7
  after_reads_at
  rfl
theorem preA_idx1 (c : Fin 80) (i : Fin 500) : preA V (Proc.devRef .tc main_v125) (ix3 c i 1) = clsWord c := by
  unfold preA pre7
  after_reads_at
  rfl
theorem preA_gather : preA V (Proc.devRef .tc main_v126)
    = Host.gather gather_S20000x81x4_S80x500x2_S80x500x4_2_01_n_n_01_2_114 (preA V (Proc.devRef .tc main_v107)) (preA V (Proc.devRef .tc main_v125)) := by
  unfold preA
  after_reads_simp
theorem preA_box (c : Fin 80) (i : Fin 500) (k : Fin 4) : preA V (Proc.devRef .tc main_v126) (ix3 c i k) = box V c i k := by
  rw [preA_gather]
  refine (gather_pair (by decide) (by decide) _ _ _ c i k).trans ?_
  rw [preA_idx0, preA_idx1]
  exact dec_at V (rowOf (num V c i)) (clsOf c) k
theorem preA_score (c : Fin 80) (i : Fin 500) : preA V (Proc.devRef .tc main_v1) (ix2 c i) = score V c i := by
  unfold preA pre7
  after_reads_at
  rfl

/-- The contents once the slots are sorted. -/
def preB (V : Valuation τ sig (Elt Ideal)) : Valuation τ sig (Elt Ideal) := after (opsB (F := Ideal)) (preA V)

theorem preB_values_eq : preB V (Proc.devRef .tc main_values)
    = (Host.topK S80x500 1 (FloatOps.cmpfTotal (F := Ideal) (φ := .f32) .gt) (preA V (Proc.devRef .tc main_v1) : FVec Ideal S80x500 .f32) sliceFits_S80x500_S80x500).1 := by
  unfold preB
  after_reads_simp
theorem preB_indices_eq : preB V (Proc.devRef .tc main_indices)
    = (Host.topK S80x500 1 (FloatOps.cmpfTotal (F := Ideal) (φ := .f32) .gt) (preA V (Proc.devRef .tc main_v1) : FVec Ideal S80x500 .f32) sliceFits_S80x500_S80x500).2 := by
  unfold preB
  after_reads_simp
theorem preA_row (c : Fin 80) : (fun j => (preA V (Proc.devRef .tc main_v1) : FVec Ideal S80x500 .f32) (ix2 c j)) = score V c := by
  funext j
  exact preA_score V c j
theorem preB_values (c : Fin 80) (a : Fin 500) : preB V (Proc.devRef .tc main_values) (ix2 c a) = score V c (sorted V c a) := by
  rw [preB_values_eq]
  refine (topK_values _ _ c a).trans ?_
  rw [preA_row]
  exact preA_score V c _
theorem preB_indices (c : Fin 80) (a : Fin 500) : preB V (Proc.devRef .tc main_indices) (ix2 c a) = BitVec.ofNat 32 (sorted V c a).val := by
  rw [preB_indices_eq]
  refine (topK_indices _ _ c a).trans ?_
  rw [preA_row]
  rfl

theorem wrap_small (n : ℕ) (hn : n < 500) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)
theorem toInt_small (n : ℕ) (hn : n < 500) : (BitVec.ofNat 32 n).toInt = n := by
  rw [BitVec.toInt_eq_toNat_of_lt (by rw [BitVec.toNat_ofNat]; omega), BitVec.toNat_ofNat]
  omega

theorem preB_idx0 (c : Fin 80) (i : Fin 500) : preB V (Proc.devRef .tc main_v142) (ix3 c i 0) = BitVec.ofNat 32 c.val := by
  unfold preB
  after_reads_at
  exact wrap_small _ (by omega) _
theorem preB_idx1 (c : Fin 80) (i : Fin 500) : preB V (Proc.devRef .tc main_v142) (ix3 c i 1) = BitVec.ofNat 32 (sorted V c i).val := by
  have h := preB_indices V c i
  rw [preB_indices_eq] at h
  unfold preB
  after_reads_at
  erw [h]
  exact wrap_small _ (by omega) _
theorem preB_gather : preB V (Proc.devRef .tc main_v143)
    = Host.gather gather_S80x500x4_S80x500x2_S80x500x4_2_01_n_n_01_2_114 (preA V (Proc.devRef .tc main_v126)) (preB V (Proc.devRef .tc main_v142)) := by
  unfold preB
  after_reads_simp
theorem preB_box (c : Fin 80) (a : Fin 500) (k : Fin 4) : preB V (Proc.devRef .tc main_v143) (ix3 c a k) = box V c (sorted V c a) k := by
  rw [preB_gather]
  refine (gather_pair (by decide) (by decide) _ _ _ c a k).trans ?_
  rw [preB_idx0, preB_idx1, clamp_of 80 _ _ c (toInt_small _ (by omega)), clamp_of 500 _ _ (sorted V c a) (toInt_small _ (by omega))]
  exact preA_box V c _ k

/-- The contents before the loop. -/
def preC (V : Valuation τ sig (Elt Ideal)) : Valuation τ sig (Elt Ideal) := after (opsC (F := Ideal)) (preB V)

theorem preC_eq : afterL (Value.preI (F := Ideal)) V = preC V := by
  simp only [Value.preI, afterL_cons, afterL_nil, hostOps0_8_cut, after_append]
  rfl

theorem preC_overlap (c : Fin 80) (a b : Fin 500) : preC V (Proc.devRef .tc main_v210_0) (ix3 c a b)
    = Box.overlap (box V c (sorted V c a)) (box V c (sorted V c b)) := by
  unfold preC
  after_reads_at
  simp only [id_eq]
  pointwise
  unfold Box.overlap Box.shared Box.area
  simp only [← preB_box]
  rfl
theorem preC_valid (c : Fin 80) (a : Fin 500) : preC V (Proc.devRef .tc main_v210_3) (ix2 c a)
    = BitVec.ofBool (decide (FloatOps.absf (F := Ideal) (φ := .f32) (score V c (sorted V c a)) < Ideal.ofBits .f32 0x7F800000#32)) := by
  unfold preC
  after_reads_at
  simp only [id_eq]
  pointwise
  rw [← preB_values]
theorem preC_ctr : preC V (Proc.devRef .tc main_v210_2) ix0 = 0#32 := by
  unfold preC
  after_reads_at
  rfl

end Cert.Proof.RI
-- ==== Proof.RI.Loop.lean ====
/-
  The reference's loop over the sorted slots: the kept slots after every turn.
-/
module

public import proofs.«01_k».proof.Proof.RI.Boxes
public import proofs.«01_k».proof.Proof.Greedy
public import Idealize.ShloMosaic.Lib.DynamicIndex

@[expose] public section

set_option maxRecDepth 100000
set_option maxHeartbeats 4000000

noncomputable section

namespace Cert.Proof.RI

open Cert.ReferenceIdeal Cert.ReferenceIdeal.Gen
open Idealize.ShloMosaic Idealize.ShloMosaic.StableHlo

/-- Row `k` of every class's overlaps. -/
theorem slice_rows {α : Type} (x : S80x500x500.Idx → α) (start : Fin 3 → Int) (h) (k : Fin 500)
    (h0 : start 0 = 0) (h1 : start 1 = (k.val : Int)) (h2 : start 2 = 0) (c : Fin 80) (z : Fin 1) (j : Fin 500) :
    Host.dynamicSlice (s := S80x500x500) S80x1x500 x start h (ix3 c z j) = x (ix3 c k j) := by
  have hk := k.isLt
  have hoff : S80x500x500.Slices ![0, k.val, 0] S80x1x500 := by
    refine ⟨rfl, fun a => ?_⟩
    fin_cases a
    · show 0 + 80 ≤ 80; omega
    · show k.val + 1 ≤ 500; omega
    · show 0 + 500 ≤ 500; omega
  rw [Host.dynamicSlice_eq_extractStridedSlice (s := S80x500x500) S80x1x500 x start ![0, k.val, 0] h hoff (fun a => by
    fin_cases a
    · exact h0
    · exact h1
    · exact h2)]
  unfold extractStridedSlice
  refine congrArg x (funext fun a => Fin.ext ?_)
  have hz := z.isLt
  fin_cases a
  · show 0 + c.val = c.val; omega
  · show k.val + z.val = k.val; omega
  · show 0 + j.val = j.val; omega

/-- Column `k` of the kept slots. -/
theorem slice_cols {α : Type} (x : S80x500.Idx → α) (start : Fin 2 → Int) (h) (k : Fin 500)
    (h0 : start 0 = 0) (h1 : start 1 = (k.val : Int)) (c : Fin 80) (z : Fin 1) :
    Host.dynamicSlice (s := S80x500) S80x1 x start h (ix2 c z) = x (ix2 c k) := by
  have hk := k.isLt
  have hoff : S80x500.Slices ![0, k.val] S80x1 := by
    refine ⟨rfl, fun a => ?_⟩
    fin_cases a
    · show 0 + 80 ≤ 80; omega
    · show k.val + 1 ≤ 500; omega
  rw [Host.dynamicSlice_eq_extractStridedSlice (s := S80x500) S80x1 x start ![0, k.val] h hoff (fun a => by
    fin_cases a
    · exact h0
    · exact h1)]
  unfold extractStridedSlice
  refine congrArg x (funext fun a => Fin.ext ?_)
  have hz := z.isLt
  fin_cases a
  · show 0 + c.val = c.val; omega
  · show k.val + z.val = k.val; omega

/-- Whether a slot is kept, before a turn. -/
def bit (X : Valuation τ sig (Elt Ideal)) (c : Fin 80) (j : Fin 500) : BitVec 1 := X (Proc.devRef .tc main_v210_3) (ix2 c j)
/-- The overlaps the loop reads. -/
def over (X : Valuation τ sig (Elt Ideal)) (c : Fin 80) (k j : Fin 500) : EReal := X (Proc.devRef .tc main_v210_0) (ix3 c k j)

/-- One turn at an index. -/
theorem step_at (X : Valuation τ sig (Elt Ideal)) (k : Fin 500)
    (hk : X (Proc.devRef .tc main_v210_2) = constantI S_ 32 (BitVec.ofNat 32 k.val)) (c : Fin 80) (j : Fin 500) :
    Value.step_main_v210_3 X (ix2 c j)
      = bit X c j &&&
        ~~~ ((FloatOps.cmpf (F := Ideal) (φ := .f32) .ogt (over X c k j) Box.half
          &&& BitVec.ofBool ((BitVec.ofNat 32 k.val).slt (BitVec.ofNat 32 j.val)))
          &&& bit X c k) := by
  have hkl := k.isLt
  unfold Value.step_main_v210_3
  rw [hk]
  simp only [id_eq]
  have e1 := slice_rows (X (Proc.devRef .tc main_v210_0)) (fun q => (((![constantI S_ 32 0#32, select (cmpi .slt (constantI S_ 32 (BitVec.ofNat 32 k.val)) (constantI S_ 32 0#32)) (addi (constantI S_ 32 (BitVec.ofNat 32 k.val)) (constantI S_ 32 500#32)) (constantI S_ 32 (BitVec.ofNat 32 k.val)), constantI S_ 32 0#32] : Fin 3 → (⟨S_, .i32⟩ : BufTy).Contents (Elt Ideal))) q (Shape.Idx.first h_S_)).toInt)
    sliceFits_S80x500x500_S80x1x500 k rfl (toInt_wrap_ofNat k.val (by omega)) rfl c 0 j
  have e2 := slice_cols (X (Proc.devRef .tc main_v210_3)) (fun q => (((![constantI S_ 32 0#32, select (cmpi .slt (constantI S_ 32 (BitVec.ofNat 32 k.val)) (constantI S_ 32 0#32)) (addi (constantI S_ 32 (BitVec.ofNat 32 k.val)) (constantI S_ 32 500#32)) (constantI S_ 32 (BitVec.ofNat 32 k.val))] : Fin 2 → (⟨S_, .i32⟩ : BufTy).Contents (Elt Ideal))) q (Shape.Idx.first h_S_)).toInt)
    sliceFits_S80x500_S80x1 k rfl (toInt_wrap_ofNat k.val (by omega)) c 0
  unfold bit over
  rw [← e1, ← e2]
  pointwise
  rfl

/-- The order of two small numbers as signed words. -/
theorem slt_small (a b : ℕ) (ha : a < 500) (hb : b < 500) : (BitVec.ofNat 32 a).slt (BitVec.ofNat 32 b) = decide (a < b) := by
  rw [BitVec.slt, toInt_ofNat_of_lt (by omega), toInt_ofNat_of_lt (by omega)]
  simp

theorem bits_turn (p q r s : Prop) [Decidable p] [Decidable q] [Decidable r] [Decidable s] :
    (BitVec.ofBool (decide p) &&& ~~~ ((BitVec.ofBool (decide q) &&& BitVec.ofBool (decide r)) &&& BitVec.ofBool (decide s)))
      = BitVec.ofBool (decide (p ∧ ¬ (q ∧ r ∧ s))) := by
  by_cases p <;> by_cases q <;> by_cases r <;> by_cases s <;> simp [*] <;> decide

/-- Whether a sorted slot has a score at all. -/
def valid (V : Valuation τ sig (Elt Ideal)) (c : Fin 80) (i : Fin 500) : Prop :=
  FloatOps.absf (F := Ideal) (φ := .f32) (score V c i) < Ideal.ofBits .f32 0x7F800000#32
/-- Whether two slots overlap by more than half. -/
def meets (V : Valuation τ sig (Elt Ideal)) (c : Fin 80) (i j : Fin 500) : Prop :=
  Box.half < Box.overlap (box V c i) (box V c j)
/-- The kept sorted slots after `k` turns. -/
def after_turns (V : Valuation τ sig (Elt Ideal)) (c : Fin 80) (k : ℕ) : Fin 500 → Prop :=
  Greedy.seq (fun a => valid V c (sorted V c a)) (fun a b => meets V c (sorted V c a) (sorted V c b)) k

open Classical in
theorem loop_at (V : Valuation τ sig (Elt Ideal)) : ∀ k : ℕ, k ≤ 500 →
    (Value.STEP^[k] (preC V)) (Proc.devRef .tc main_v210_0) = preC V (Proc.devRef .tc main_v210_0) ∧
    (Value.STEP^[k] (preC V)) (Proc.devRef .tc main_v210_2) = constantI S_ 32 (BitVec.ofNat 32 k) ∧
    ∀ c j, bit (Value.STEP^[k] (preC V)) c j = BitVec.ofBool (decide (after_turns V c k j)) := by
  intro k
  induction k with
  | zero =>
    intro _
    refine ⟨rfl, funext fun i => ?_, fun c j => ?_⟩
    · rw [show i = ix0 from funext fun a => a.elim0]
      exact preC_ctr V
    · refine (preC_valid V c j).trans ?_
      congr
  | succ k ih =>
    intro hk
    obtain ⟨h0, h2, h3⟩ := ih (by omega)
    rw [Function.iterate_succ_apply']
    refine ⟨(Value.STEP_main_v210_0 _).trans h0, (Value.STEP_main_v210_2 _).trans ?_, fun c j => ?_⟩
    · unfold Value.step_main_v210_2
      rw [h2]
      funext i
      show BitVec.ofNat 32 k + 1#32 = BitVec.ofNat 32 (k + 1)
      rw [BitVec.ofNat_add]
    · have e := step_at (Value.STEP^[k] (preC V)) ⟨k, by omega⟩ h2 c j
      have e' := congrFun (Value.STEP_main_v210_3 (Value.STEP^[k] (preC V))) (ix2 c j)
      refine e'.trans (e.trans ?_)
      have ho : over (Value.STEP^[k] (preC V)) c ⟨k, by omega⟩ j
          = Box.overlap (box V c (sorted V c ⟨k, by omega⟩)) (box V c (sorted V c j)) := by
        unfold over
        rw [h0]
        exact preC_overlap V c ⟨k, by omega⟩ j
      rw [h3, h3, ho, slt_small _ _ (by omega) j.isLt]
      have hc : FloatOps.cmpf (F := Ideal) (φ := .f32) .ogt (Box.overlap (box V c (sorted V c ⟨k, by omega⟩)) (box V c (sorted V c j))) Box.half
          = BitVec.ofBool (decide (meets V c (sorted V c ⟨k, by omega⟩) (sorted V c j))) := by
        show BitVec.ofBool (decide _) = _
        congr
      rw [hc, bits_turn]
      refine congrArg BitVec.ofBool (decide_eq_decide.mpr ?_)
      have hkk : k < 500 := by omega
      constructor
      · rintro ⟨p, q⟩
        exact ⟨p, fun ⟨_, a, b, d⟩ => q ⟨a, b, d⟩⟩
      · rintro ⟨p, q⟩
        exact ⟨p, fun ⟨a, b, d⟩ => q ⟨hkk, a, b, d⟩⟩

end Cert.Proof.RI
-- ==== Proof.RI.TailOps.lean ====
/-
  The host operations at the end of the reference, cut where the candidates are flat.
-/
module

public import proofs.«01_k».proof.Proof.Gen.ReferenceIdeal.Run

@[expose] public section

set_option maxRecDepth 100000
set_option maxHeartbeats 4000000

noncomputable section

namespace Cert.Proof.RI

open Cert.ReferenceIdeal Cert.ReferenceIdeal.Gen
open Idealize.ShloMosaic Idealize.ShloMosaic.StableHlo

variable {F : FTy → Type} [FloatOps F]

/-- The operations up to the flat candidates, in order. -/
abbrev opsS : List (HloOp τ sig (Elt F)) :=
  ( StableHlo.nullary main_cst_38 (constant S_ .f32 0x00000000#32)
  :: StableHlo.unary main_cst_38 main_v212 (broadcastInDim S80x500 ![] bcast_S_S80x500 : (⟨S_, .f32⟩ : BufTy).Contents (Elt F) → (⟨S80x500, .f32⟩ : BufTy).Contents (Elt F))
  :: StableHlo.nullary main_c_39 (constantI S_ 32 0#32)
  :: StableHlo.unary main_c_39 main_v213 (broadcastInDim S80x1 ![] bcast_S_S80x1 : (⟨S_, .i32⟩ : BufTy).Contents (Elt F) → (⟨S80x1, .i32⟩ : BufTy).Contents (Elt F))
  :: StableHlo.binary main_v128 main_v213 main_v214 (cmpi .slt : (⟨S80x1, .i32⟩ : BufTy).Contents (Elt F) → (⟨S80x1, .i32⟩ : BufTy).Contents (Elt F) → (⟨S80x1, .i1⟩ : BufTy).Contents (Elt F))
  :: StableHlo.nullary main_c_40 (constantI S_ 32 80#32)
  :: StableHlo.unary main_c_40 main_v215 (broadcastInDim S80x1 ![] bcast_S_S80x1 : (⟨S_, .i32⟩ : BufTy).Contents (Elt F) → (⟨S80x1, .i32⟩ : BufTy).Contents (Elt F))
  :: StableHlo.binary main_v128 main_v215 main_v216 (addi : (⟨S80x1, .i32⟩ : BufTy).Contents (Elt F) → (⟨S80x1, .i32⟩ : BufTy).Contents (Elt F) → (⟨S80x1, .i32⟩ : BufTy).Contents (Elt F))
  :: StableHlo.ternary main_v214 main_v216 main_v128 main_v217 (select : (⟨S80x1, .i1⟩ : BufTy).Contents (Elt F) → (⟨S80x1, .i32⟩ : BufTy).Contents (Elt F) → (⟨S80x1, .i32⟩ : BufTy).Contents (Elt F) → (⟨S80x1, .i32⟩ : BufTy).Contents (Elt F))
  :: StableHlo.nullary main_c_41 (constantI S_ 32 0#32)
  :: StableHlo.unary main_c_41 main_v218 (broadcastInDim S80x500 ![] bcast_S_S80x500 : (⟨S_, .i32⟩ : BufTy).Contents (Elt F) → (⟨S80x500, .i32⟩ : BufTy).Contents (Elt F))
  :: StableHlo.binary main_indices main_v218 main_v219 (cmpi .slt : (⟨S80x500, .i32⟩ : BufTy).Contents (Elt F) → (⟨S80x500, .i32⟩ : BufTy).Contents (Elt F) → (⟨S80x500, .i1⟩ : BufTy).Contents (Elt F))
  :: StableHlo.nullary main_c_42 (constantI S_ 32 500#32)
  :: StableHlo.unary main_c_42 main_v220 (broadcastInDim S80x500 ![] bcast_S_S80x500 : (⟨S_, .i32⟩ : BufTy).Contents (Elt F) → (⟨S80x500, .i32⟩ : BufTy).Contents (Elt F))
  :: StableHlo.binary main_indices main_v220 main_v221 (addi : (⟨S80x500, .i32⟩ : BufTy).Contents (Elt F) → (⟨S80x500, .i32⟩ : BufTy).Contents (Elt F) → (⟨S80x500, .i32⟩ : BufTy).Contents (Elt F))
  :: StableHlo.ternary main_v219 main_v221 main_indices main_v222 (select : (⟨S80x500, .i1⟩ : BufTy).Contents (Elt F) → (⟨S80x500, .i32⟩ : BufTy).Contents (Elt F) → (⟨S80x500, .i32⟩ : BufTy).Contents (Elt F) → (⟨S80x500, .i32⟩ : BufTy).Contents (Elt F))
  :: StableHlo.unary main_v217 main_v223 (broadcastInDim S80x500 ![0, 1] bcast_S80x1_S80x500_0_1 : (⟨S80x1, .i32⟩ : BufTy).Contents (Elt F) → (⟨S80x500, .i32⟩ : BufTy).Contents (Elt F))
  :: StableHlo.unary main_v223 main_v224 (broadcastInDim S80x500x1 ![0, 1] bcast_S80x500_S80x500x1_0_1 : (⟨S80x500, .i32⟩ : BufTy).Contents (Elt F) → (⟨S80x500x1, .i32⟩ : BufTy).Contents (Elt F))
  :: StableHlo.unary main_v222 main_v225 (broadcastInDim S80x500x1 ![0, 1] bcast_S80x500_S80x500x1_0_1 : (⟨S80x500, .i32⟩ : BufTy).Contents (Elt F) → (⟨S80x500x1, .i32⟩ : BufTy).Contents (Elt F))
  :: StableHlo.binary main_v224 main_v225 main_v226 ((fun a b => concatenate S80x500x2 2 [⟨S80x500x1, a⟩, ⟨S80x500x1, b⟩] concatenates_S80x500x1_S80x500x1_S80x500x2_d2) : (⟨S80x500x1, .i32⟩ : BufTy).Contents (Elt F) → (⟨S80x500x1, .i32⟩ : BufTy).Contents (Elt F) → (⟨S80x500x2, .i32⟩ : BufTy).Contents (Elt F))
  :: StableHlo.ternary main_v212 main_v226 main_v211 main_v227 ((fun x i u => Host.scatter scatter_S80x500_S80x500x2_S80x500_n_01_01_2 (fun _ b => b) x i u) : (⟨S80x500, .f32⟩ : BufTy).Contents (Elt F) → (⟨S80x500x2, .i32⟩ : BufTy).Contents (Elt F) → (⟨S80x500, .f32⟩ : BufTy).Contents (Elt F) → (⟨S80x500, .f32⟩ : BufTy).Contents (Elt F))
  :: StableHlo.nullary main_v228 (iotaInDim S80 32 0)
  :: StableHlo.nullary main_c_43 (constantI S_ 32 1#32)
  :: StableHlo.unary main_c_43 main_v229 (broadcastInDim S80 ![] bcast_S_S80 : (⟨S_, .i32⟩ : BufTy).Contents (Elt F) → (⟨S80, .i32⟩ : BufTy).Contents (Elt F))
  :: StableHlo.binary main_v229 main_v228 main_v230 (addi : (⟨S80, .i32⟩ : BufTy).Contents (Elt F) → (⟨S80, .i32⟩ : BufTy).Contents (Elt F) → (⟨S80, .i32⟩ : BufTy).Contents (Elt F))
  :: StableHlo.unary main_v230 main_v231 (broadcastInDim S80x1 ![0] bcast_S80_S80x1_0 : (⟨S80, .i32⟩ : BufTy).Contents (Elt F) → (⟨S80x1, .i32⟩ : BufTy).Contents (Elt F))
  :: StableHlo.unary main_v231 main_v232 (broadcastInDim S80x500 ![0, 1] bcast_S80x1_S80x500_0_1 : (⟨S80x1, .i32⟩ : BufTy).Contents (Elt F) → (⟨S80x500, .i32⟩ : BufTy).Contents (Elt F))
  :: StableHlo.reshape main_v227 main_v233 (rfl : (.f32 : EltTy) = .f32) shapeCasts_S80x500_S40000
  :: StableHlo.reshape main_v126 main_v234 (rfl : (.f32 : EltTy) = .f32) shapeCasts_S80x500x4_S40000x4
  :: StableHlo.reshape main_v4 main_v235 (rfl : (.i32 : EltTy) = .i32) shapeCasts_S80x500_S40000
  :: StableHlo.reshape main_v232 main_v236 (rfl : (.i32 : EltTy) = .i32) shapeCasts_S80x500_S40000
  :: [] )
/-- The operations from the flat candidates on, in order. -/
abbrev opsT : List (HloOp τ sig (Elt F)) :=
  ( StableHlo.unary main_v233 main_values_44 ((fun x => (Host.topK S100 0 (FloatOps.cmpfTotal .gt) x sliceFits_S40000_S100).1) : (⟨S40000, .f32⟩ : BufTy).Contents (Elt F) → (⟨S100, .f32⟩ : BufTy).Contents (Elt F))
  :: StableHlo.unary main_v233 main_indices_45 ((fun x => (Host.topK S100 0 (FloatOps.cmpfTotal .gt) x sliceFits_S40000_S100).2) : (⟨S40000, .f32⟩ : BufTy).Contents (Elt F) → (⟨S100, .i32⟩ : BufTy).Contents (Elt F))
  :: StableHlo.nullary main_c_46 (constantI S_ 32 0#32)
  :: StableHlo.unary main_c_46 main_v237 (broadcastInDim S100 ![] bcast_S_S100 : (⟨S_, .i32⟩ : BufTy).Contents (Elt F) → (⟨S100, .i32⟩ : BufTy).Contents (Elt F))
  :: StableHlo.binary main_indices_45 main_v237 main_v238 (cmpi .slt : (⟨S100, .i32⟩ : BufTy).Contents (Elt F) → (⟨S100, .i32⟩ : BufTy).Contents (Elt F) → (⟨S100, .i1⟩ : BufTy).Contents (Elt F))
  :: StableHlo.nullary main_c_47 (constantI S_ 32 40000#32)
  :: StableHlo.unary main_c_47 main_v239 (broadcastInDim S100 ![] bcast_S_S100 : (⟨S_, .i32⟩ : BufTy).Contents (Elt F) → (⟨S100, .i32⟩ : BufTy).Contents (Elt F))
  :: StableHlo.binary main_indices_45 main_v239 main_v240 (addi : (⟨S100, .i32⟩ : BufTy).Contents (Elt F) → (⟨S100, .i32⟩ : BufTy).Contents (Elt F) → (⟨S100, .i32⟩ : BufTy).Contents (Elt F))
  :: StableHlo.ternary main_v238 main_v240 main_indices_45 main_v241 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v241 main_v242 (broadcastInDim S100x1 ![0] bcast_S100_S100x1_0 : (⟨S100, .i32⟩ : BufTy).Contents (Elt F) → (⟨S100x1, .i32⟩ : BufTy).Contents (Elt F))
  :: StableHlo.binary main_v234 main_v242 main_v243 ((fun x i => Host.gather gather_S40000x4_S100x1_S100x4_1_0_n_n_0_1_14 x i) : (⟨S40000x4, .f32⟩ : BufTy).Contents (Elt F) → (⟨S100x1, .i32⟩ : BufTy).Contents (Elt F) → (⟨S100x4, .f32⟩ : BufTy).Contents (Elt F))
  :: StableHlo.nullary main_c_48 (constantI S_ 32 0#32)
  :: StableHlo.unary main_c_48 main_v244 (broadcastInDim S100 ![] bcast_S_S100 : (⟨S_, .i32⟩ : BufTy).Contents (Elt F) → (⟨S100, .i32⟩ : BufTy).Contents (Elt F))
  :: StableHlo.binary main_indices_45 main_v244 main_v245 (cmpi .slt : (⟨S100, .i32⟩ : BufTy).Contents (Elt F) → (⟨S100, .i32⟩ : BufTy).Contents (Elt F) → (⟨S100, .i1⟩ : BufTy).Contents (Elt F))
  :: StableHlo.nullary main_c_49 (constantI S_ 32 40000#32)
  :: StableHlo.unary main_c_49 main_v246 (broadcastInDim S100 ![] bcast_S_S100 : (⟨S_, .i32⟩ : BufTy).Contents (Elt F) → (⟨S100, .i32⟩ : BufTy).Contents (Elt F))
  :: StableHlo.binary main_indices_45 main_v246 main_v247 (addi : (⟨S100, .i32⟩ : BufTy).Contents (Elt F) → (⟨S100, .i32⟩ : BufTy).Contents (Elt F) → (⟨S100, .i32⟩ : BufTy).Contents (Elt F))
  :: StableHlo.ternary main_v245 main_v247 main_indices_45 main_v248 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v248 main_v249 (broadcastInDim S100x1 ![0] bcast_S100_S100x1_0 : (⟨S100, .i32⟩ : BufTy).Contents (Elt F) → (⟨S100x1, .i32⟩ : BufTy).Contents (Elt F))
  :: StableHlo.binary main_v236 main_v249 main_v250 ((fun x i => Host.gather gather_S40000_S100x1_S100_n_0_n_n_0_1_1 x i) : (⟨S40000, .i32⟩ : BufTy).Contents (Elt F) → (⟨S100x1, .i32⟩ : BufTy).Contents (Elt F) → (⟨S100, .i32⟩ : BufTy).Contents (Elt F))
  :: StableHlo.unary main_v250 main_v251 (sitofp .f32 : (⟨S100, .i32⟩ : BufTy).Contents (Elt F) → (⟨S100, .f32⟩ : BufTy).Contents (Elt F))
  :: StableHlo.nullary main_c_50 (constantI S_ 32 0#32)
  :: StableHlo.unary main_c_50 main_v252 (broadcastInDim S100 ![] bcast_S_S100 : (⟨S_, .i32⟩ : BufTy).Contents (Elt F) → (⟨S100, .i32⟩ : BufTy).Contents (Elt F))
  :: StableHlo.binary main_indices_45 main_v252 main_v253 (cmpi .slt : (⟨S100, .i32⟩ : BufTy).Contents (Elt F) → (⟨S100, .i32⟩ : BufTy).Contents (Elt F) → (⟨S100, .i1⟩ : BufTy).Contents (Elt F))
  :: StableHlo.nullary main_c_51 (constantI S_ 32 40000#32)
  :: StableHlo.unary main_c_51 main_v254 (broadcastInDim S100 ![] bcast_S_S100 : (⟨S_, .i32⟩ : BufTy).Contents (Elt F) → (⟨S100, .i32⟩ : BufTy).Contents (Elt F))
  :: StableHlo.binary main_indices_45 main_v254 main_v255 (addi : (⟨S100, .i32⟩ : BufTy).Contents (Elt F) → (⟨S100, .i32⟩ : BufTy).Contents (Elt F) → (⟨S100, .i32⟩ : BufTy).Contents (Elt F))
  :: StableHlo.ternary main_v253 main_v255 main_indices_45 main_v256 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v256 main_v257 (broadcastInDim S100x1 ![0] bcast_S100_S100x1_0 : (⟨S100, .i32⟩ : BufTy).Contents (Elt F) → (⟨S100x1, .i32⟩ : BufTy).Contents (Elt F))
  :: StableHlo.binary main_v235 main_v257 main_v258 ((fun x i => Host.gather gather_S40000_S100x1_S100_n_0_n_n_0_1_1 x i) : (⟨S40000, .i32⟩ : BufTy).Contents (Elt F) → (⟨S100x1, .i32⟩ : BufTy).Contents (Elt F) → (⟨S100, .i32⟩ : BufTy).Contents (Elt F))
  :: StableHlo.nullary main_c_52 (constantI S_ 32 0#32)
  :: StableHlo.unary main_c_52 main_v259 (broadcastInDim S100 ![] bcast_S_S100 : (⟨S_, .i32⟩ : BufTy).Contents (Elt F) → (⟨S100, .i32⟩ : BufTy).Contents (Elt F))
  :: StableHlo.binary main_v258 main_v259 main_v260 (cmpi .slt : (⟨S100, .i32⟩ : BufTy).Contents (Elt F) → (⟨S100, .i32⟩ : BufTy).Contents (Elt F) → (⟨S100, .i1⟩ : BufTy).Contents (Elt F))
  :: StableHlo.nullary main_c_53 (constantI S_ 32 20000#32)
  :: StableHlo.unary main_c_53 main_v261 (broadcastInDim S100 ![] bcast_S_S100 : (⟨S_, .i32⟩ : BufTy).Contents (Elt F) → (⟨S100, .i32⟩ : BufTy).Contents (Elt F))
  :: StableHlo.binary main_v258 main_v261 main_v262 (addi : (⟨S100, .i32⟩ : BufTy).Contents (Elt F) → (⟨S100, .i32⟩ : BufTy).Contents (Elt F) → (⟨S100, .i32⟩ : BufTy).Contents (Elt F))
  :: StableHlo.ternary main_v260 main_v262 main_v258 main_v263 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v263 main_v264 (broadcastInDim S100x1 ![0] bcast_S100_S100x1_0 : (⟨S100, .i32⟩ : BufTy).Contents (Elt F) → (⟨S100x1, .i32⟩ : BufTy).Contents (Elt F))
  :: StableHlo.binary main_arg3 main_v264 main_v265 ((fun x i => Host.gather gather_S20000x1024_S100x1_S100x1024_1_0_n_n_0_1_11024 x i) : (⟨S20000x1024, .f32⟩ : BufTy).Contents (Elt F) → (⟨S100x1, .i32⟩ : BufTy).Contents (Elt F) → (⟨S100x1024, .f32⟩ : BufTy).Contents (Elt F))
  :: StableHlo.unary main_values_44 main_v266 (Host.absf : (⟨S100, .f32⟩ : BufTy).Contents (Elt F) → (⟨S100, .f32⟩ : BufTy).Contents (Elt F))
  :: StableHlo.nullary main_cst_54 (constant S_ .f32 0x7F800000#32)
  :: StableHlo.unary main_cst_54 main_v267 (broadcastInDim S100 ![] bcast_S_S100 : (⟨S_, .f32⟩ : BufTy).Contents (Elt F) → (⟨S100, .f32⟩ : BufTy).Contents (Elt F))
  :: StableHlo.binary main_v266 main_v267 main_v268 (cmpf .olt : (⟨S100, .f32⟩ : BufTy).Contents (Elt F) → (⟨S100, .f32⟩ : BufTy).Contents (Elt F) → (⟨S100, .i1⟩ : BufTy).Contents (Elt F))
  :: StableHlo.nullary main_cst_55 (constant S_ .f32 0x00000000#32)
  :: [] )
theorem hostOps0_11_cut : (hostOps0_11 : List (HloOp τ sig (Elt F))) = opsS ++ opsT := rfl

end Cert.Proof.RI
-- ==== Proof.PI.TailOps.lean ====
/-
  The host operations at the end of the kernel, cut where the candidates are flat.
-/
module

public import proofs.«01_k».proof.Proof.Gen.KernelIdeal.Launch

@[expose] public section

set_option maxRecDepth 100000
set_option maxHeartbeats 4000000

noncomputable section

namespace Cert.Proof.PI

open Cert.KernelIdeal Cert.KernelIdeal.Gen
open Idealize.ShloMosaic Idealize.ShloMosaic.StableHlo

variable {F : FTy → Type} [FloatOps F]

/-- The operations up to the flat candidates, in order. -/
abbrev opsS : List (HloOp τ sig (Elt F)) :=
  ( StableHlo.reshape main_v38_0 main_v39 (rfl : (.f32 : EltTy) = .f32) shapeCasts_S80x1x500_S40000
  :: StableHlo.unary main_v38_1 main_v40 ((transpose S80x500x4 [0, 2, 1] · transposes_S80x4x500_S80x500x4_0_2_1) : (⟨S80x4x500, .f32⟩ : BufTy).Contents (Elt F) → (⟨S80x500x4, .f32⟩ : BufTy).Contents (Elt F))
  :: StableHlo.reshape main_v40 main_v41 (rfl : (.f32 : EltTy) = .f32) shapeCasts_S80x500x4_S40000x4
  :: StableHlo.reshape main_v7 main_v42 (rfl : (.i32 : EltTy) = .i32) shapeCasts_S80x500_S40000
  :: StableHlo.nullary main_v43 (iotaInDim S80 32 0)
  :: StableHlo.nullary main_c_6 (constantI S_ 32 1#32)
  :: StableHlo.unary main_c_6 main_v44 (broadcastInDim S80 ![] bcast_S_S80 : (⟨S_, .i32⟩ : BufTy).Contents (Elt F) → (⟨S80, .i32⟩ : BufTy).Contents (Elt F))
  :: StableHlo.binary main_v44 main_v43 main_v45 (addi : (⟨S80, .i32⟩ : BufTy).Contents (Elt F) → (⟨S80, .i32⟩ : BufTy).Contents (Elt F) → (⟨S80, .i32⟩ : BufTy).Contents (Elt F))
  :: StableHlo.unary main_v45 main_v46 (broadcastInDim S80x1 ![0] bcast_S80_S80x1_0 : (⟨S80, .i32⟩ : BufTy).Contents (Elt F) → (⟨S80x1, .i32⟩ : BufTy).Contents (Elt F))
  :: StableHlo.unary main_v46 main_v47 (broadcastInDim S80x500 ![0, 1] bcast_S80x1_S80x500_0_1 : (⟨S80x1, .i32⟩ : BufTy).Contents (Elt F) → (⟨S80x500, .i32⟩ : BufTy).Contents (Elt F))
  :: StableHlo.reshape main_v47 main_v48 (rfl : (.i32 : EltTy) = .i32) shapeCasts_S80x500_S40000
  :: [] )
/-- The operations from the flat candidates on, in order. -/
abbrev opsT : List (HloOp τ sig (Elt F)) :=
  ( StableHlo.unary main_v39 main_values ((fun x => (Host.topK S100 0 (FloatOps.cmpfTotal .gt) x sliceFits_S40000_S100).1) : (⟨S40000, .f32⟩ : BufTy).Contents (Elt F) → (⟨S100, .f32⟩ : BufTy).Contents (Elt F))
  :: StableHlo.unary main_v39 main_indices ((fun x => (Host.topK S100 0 (FloatOps.cmpfTotal .gt) x sliceFits_S40000_S100).2) : (⟨S40000, .f32⟩ : BufTy).Contents (Elt F) → (⟨S100, .i32⟩ : BufTy).Contents (Elt F))
  :: StableHlo.nullary main_c_7 (constantI S_ 32 0#32)
  :: StableHlo.unary main_c_7 main_v49 (broadcastInDim S100 ![] bcast_S_S100 : (⟨S_, .i32⟩ : BufTy).Contents (Elt F) → (⟨S100, .i32⟩ : BufTy).Contents (Elt F))
  :: StableHlo.binary main_indices main_v49 main_v50 (cmpi .slt : (⟨S100, .i32⟩ : BufTy).Contents (Elt F) → (⟨S100, .i32⟩ : BufTy).Contents (Elt F) → (⟨S100, .i1⟩ : BufTy).Contents (Elt F))
  :: StableHlo.nullary main_c_8 (constantI S_ 32 40000#32)
  :: StableHlo.unary main_c_8 main_v51 (broadcastInDim S100 ![] bcast_S_S100 : (⟨S_, .i32⟩ : BufTy).Contents (Elt F) → (⟨S100, .i32⟩ : BufTy).Contents (Elt F))
  :: StableHlo.binary main_indices main_v51 main_v52 (addi : (⟨S100, .i32⟩ : BufTy).Contents (Elt F) → (⟨S100, .i32⟩ : BufTy).Contents (Elt F) → (⟨S100, .i32⟩ : BufTy).Contents (Elt F))
  :: StableHlo.ternary main_v50 main_v52 main_indices main_v53 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v53 main_v54 (broadcastInDim S100x1 ![0] bcast_S100_S100x1_0 : (⟨S100, .i32⟩ : BufTy).Contents (Elt F) → (⟨S100x1, .i32⟩ : BufTy).Contents (Elt F))
  :: StableHlo.binary main_v41 main_v54 main_v55 ((fun x i => Host.gather gather_S40000x4_S100x1_S100x4_1_0_n_n_0_1_14 x i) : (⟨S40000x4, .f32⟩ : BufTy).Contents (Elt F) → (⟨S100x1, .i32⟩ : BufTy).Contents (Elt F) → (⟨S100x4, .f32⟩ : BufTy).Contents (Elt F))
  :: StableHlo.nullary main_c_9 (constantI S_ 32 0#32)
  :: StableHlo.unary main_c_9 main_v56 (broadcastInDim S100 ![] bcast_S_S100 : (⟨S_, .i32⟩ : BufTy).Contents (Elt F) → (⟨S100, .i32⟩ : BufTy).Contents (Elt F))
  :: StableHlo.binary main_indices main_v56 main_v57 (cmpi .slt : (⟨S100, .i32⟩ : BufTy).Contents (Elt F) → (⟨S100, .i32⟩ : BufTy).Contents (Elt F) → (⟨S100, .i1⟩ : BufTy).Contents (Elt F))
  :: StableHlo.nullary main_c_10 (constantI S_ 32 40000#32)
  :: StableHlo.unary main_c_10 main_v58 (broadcastInDim S100 ![] bcast_S_S100 : (⟨S_, .i32⟩ : BufTy).Contents (Elt F) → (⟨S100, .i32⟩ : BufTy).Contents (Elt F))
  :: StableHlo.binary main_indices main_v58 main_v59 (addi : (⟨S100, .i32⟩ : BufTy).Contents (Elt F) → (⟨S100, .i32⟩ : BufTy).Contents (Elt F) → (⟨S100, .i32⟩ : BufTy).Contents (Elt F))
  :: StableHlo.ternary main_v57 main_v59 main_indices main_v60 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v60 main_v61 (broadcastInDim S100x1 ![0] bcast_S100_S100x1_0 : (⟨S100, .i32⟩ : BufTy).Contents (Elt F) → (⟨S100x1, .i32⟩ : BufTy).Contents (Elt F))
  :: StableHlo.binary main_v48 main_v61 main_v62 ((fun x i => Host.gather gather_S40000_S100x1_S100_n_0_n_n_0_1_1 x i) : (⟨S40000, .i32⟩ : BufTy).Contents (Elt F) → (⟨S100x1, .i32⟩ : BufTy).Contents (Elt F) → (⟨S100, .i32⟩ : BufTy).Contents (Elt F))
  :: StableHlo.unary main_v62 main_v63 (sitofp .f32 : (⟨S100, .i32⟩ : BufTy).Contents (Elt F) → (⟨S100, .f32⟩ : BufTy).Contents (Elt F))
  :: StableHlo.nullary main_c_11 (constantI S_ 32 0#32)
  :: StableHlo.unary main_c_11 main_v64 (broadcastInDim S100 ![] bcast_S_S100 : (⟨S_, .i32⟩ : BufTy).Contents (Elt F) → (⟨S100, .i32⟩ : BufTy).Contents (Elt F))
  :: StableHlo.binary main_indices main_v64 main_v65 (cmpi .slt : (⟨S100, .i32⟩ : BufTy).Contents (Elt F) → (⟨S100, .i32⟩ : BufTy).Contents (Elt F) → (⟨S100, .i1⟩ : BufTy).Contents (Elt F))
  :: StableHlo.nullary main_c_12 (constantI S_ 32 40000#32)
  :: StableHlo.unary main_c_12 main_v66 (broadcastInDim S100 ![] bcast_S_S100 : (⟨S_, .i32⟩ : BufTy).Contents (Elt F) → (⟨S100, .i32⟩ : BufTy).Contents (Elt F))
  :: StableHlo.binary main_indices main_v66 main_v67 (addi : (⟨S100, .i32⟩ : BufTy).Contents (Elt F) → (⟨S100, .i32⟩ : BufTy).Contents (Elt F) → (⟨S100, .i32⟩ : BufTy).Contents (Elt F))
  :: StableHlo.ternary main_v65 main_v67 main_indices main_v68 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v68 main_v69 (broadcastInDim S100x1 ![0] bcast_S100_S100x1_0 : (⟨S100, .i32⟩ : BufTy).Contents (Elt F) → (⟨S100x1, .i32⟩ : BufTy).Contents (Elt F))
  :: StableHlo.binary main_v42 main_v69 main_v70 ((fun x i => Host.gather gather_S40000_S100x1_S100_n_0_n_n_0_1_1 x i) : (⟨S40000, .i32⟩ : BufTy).Contents (Elt F) → (⟨S100x1, .i32⟩ : BufTy).Contents (Elt F) → (⟨S100, .i32⟩ : BufTy).Contents (Elt F))
  :: StableHlo.nullary main_c_13 (constantI S_ 32 0#32)
  :: StableHlo.unary main_c_13 main_v71 (broadcastInDim S100 ![] bcast_S_S100 : (⟨S_, .i32⟩ : BufTy).Contents (Elt F) → (⟨S100, .i32⟩ : BufTy).Contents (Elt F))
  :: StableHlo.binary main_v70 main_v71 main_v72 (cmpi .slt : (⟨S100, .i32⟩ : BufTy).Contents (Elt F) → (⟨S100, .i32⟩ : BufTy).Contents (Elt F) → (⟨S100, .i1⟩ : BufTy).Contents (Elt F))
  :: StableHlo.nullary main_c_14 (constantI S_ 32 20000#32)
  :: StableHlo.unary main_c_14 main_v73 (broadcastInDim S100 ![] bcast_S_S100 : (⟨S_, .i32⟩ : BufTy).Contents (Elt F) → (⟨S100, .i32⟩ : BufTy).Contents (Elt F))
  :: StableHlo.binary main_v70 main_v73 main_v74 (addi : (⟨S100, .i32⟩ : BufTy).Contents (Elt F) → (⟨S100, .i32⟩ : BufTy).Contents (Elt F) → (⟨S100, .i32⟩ : BufTy).Contents (Elt F))
  :: StableHlo.ternary main_v72 main_v74 main_v70 main_v75 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v75 main_v76 (broadcastInDim S100x1 ![0] bcast_S100_S100x1_0 : (⟨S100, .i32⟩ : BufTy).Contents (Elt F) → (⟨S100x1, .i32⟩ : BufTy).Contents (Elt F))
  :: StableHlo.binary main_arg3 main_v76 main_v77 ((fun x i => Host.gather gather_S20000x1024_S100x1_S100x1024_1_0_n_n_0_1_11024 x i) : (⟨S20000x1024, .f32⟩ : BufTy).Contents (Elt F) → (⟨S100x1, .i32⟩ : BufTy).Contents (Elt F) → (⟨S100x1024, .f32⟩ : BufTy).Contents (Elt F))
  :: StableHlo.unary main_values main_v78 (Host.absf : (⟨S100, .f32⟩ : BufTy).Contents (Elt F) → (⟨S100, .f32⟩ : BufTy).Contents (Elt F))
  :: StableHlo.nullary main_cst (constant S_ .f32 0x7F800000#32)
  :: StableHlo.unary main_cst main_v79 (broadcastInDim S100 ![] bcast_S_S100 : (⟨S_, .f32⟩ : BufTy).Contents (Elt F) → (⟨S100, .f32⟩ : BufTy).Contents (Elt F))
  :: StableHlo.binary main_v78 main_v79 main_v80 (cmpf .olt : (⟨S100, .f32⟩ : BufTy).Contents (Elt F) → (⟨S100, .f32⟩ : BufTy).Contents (Elt F) → (⟨S100, .i1⟩ : BufTy).Contents (Elt F))
  :: StableHlo.nullary main_cst_15 (constant S_ .f32 0x00000000#32)
  :: [] )
theorem hostOps1_cut : (hostOps1 : List (HloOp τ sig (Elt F))) = opsS ++ opsT := rfl

end Cert.Proof.PI
-- ==== Proof.Tails.lean ====
/-
  From the flat candidates on, the kernel's host operations and the reference's are the same.
-/
module

public import proofs.«01_k».proof.Proof.RI.TailOps
public import proofs.«01_k».proof.Proof.PI.TailOps
public import Idealize.ShloMosaic.Lib.StableHlo.ReadAt

@[expose] public section

set_option maxRecDepth 100000
set_option maxHeartbeats 4000000

noncomputable section

namespace Cert.Proof.Tails

open Idealize.ShloMosaic Idealize.ShloMosaic.StableHlo

variable {F : FTy → Type} [FloatOps F]

/-- The reference's contents at the end, of those at its flat candidates. -/
def lastR (X : Valuation Cert.ReferenceIdeal.τ Cert.ReferenceIdeal.sig (Elt F)) : Valuation Cert.ReferenceIdeal.τ Cert.ReferenceIdeal.sig (Elt F) :=
  after Cert.ReferenceIdeal.Gen.hostOps0_13 (after Cert.ReferenceIdeal.Gen.hostOps0_12 (after (RI.opsT (F := F)) X))
/-- The kernel's contents at the end, of those at its flat candidates. -/
def lastK (X : Valuation Cert.KernelIdeal.τ Cert.KernelIdeal.sig (Elt F)) : Valuation Cert.KernelIdeal.τ Cert.KernelIdeal.sig (Elt F) :=
  after Cert.KernelIdeal.Gen.hostOps1_2 (after Cert.KernelIdeal.Gen.hostOps1_1 (after (PI.opsT (F := F)) X))

theorem cat_congr {t s0 s1 s2 s3 : Shape} {d : Fin t.rank} {α : Type} {a a' : s0.Idx → α} {b b' : s1.Idx → α} {c c' : s2.Idx → α} {e e' : s3.Idx → α} (h)
    (ha : a = a') (hb : b = b') (hc : c = c') (he : e = e') :
    concatenate t d [⟨s0, a⟩, ⟨s1, b⟩, ⟨s2, c⟩, ⟨s3, e⟩] h = concatenate t d [⟨s0, a'⟩, ⟨s1, b'⟩, ⟨s2, c'⟩, ⟨s3, e'⟩] h := by
  subst ha hb hc he; rfl

theorem tails_eq (X : Valuation Cert.ReferenceIdeal.τ Cert.ReferenceIdeal.sig (Elt F))
    (Y : Valuation Cert.KernelIdeal.τ Cert.KernelIdeal.sig (Elt F))
    (h0 : Y (Proc.devRef .tc Cert.KernelIdeal.main_v39) = X (Proc.devRef .tc Cert.ReferenceIdeal.main_v233))
    (h1 : Y (Proc.devRef .tc Cert.KernelIdeal.main_v41) = X (Proc.devRef .tc Cert.ReferenceIdeal.main_v234))
    (h2 : Y (Proc.devRef .tc Cert.KernelIdeal.main_v42) = X (Proc.devRef .tc Cert.ReferenceIdeal.main_v235))
    (h3 : Y (Proc.devRef .tc Cert.KernelIdeal.main_v48) = X (Proc.devRef .tc Cert.ReferenceIdeal.main_v236))
    (h4 : Y (Proc.devRef .tc Cert.KernelIdeal.main_arg3) = X (Proc.devRef .tc Cert.ReferenceIdeal.main_arg3)) :
    lastK Y (Proc.devRef .tc Cert.KernelIdeal.main_v84) = lastR X (Proc.devRef .tc Cert.ReferenceIdeal.main_v272) := by
  unfold lastK lastR
  after_reads_simp
  refine cat_congr _ ?_ ?_ ?_ ?_
  · show upto Cert.KernelIdeal.Gen.hostOps1_2 _ 2 (Proc.devRef .tc Cert.KernelIdeal.main_v55) = upto Cert.ReferenceIdeal.Gen.hostOps0_13 _ 2 (Proc.devRef .tc Cert.ReferenceIdeal.main_v243)
    after_reads_simp
    rw [h0, h1]
    rfl
  · show upto Cert.KernelIdeal.Gen.hostOps1_2 _ 2 (Proc.devRef .tc Cert.KernelIdeal.main_v82) = upto Cert.ReferenceIdeal.Gen.hostOps0_13 _ 2 (Proc.devRef .tc Cert.ReferenceIdeal.main_v270)
    after_reads_simp
    rw [h0]
  · show upto Cert.KernelIdeal.Gen.hostOps1_2 _ 2 (Proc.devRef .tc Cert.KernelIdeal.main_v83) = upto Cert.ReferenceIdeal.Gen.hostOps0_13 _ 2 (Proc.devRef .tc Cert.ReferenceIdeal.main_v271)
    after_reads_simp
    rw [h0, h3]
    rfl
  · show upto Cert.KernelIdeal.Gen.hostOps1_2 _ 2 (Proc.devRef .tc Cert.KernelIdeal.main_v77) = upto Cert.ReferenceIdeal.Gen.hostOps0_13 _ 2 (Proc.devRef .tc Cert.ReferenceIdeal.main_v265)
    after_reads_simp
    rw [h0, h2, h4]
    rfl

end Cert.Proof.Tails
-- ==== Proof.RI.Tail.lean ====
/-
  The reference's flat candidates after the loop.
-/
module

public import proofs.«01_k».proof.Proof.RI.Loop
public import proofs.«01_k».proof.Proof.RI.TailOps
public import proofs.«01_k».proof.Proof.PI.Value
public import proofs.«01_k».proof.Proof.Tails

@[expose] public section

set_option maxRecDepth 100000
set_option maxHeartbeats 4000000

noncomputable section

namespace Cert.Proof.RI

open Cert.ReferenceIdeal Cert.ReferenceIdeal.Gen
open Idealize.ShloMosaic Idealize.ShloMosaic.StableHlo Cert.Proof.Gathers Cert.Proof.Slots

variable (m : (ℓ : Loc nD τ sig) → Buf (Elt Ideal) ℓ)

/-- The contents a device is launched with. -/
def V0 (c : Dev nD) : Valuation τ sig (Elt Ideal) := fun b => m (c, b)

/-- The contents after the loop. -/
def loopEnd (c : Dev nD) : Valuation τ sig (Elt Ideal) :=
  after (Value.condOps (F := Ideal)) (Value.atK m 500 c)

theorem entry_eq (c : Dev nD) : entryContents (Value.preI (F := Ideal)) m c = preC (V0 m c) := preC_eq (V0 m c)

/-- What the loop leaves alone. -/
abbrev loopW : List (Ref sig .tc) :=
  Value.condOps_W ++ Value.while0Ops0_W ++ Value.while0Ops0_1_W ++ Value.while0Ops0_2_W ++ Value.while0Ops0_3_W
theorem trip_keep (X : Valuation τ sig (Elt Ideal)) (r : Ref sig .tc) (h : r ∉ loopW) :
    afterL (Value.bodyI (F := Ideal)) (after (Value.condOps (F := Ideal)) X) (Proc.devRef .tc r) = X (Proc.devRef .tc r) := by
  simp only [loopW, List.mem_append, not_or] at h
  obtain ⟨⟨⟨⟨h0, h1⟩, h2⟩, h3⟩, h4⟩ := h
  simp only [Value.bodyI, afterL_cons, afterL_nil]
  rw [after_of_writes_sub _ _ Value.while0Ops0_3_writes h4, after_of_writes_sub _ _ Value.while0Ops0_2_writes h3,
    after_of_writes_sub _ _ Value.while0Ops0_1_writes h2, after_of_writes_sub _ _ Value.while0Ops0_writes h1,
    after_of_writes_sub _ _ Value.condOps_writes h0]
theorem atK_keep (c : Dev nD) (r : Ref sig .tc) (h : r ∉ loopW) : ∀ k, Value.atK m k c (Proc.devRef .tc r) = preC (V0 m c) (Proc.devRef .tc r)
  | 0 => congrFun (entry_eq m c) _
  | k + 1 => (trip_keep _ r h).trans (atK_keep c r h k)
theorem loopEnd_keep (c : Dev nD) (r : Ref sig .tc) (h : r ∉ loopW) : loopEnd m c (Proc.devRef .tc r) = preC (V0 m c) (Proc.devRef .tc r) := by
  have h0 : r ∉ Value.condOps_W := fun h' => h (by simp only [loopW, List.mem_append]; tauto)
  exact (after_of_writes_sub _ _ Value.condOps_writes h0).trans (atK_keep m c r h 500)

theorem preC_values (V) : preC V (Proc.devRef .tc main_values) = preB V (Proc.devRef .tc main_values) := by
  unfold preC
  after_reads_simp
theorem preC_indices (V) : preC V (Proc.devRef .tc main_indices) = preB V (Proc.devRef .tc main_indices) := by
  unfold preC
  after_reads_simp
theorem preC_v126 (V) : preC V (Proc.devRef .tc main_v126) = preA V (Proc.devRef .tc main_v126) := by
  unfold preC preB
  after_reads_simp
theorem preC_v128 (V) (c : Fin 80) : preC V (Proc.devRef .tc main_v128) (ix2 c 0) = BitVec.ofNat 32 c.val := by
  unfold preC preB
  after_reads_at
theorem preC_v4 (V) (c : Fin 80) (i : Fin 500) : preC V (Proc.devRef .tc main_v4) (ix2 c i) = FloatOps.fptosi (F := Ideal) (φ := .f32) 32 (num V c i) := by
  unfold preC preB preA pre7
  after_reads_at
  rfl
theorem preC_arg3 (V) : preC V (Proc.devRef .tc main_arg3) = V (Proc.devRef .tc main_arg3) := by
  unfold preC preB preA pre7
  after_reads_simp

open Classical in
theorem loopEnd_bit (c : Dev nD) (k : Fin 80) (a : Fin 500) :
    loopEnd m c (Proc.devRef .tc main_v210_3) (ix2 k a) = BitVec.ofBool (decide (after_turns (V0 m c) k 500 a)) := by
  have e1 : loopEnd m c (Proc.devRef .tc main_v210_3) = Value.atK m 500 c (Proc.devRef .tc main_v210_3) :=
    Value.cond_keeps _ main_v210_3 (by decide)
  have e2 := Value.atK_agree m c 500 main_v210_3 (by decide)
  rw [e1, e2, entry_eq]
  exact (loop_at (V0 m c) 500 le_rfl).2.2 k a

/-- The contents at the flat candidates. -/
def flat (c : Dev nD) : Valuation τ sig (Elt Ideal) :=
  after (opsS (F := Ideal)) (after (hostOps0_10 (F := Ideal)) (after (hostOps0_9 (F := Ideal)) (loopEnd m c)))

theorem post_eq (X : Valuation τ sig (Elt Ideal)) : afterL (Value.postI (F := Ideal)) X
    = Tails.lastR (after (opsS (F := Ideal)) (after (hostOps0_10 (F := Ideal)) (after (hostOps0_9 (F := Ideal)) X))) := by
  simp only [Value.postI, afterL_cons, afterL_nil, hostOps0_11_cut, after_append]
  rfl
theorem final_eq (c : Dev nD) (b) :
    finalContents (Value.condOps (F := Ideal)) Value.preI Value.bodyI Value.postI 500 m c b = Tails.lastR (flat m c) b := by
  unfold flat
  rw [← post_eq]
  rfl

theorem flat_scatter (c : Dev nD) : flat m c (Proc.devRef .tc main_v227)
    = Host.scatter scatter_S80x500_S80x500x2_S80x500_n_01_01_2 (fun _ b => b) (flat m c (Proc.devRef .tc main_v212))
        (flat m c (Proc.devRef .tc main_v226)) (flat m c (Proc.devRef .tc main_v211)) := by
  unfold flat
  after_reads_simp
  rfl

theorem flat_idx0 (c : Dev nD) (k : Fin 80) (a : Fin 500) : flat m c (Proc.devRef .tc main_v226) (ix3 k a 0) = BitVec.ofNat 32 k.val := by
  have e := congrFun (loopEnd_keep m c main_v128 (by decide +kernel)) (ix2 k 0)
  have e' := e.trans (preC_v128 (V0 m c) k)
  unfold flat
  after_reads_at
  erw [e']
  exact wrap_small _ (by omega) _
theorem flat_idx1 (c : Dev nD) (k : Fin 80) (a : Fin 500) : flat m c (Proc.devRef .tc main_v226) (ix3 k a 1) = BitVec.ofNat 32 (sorted (V0 m c) k a).val := by
  have e := congrFun ((loopEnd_keep m c main_indices (by decide +kernel)).trans (preC_indices (V0 m c))) (ix2 k a)
  have e' := e.trans (preB_indices (V0 m c) k a)
  unfold flat
  after_reads_at
  erw [e']
  exact wrap_small _ (by omega) _
open Classical in
theorem flat_upd (c : Dev nD) (k : Fin 80) (a : Fin 500) : flat m c (Proc.devRef .tc main_v211) (ix2 k a)
    = PI.kept (score (V0 m c) k (sorted (V0 m c) k a)) (after_turns (V0 m c) k 500 a) := by
  have e := congrFun ((loopEnd_keep m c main_values (by decide +kernel)).trans (preC_values (V0 m c))) (ix2 k a)
  have e' := e.trans (preB_values (V0 m c) k a)
  have e2 := loopEnd_bit m c k a
  unfold flat
  generalize loopEnd m c = X at e' e2 ⊢
  after_reads_at
  simp only [id_eq]
  pointwise
  erw [e', e2]
  unfold PI.kept
  by_cases h : after_turns (V0 m c) k 500 a <;> simp [h, Scalar.select]

theorem flat_score (c : Dev nD) (k : Fin 80) (a : Fin 500) : flat m c (Proc.devRef .tc main_v227) (ix2 k (sorted (V0 m c) k a))
    = PI.kept (score (V0 m c) k (sorted (V0 m c) k a)) (after_turns (V0 m c) k 500 a) := by
  rw [flat_scatter]
  refine (scatter_perm _ rfl rfl rfl _ _ _ (sorted (V0 m c)) (fun r => (Order.perm_bijective _).injective) ?_ ?_ k a).trans (flat_upd m c k a)
  · intro r b
    rw [flat_idx0]
    exact toInt_small _ (by omega)
  · intro r b
    rw [flat_idx1]
    exact toInt_small _ (by omega)

theorem flat_v233 (c : Dev nD) : flat m c (Proc.devRef .tc main_v233) = shapeCast S40000 (flat m c (Proc.devRef .tc main_v227)) shapeCasts_S80x500_S40000 := by
  unfold flat
  after_reads_simp
  rfl
theorem flat_v234 (c : Dev nD) : flat m c (Proc.devRef .tc main_v234) = shapeCast S40000x4 (preA (V0 m c) (Proc.devRef .tc main_v126)) shapeCasts_S80x500x4_S40000x4 := by
  rw [← preC_v126, ← loopEnd_keep m c main_v126 (by decide +kernel)]
  unfold flat
  after_reads_simp
  rfl
theorem flat_v235 (c : Dev nD) : flat m c (Proc.devRef .tc main_v235) = shapeCast S40000 (preC (V0 m c) (Proc.devRef .tc main_v4)) shapeCasts_S80x500_S40000 := by
  rw [← loopEnd_keep m c main_v4 (by decide +kernel)]
  unfold flat
  after_reads_simp
  rfl
theorem flat_arg3 (c : Dev nD) : flat m c (Proc.devRef .tc main_arg3) = m (c, Proc.devRef .tc main_arg3) := by
  have e := (loopEnd_keep m c main_arg3 (by decide +kernel)).trans (preC_arg3 (V0 m c))
  refine Eq.trans ?_ e
  unfold flat
  after_reads_simp

end Cert.Proof.RI
-- ==== Proof.RI.Frame.lean ====
/-
  The reference's run: its result, its arguments as launched, and no counter left.
-/
module

public import proofs.«01_k».proof.Proof.RI.Tail
public import Idealize.ShloMosaic.Lib.Quiescent

@[expose] public section

set_option maxRecDepth 100000
set_option maxHeartbeats 4000000

noncomputable section

namespace Cert.Proof.RI

open Cert.ReferenceIdeal Cert.ReferenceIdeal.Gen
open Idealize.ShloMosaic Idealize.ShloMosaic.StableHlo Idealize.SL.Sem

variable (m : (ℓ : Loc nD τ sig) → Buf (Elt Ideal) ℓ)

/-- The arguments of the reference. -/
abbrev args : List (Ref sig .tc) := [main_arg0, main_arg1, main_arg2, main_arg3, main_arg4]

theorem pre_keep (V : Valuation τ sig (Elt Ideal)) (b : Ref sig .tc) (hb : b ∈ args) : preC V (Proc.devRef .tc b) = V (Proc.devRef .tc b) := by
  rw [← preC_eq]
  simp only [Value.preI, afterL_cons, afterL_nil]
  have h : ∀ r ∈ args, r ∉ Value.hostOps0_W ∧ r ∉ Value.hostOps0_1_W ∧ r ∉ Value.hostOps0_2_W ∧ r ∉ Value.hostOps0_3_W ∧ r ∉ Value.hostOps0_4_W
      ∧ r ∉ Value.hostOps0_5_W ∧ r ∉ Value.hostOps0_6_W ∧ r ∉ Value.hostOps0_7_W ∧ r ∉ Value.hostOps0_8_W := by decide +kernel
  obtain ⟨h0, h1, h2, h3, h4, h5, h6, h7, h8⟩ := h b hb
  rw [after_of_writes_sub _ _ Value.hostOps0_8_writes h8, after_of_writes_sub _ _ Value.hostOps0_7_writes h7, after_of_writes_sub _ _ Value.hostOps0_6_writes h6,
    after_of_writes_sub _ _ Value.hostOps0_5_writes h5, after_of_writes_sub _ _ Value.hostOps0_4_writes h4, after_of_writes_sub _ _ Value.hostOps0_3_writes h3,
    after_of_writes_sub _ _ Value.hostOps0_2_writes h2, after_of_writes_sub _ _ Value.hostOps0_1_writes h1, after_of_writes_sub _ _ Value.hostOps0_writes h0]
theorem post_keep (V : Valuation τ sig (Elt Ideal)) (b : Ref sig .tc) (hb : b ∈ args) :
    afterL (Value.postI (F := Ideal)) V (Proc.devRef .tc b) = V (Proc.devRef .tc b) := by
  simp only [Value.postI, afterL_cons, afterL_nil]
  simp only [args, List.mem_cons, List.mem_nil_iff, or_false] at hb
  rcases hb with rfl | rfl | rfl | rfl | rfl <;> after_reads_simp

theorem arg_keep (c : Dev nD) (b : Ref sig .tc) (hb : b ∈ args) :
    finalContents (Value.condOps (F := Ideal)) Value.preI Value.bodyI Value.postI 500 m c (Proc.devRef .tc b) = m ((c.tc : Thread nD τ).loc b) := by
  have h : ∀ r ∈ args, r ∉ loopW := by decide +kernel
  have e : finalContents (Value.condOps (F := Ideal)) Value.preI Value.bodyI Value.postI 500 m c = afterL (Value.postI (F := Ideal)) (loopEnd m c) := rfl
  rw [e, post_keep _ b hb, loopEnd_keep m c b (h b hb), pre_keep _ b hb]
  rfl

/-- Any run of the reference ends with the result at hand, the arguments as launched and every counter at zero. -/
theorem run (ρ : Dev nD → PrngReg) : θ_run (defs (F := Ideal)) (onTc (τ := τ) (main (F := Ideal))) ⟨m, fun _ => 0, ρ⟩ (fun r =>
    (∀ c : Dev nD, r.2.mem ((c.tc : Thread nD τ).loc main_v272) = Tails.lastR (flat m c) (Proc.devRef .tc main_v272)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨
      (h c main_v272 (by decide)).trans (final_eq m c _),
      (h c main_arg0 (by decide)).trans (arg_keep m c main_arg0 (by decide)),
      (h c main_arg1 (by decide)).trans (arg_keep m c main_arg1 (by decide)),
      (h c main_arg2 (by decide)).trans (arg_keep m c main_arg2 (by decide)),
      (h c main_arg3 (by decide)).trans (arg_keep m c main_arg3 (by decide)),
      (h c main_arg4 (by decide)).trans (arg_keep m c main_arg4 (by decide))⟩,
    sem_eq_zero_of_no_sems (by decide) _⟩) (Value.run_fold m ρ)

end Cert.Proof.RI
-- ==== Proof.PI.Frame.lean ====
/-
  @main around its one kernel call: the contents the call finds, the proof data of its pipeline, the body obligation,
  and the run with every counter at zero at the end.
-/
module

public import proofs.«01_k».proof.Proof.PI.Body

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- The lists of operations after the call. -/
abbrev tail : List (List (HloOp τ sig (Elt F))) := [hostOps1, hostOps1_1, hostOps1_2]

/-- A core's buffers as the call finds them. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor

set_option maxHeartbeats 800000 in
/-- @main is the operations before the call, the call, the operations after. -/
theorem hmain (𝒱 : Variants) : Pipeline.HMainK (Ix := Unit) (Name := ℕ) (U := UR sig nD τ) (Lvl := ℕ) (cfgs (F := F)) 0 (defs₀ (F := F)) 𝒱 m (main (F := F)) (V m)
      (fun _ => Pipeline.chain ((tail (F := F)).map StableHlo.seq)) :=
  Pipeline.hmain_around (cfgs (F := F)) 0 (defs₀ (F := F)) 𝒱 m main [hostOps0] (tail (F := F)) (by simp only [List.Forall]; exact hostOps0_sub)
    (by simp only [List.Forall]; exact fresh0) main_chain

theorem tail_sub : ∀ ops ∈ (tail : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp fresh1) op hop
  · exact (List.forall_iff_forall_mem.mp fresh1_1) op hop
  · exact (List.forall_iff_forall_mem.mp fresh1_2) op hop

/-- The buffers the call's pipeline reads and writes. -/
def arrs : List (Ref sig .tc) := [main_v37, main_v4, main_v28, main_v36, main_v38_0, main_v38_1]

theorem arr_mem : ∀ w, Pipeline.arrRef spec0 w ∈ arrs := by decide

set_option maxHeartbeats 1600000 in
/-- No operation after the call writes one of them. -/
theorem tail_keeps : ∀ ops ∈ (tail : List (List (HloOp τ sig (Elt F)))), ∀ op ∈ ops,
    ∀ w, Proc.devRef .tc (Pipeline.arrRef spec0 w) ∉ op.writes := by
  have key : ∀ b ∈ arrs, ∀ ops ∈ (tail : List (List (HloOp τ sig (Elt F)))), ops.Forall fun op => Proc.devRef .tc b ∉ op.writes := by
    intro b hb ops hops
    simp only [List.mem_cons, List.mem_nil_iff, or_false] at hops
    simp only [arrs, List.mem_cons, List.mem_nil_iff, or_false] at hb
    rcases hops with rfl | rfl | rfl <;> rcases hb with rfl | rfl | rfl | rfl | rfl | rfl <;>
      (simp only [hostOps1, hostOps1_1, hostOps1_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
       repeat' apply And.intro
       all_goals exact StableHlo.devRef_ne_of_ne (by decide))
  intro ops hops op hop w
  exact (List.forall_iff_forall_mem.mp (key _ (arr_mem w) ops hops)) op hop

/-- An argument is written by no operation before the call, -/
theorem V_arg (b : Ref sig .tc) (hb : b ∈ [main_arg0, main_arg1, main_arg2, main_arg3, main_arg4]) (c : Dev nD) :
    V m c b = m ((c : Thread nD τ).loc b) :=
  StableHlo.after_of_forall_not_mem (b := Proc.devRef .tc b) _ _ (List.forall_iff_forall_mem.mp (by
    simp only [List.mem_cons, List.mem_nil_iff, or_false] at hb
    rcases hb with rfl | rfl | rfl | rfl | rfl <;>
      (simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
       repeat' apply And.intro
       all_goals exact StableHlo.devRef_ne_of_ne (by decide))))

/-- no argument is a pipeline's array, -/
theorem arg_ne (b : Ref sig .tc) (hb : b ∈ [main_arg0, main_arg1, main_arg2, main_arg3, main_arg4]) :
    ∀ w, Pipeline.arrRef spec0 w ≠ b := by
  simp only [List.mem_cons, List.mem_nil_iff, or_false] at hb
  rcases hb with rfl | rfl | rfl | rfl | rfl <;> decide

/-- and by none after it, so it ends as launched. -/
theorem W_arg (dats : (p : Fin _) → (c : Dev nD) → Dat τ (Elt F) Unit ℕ (UR sig nD τ) ℕ ((cfgs (F := F)) p) c)
    (b : Ref sig .tc) (hb : b ∈ [main_arg0, main_arg1, main_arg2, main_arg3, main_arg4]) (c : Dev nD) :
    Pipeline.afterTail₀ (cfgs (F := F)) dats 0 (V0 m) (tail (F := F)) c b = m ((c : Thread nD τ).loc b) := by
  unfold Pipeline.afterTail₀
  rw [StableHlo.after_of_forall_not_mem (b := Proc.devRef .tc b) _ _ (List.forall_iff_forall_mem.mp (by
      simp only [List.mem_cons, List.mem_nil_iff, or_false] at hb
      rcases hb with rfl | rfl | rfl | rfl | rfl <;>
        (simp only [tail, hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
         repeat' apply And.intro
         all_goals exact StableHlo.devRef_ne_of_ne (by decide)))),
    Pipeline.withArrays_of_ne _ c (V0 m c) _ b (arg_ne b hb)]
  exact V_arg m b hb c

/-! ## The proof data -/

/-- A window's block at a point, off its array as the call finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The proof data: the arrays as found; the inputs' buffers left at their blocks, the results' at the body's functions. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => out5 (iblk m c 0 t) (iblk m c 1 t) (iblk m c 2 t) (iblk m c 3 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by dsimp only [dats]; rfl
theorem after1 (c : Dev nD) (t : Fin (cfg0 (F := F)).N) : (dats m 0 c).after 1 t = iblk m c 1 t := by dsimp only [dats]; rfl
theorem after2 (c : Dev nD) (t : Fin (cfg0 (F := F)).N) : (dats m 0 c).after 2 t = iblk m c 2 t := by dsimp only [dats]; rfl
theorem after3 (c : Dev nD) (t : Fin (cfg0 (F := F)).N) : (dats m 0 c).after 3 t = iblk m c 3 t := by dsimp only [dats]; rfl
theorem after4 (c : Dev nD) (t : Fin (cfg0 (F := F)).N) : (dats m 0 c).after 4 t = out4 (iblk m c 0 t) (iblk m c 1 t) (iblk m c 2 t) (iblk m c 3 t) := by dsimp only [dats]; rfl
theorem after5 (c : Dev nD) (t : Fin (cfg0 (F := F)).N) : (dats m 0 c).after 5 t = out5 (iblk m c 0 t) (iblk m c 1 t) (iblk m c 2 t) (iblk m c 3 t) := by dsimp only [dats]; rfl

/-- An input's staging buffer holds its block at every point. -/
theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 (F := F)).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

/-- What the body is called with at a point, window by window, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it gives back. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (H : Halts F) (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel H c (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (H : Halts F) (c : Dev nD) : BodyObligation (dats (F := F) m 0 c) (defs₀ (F := F)) 𝒱₀ () Set.univ := fun t => by
  rw [bigSep_W0, bigSep_W0, row_eq]
  exact triple_restated (sound_body m H c t) rfl .rfl fun _ => .rfl

/-! ## The run -/

set_option backward.isDefEq.respectTransparency.types false in
set_option maxHeartbeats 800000 in
/-- Every fair execution ends, with the arrays as the proof data has them, every other buffer as the operations after
    the call leave it, and every counter at zero. -/
theorem run_main (H : Halts F) : θ_run defs (onTc (τ := τ) (main (F := F))) (s₀ m ρ) (fun r =>
    (Pipeline.FramePost (cfgs (F := F)) (dats m) 0 (Pipeline.afterTail₀ (cfgs (F := F)) (dats m) 0 (V0 m) (tail (F := F)))) r ∧ r.2.sem = fun _ => 0) :=
  Pipeline.θ_run_frame_around (Q' := _) (cfgs (F := F)) (dats m) (0 : Fin 1) launch0 defs₀ 𝒱₀ m ρ main
    (hbody := fun c => (body_obligation m H c).loose) (hshare := fun c => (dats m 0 c).share_full fun _ => rfl)
    (howed := fun _ _ => rfl) (V₀ := V0 m) (opss := tail (F := F)) (hsub := tail_sub) (hfresh := tail_fresh) (hkeep := tail_keeps)
    (hmain := hmain m 𝒱₀) (hA := A_eq m) (hΦ := fun _ _ => rfl)

/-- What an unstaged buffer of the machine ends at. -/
theorem run_at (H : Halts F) (bs : List (Ref sig .tc)) (hbs : ∀ b ∈ bs, b ∈ Pipeline.restRefs sig spec0) :
    θ_run defs (onTc (τ := τ) (main (F := F))) ⟨m, fun _ => 0, ρ⟩ (fun r =>
      (∀ c : Dev nD, ∀ b ∈ bs, r.2.mem ((c.tc : Thread nD τ).loc b) = Pipeline.afterTail₀ (cfgs (F := F)) (dats m) 0 (V0 m) (tail (F := F)) c b)
      ∧ r.2.sem = fun _ => 0) :=
  (θ_run defs _ _).mono (fun _ h => ⟨fun c b hb => (h.1 c).2 b (hbs b hb), h.2⟩) (run_main m ρ H)

/-- The frame: the arguments end as launched, the counters at zero. -/
theorem frame (H : Halts F) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Pipeline.mem_restRefs_of main_arg0 (by decide) (arg_ne main_arg0 (by decide)))).trans (W_arg m (dats m) main_arg0 (by decide) c),
      ((h.1 c).2 main_arg1 (Pipeline.mem_restRefs_of main_arg1 (by decide) (arg_ne main_arg1 (by decide)))).trans (W_arg m (dats m) main_arg1 (by decide) c),
      ((h.1 c).2 main_arg2 (Pipeline.mem_restRefs_of main_arg2 (by decide) (arg_ne main_arg2 (by decide)))).trans (W_arg m (dats m) main_arg2 (by decide) c),
      ((h.1 c).2 main_arg3 (Pipeline.mem_restRefs_of main_arg3 (by decide) (arg_ne main_arg3 (by decide)))).trans (W_arg m (dats m) main_arg3 (by decide) c),
      ((h.1 c).2 main_arg4 (Pipeline.mem_restRefs_of main_arg4 (by decide) (arg_ne main_arg4 (by decide)))).trans (W_arg m (dats m) main_arg4 (by decide) c)⟩, h.2⟩)
    (run_main m ρ H)

end Cert.Proof.PI

end
-- ==== Proof.PI.Prefix.lean ====
/-
  The arrays the kernel's call reads, at an index.
-/
module

public import proofs.«01_k».proof.Proof.PI.Frame
public import proofs.«01_k».proof.Proof.PI.Value
public import proofs.«01_k».proof.Proof.Slots
public import Idealize.ShloMosaic.Lib.StableHlo.ReadAt

@[expose] public section

set_option maxRecDepth 100000
set_option maxHeartbeats 4000000

noncomputable section

namespace Cert.Proof.PI

open Cert.KernelIdeal Cert.KernelIdeal.Gen
open Idealize.ShloMosaic Idealize.ShloMosaic.StableHlo Cert.Proof.Gathers Cert.Proof.Slots

variable (W : Valuation τ sig (Elt Ideal))

/-- The score of a slot. -/
def score (W : Valuation τ sig (Elt Ideal)) (c : Fin 80) (i : Fin 500) : EReal := W (Proc.devRef .tc main_arg0) (ix3 c (slot i) 0)
/-- The row number of a slot, as a float. -/
def num (W : Valuation τ sig (Elt Ideal)) (c : Fin 80) (i : Fin 500) : EReal := W (Proc.devRef .tc main_arg1) (ix3 c (slot i) 0)
/-- A proposal, and its deltas for a class. -/
def prop (W : Valuation τ sig (Elt Ideal)) (n : Fin 20000) : Box.Corners := fun k => W (Proc.devRef .tc main_arg4) (ix2 n k)
def delt (W : Valuation τ sig (Elt Ideal)) (n : Fin 20000) (c : Fin 81) : Box.Corners := fun k =>
  W (Proc.devRef .tc main_arg2) (ix2 n ⟨c.val * 4 + k.val, by have := c.isLt; have := k.isLt; omega⟩)

/-- The contents before the call. -/
def pre0 (W : Valuation τ sig (Elt Ideal)) : Valuation τ sig (Elt Ideal) := after (hostOps0 (F := Ideal)) W

theorem pre0_v37 (c : Fin 80) (i : Fin 500) : pre0 W (Proc.devRef .tc main_v37) (ix3 c 0 i) = score W c i := by
  unfold pre0
  after_reads_at
  rfl
theorem pre0_v4 (c : Fin 80) (i : Fin 500) : pre0 W (Proc.devRef .tc main_v4) (ix3 c 0 i) = num W c i := by
  unfold pre0
  after_reads_at
  rfl
theorem pre0_v7 (c : Fin 80) (i : Fin 500) : pre0 W (Proc.devRef .tc main_v7) (ix2 c i) = FloatOps.fptosi (F := Ideal) (φ := .f32) 32 (num W c i) := by
  unfold pre0
  after_reads_at
  rfl
theorem pre0_v26_0 (c : Fin 80) (i : Fin 500) : pre0 W (Proc.devRef .tc main_v26) (ix3 c i 0) = rowWord (num W c i) := by
  unfold pre0
  after_reads_at
  rfl
theorem pre0_v26_1 (c : Fin 80) (i : Fin 500) : pre0 W (Proc.devRef .tc main_v26) (ix3 c i 1) = clsWord c := by
  unfold pre0
  after_reads_at
  rfl
theorem pre0_v34 (c : Fin 80) (i : Fin 500) : pre0 W (Proc.devRef .tc main_v34) (ix3 c i 0) = rowWord (num W c i) := by
  unfold pre0
  after_reads_at
  rfl
theorem pre0_v8 (n : Fin 20000) (c : Fin 81) (k : Fin 4) : pre0 W (Proc.devRef .tc main_v8) (ix3 n c k) = delt W n c k := by
  unfold pre0
  after_reads_at
  rfl
theorem pre0_v27 : pre0 W (Proc.devRef .tc main_v27)
    = Host.gather gather_S20000x81x4_S80x500x2_S80x500x4_2_01_n_n_01_2_114 (pre0 W (Proc.devRef .tc main_v8)) (pre0 W (Proc.devRef .tc main_v26)) := by
  unfold pre0
  after_reads_simp
theorem pre0_v28 (c : Fin 80) (k : Fin 4) (i : Fin 500) : pre0 W (Proc.devRef .tc main_v28) (ix3 c k i) = delt W (rowOf (num W c i)) (clsOf c) k := by
  have e : pre0 W (Proc.devRef .tc main_v28) (ix3 c k i) = pre0 W (Proc.devRef .tc main_v27) (ix3 c i k) := by
    unfold pre0
    after_reads_at
  rw [e, pre0_v27]
  refine (gather_pair (by decide) (by decide) _ _ _ c i k).trans ?_
  rw [pre0_v26_0, pre0_v26_1]
  exact pre0_v8 W (rowOf (num W c i)) (clsOf c) k
theorem pre0_v35 : pre0 W (Proc.devRef .tc main_v35)
    = Host.gather gather_S20000x4_S80x500x1_S80x500x4_2_0_n_n_0_2_14 (W (Proc.devRef .tc main_arg4)) (pre0 W (Proc.devRef .tc main_v34)) := by
  unfold pre0
  after_reads_simp
theorem pre0_v36 (c : Fin 80) (k : Fin 4) (i : Fin 500) : pre0 W (Proc.devRef .tc main_v36) (ix3 c k i) = prop W (rowOf (num W c i)) k := by
  have e : pre0 W (Proc.devRef .tc main_v36) (ix3 c k i) = pre0 W (Proc.devRef .tc main_v35) (ix3 c i k) := by
    unfold pre0
    after_reads_at
  rw [e, pre0_v35]
  refine (gather_row (by decide) _ _ _ c i k).trans ?_
  rw [pre0_v34]
  rfl

end Cert.Proof.PI
-- ==== Proof.PI.Arrays.lean ====
/-
  The arrays the kernel's call leaves, at an index.
-/
module

public import proofs.«01_k».proof.Proof.PI.Prefix
public import Idealize.ShloMosaic.Lib.Pipeline.ValueKit

@[expose] public section

set_option maxRecDepth 100000
set_option maxHeartbeats 4000000

noncomputable section

namespace Cert.Proof.PI

open Cert.KernelIdeal Cert.KernelIdeal.Gen
open Idealize.ShloMosaic Idealize.ShloMosaic.StableHlo Cert.Proof.Gathers Cert.Proof.Slots
open Idealize.ShloMosaic.TcCoe

variable (m : (ℓ : Loc nD τ sig) → Buf (Elt Ideal) ℓ)

/-- The contents a device is launched with. -/
def W0 (c : Dev nD) : Valuation τ sig (Elt Ideal) := fun b => m (c, b)

/-- The point of the grid that works on a class. -/
def pt (k : Fin 80) : Fin (cfg0 (F := Ideal)).N := ⟨k.val, lt_of_lt_of_eq k.isLt (by decide +kernel)⟩
/-- The class a point works on. -/
def clsAt (t : Fin (cfg0 (F := Ideal)).N) : Fin 80 := ⟨t.val, lt_of_lt_of_eq t.isLt (by decide +kernel)⟩

theorem e0 : ∀ t : Fin (cfg0 (F := Ideal)).N, win0_0.index t = ![t.val, 0, 0] := (by decide +kernel : ∀ t : Fin grid0.N, _)
theorem e1 : ∀ t : Fin (cfg0 (F := Ideal)).N, win0_1.index t = ![t.val, 0, 0] := (by decide +kernel : ∀ t : Fin grid0.N, _)
theorem e2 : ∀ t : Fin (cfg0 (F := Ideal)).N, win0_2.index t = ![t.val, 0, 0] := (by decide +kernel : ∀ t : Fin grid0.N, _)
theorem e3 : ∀ t : Fin (cfg0 (F := Ideal)).N, win0_3.index t = ![t.val, 0, 0] := (by decide +kernel : ∀ t : Fin grid0.N, _)
theorem e4 : ∀ t : Fin (cfg0 (F := Ideal)).N, win0_4.index t = ![t.val, 0, 0] := (by decide +kernel : ∀ t : Fin grid0.N, _)
theorem e5 : ∀ t : Fin (cfg0 (F := Ideal)).N, win0_5.index t = ![t.val, 0, 0] := (by decide +kernel : ∀ t : Fin grid0.N, _)

theorem V_eq (c : Dev nD) (b : Ref sig .tc) : V m c b = pre0 (W0 m c) (Proc.devRef .tc b) := by
  show after (List.flatten [hostOps0]) _ _ = _
  rw [List.flatten_cons, List.flatten_nil, List.append_nil]
  rfl

theorem blk0 (c : Dev nD) (t : Fin (cfg0 (F := Ideal)).N) (j : Fin 500) : at1 (iblk m c 0 t) j = score (W0 m c) (clsAt t) j := by
  rw [← pre0_v37, ← V_eq]
  unfold at1
  blk_simp [iblk]
  blk_ext [e0, clsAt]
theorem blk1 (c : Dev nD) (t : Fin (cfg0 (F := Ideal)).N) (j : Fin 500) : at1 (iblk m c 1 t) j = num (W0 m c) (clsAt t) j := by
  rw [← pre0_v4, ← V_eq]
  unfold at1
  blk_simp [iblk]
  blk_ext [e1, clsAt]
theorem blk2 (c : Dev nD) (t : Fin (cfg0 (F := Ideal)).N) (j : Fin 500) :
    at4 (iblk m c 2 t) j = delt (W0 m c) (rowOf (num (W0 m c) (clsAt t) j)) (clsOf (clsAt t)) := by
  funext k
  rw [← pre0_v28, ← V_eq]
  unfold at4
  blk_simp [iblk]
  blk_ext [e2, clsAt]
theorem blk3 (c : Dev nD) (t : Fin (cfg0 (F := Ideal)).N) (j : Fin 500) :
    at4 (iblk m c 3 t) j = prop (W0 m c) (rowOf (num (W0 m c) (clsAt t) j)) := by
  funext k
  rw [← pre0_v36, ← V_eq]
  unfold at4
  blk_simp [iblk]
  blk_ext [e3, clsAt]

/-- The scores' result array and the boxes' one, block by block. -/
def G4 (c : Dev nD) : S80x1x500.Idx → EReal := fun i =>
  out4 (iblk m c 0 (pt (i 0))) (iblk m c 1 (pt (i 0))) (iblk m c 2 (pt (i 0))) (iblk m c 3 (pt (i 0))) (ix3 0 0 (i 2))
def G5 (c : Dev nD) : S80x4x500.Idx → EReal := fun i =>
  out5 (iblk m c 0 (pt (i 0))) (iblk m c 1 (pt (i 0))) (iblk m c 2 (pt (i 0))) (iblk m c 3 (pt (i 0))) (ix3 0 (i 1) (i 2))

theorem final4 (c : Dev nD) : (dats m 0 c).arrAt 4 (cfg0 (F := Ideal)).N = G4 m c := by
  refine (dats m 0 c).arrAt_eq_of_covers 4 _ (by decide +kernel) fun t hf y => ?_
  blk_simp
  have ht : pt (((win0_4.blk (G := grid0) t).view.emb y) 0) = t := by
    refine Fin.ext ?_
    show (((win0_4.blk (G := grid0) t).view.emb y) 0 : ℕ) = _
    blk_simp [e4]
  have hy : (ix3 0 0 (((win0_4.blk (G := grid0) t).view.emb y) 2) : S1x1x500.Idx) = y := by
    blk_ext [e4]
  have ha := after4 m c t
  rw [ha]
  show _ = out4 (iblk m c 0 (pt _)) (iblk m c 1 (pt _)) (iblk m c 2 (pt _)) (iblk m c 3 (pt _)) (ix3 0 _ _)
  rw [ht, hy]
theorem final5 (c : Dev nD) : (dats m 0 c).arrAt 5 (cfg0 (F := Ideal)).N = G5 m c := by
  refine (dats m 0 c).arrAt_eq_of_covers 5 _ (by decide +kernel) fun t hf y => ?_
  blk_simp
  have ht : pt (((win0_5.blk (G := grid0) t).view.emb y) 0) = t := by
    refine Fin.ext ?_
    show (((win0_5.blk (G := grid0) t).view.emb y) 0 : ℕ) = _
    blk_simp [e5]
  have hy : (ix3 0 (((win0_5.blk (G := grid0) t).view.emb y) 1) (((win0_5.blk (G := grid0) t).view.emb y) 2) : S1x4x500.Idx) = y := by
    blk_ext [e5]
  have ha := after5 m c t
  rw [ha]
  show _ = out5 (iblk m c 0 (pt _)) (iblk m c 1 (pt _)) (iblk m c 2 (pt _)) (iblk m c 3 (pt _)) (ix3 0 _ _)
  rw [ht, hy]

/-- The decoded box of a slot. -/
def box (W : Valuation τ sig (Elt Ideal)) (c : Fin 80) (i : Fin 500) : Box.Corners :=
  Box.decoded (prop W (rowOf (num W c i))) (delt W (rowOf (num W c i)) (clsOf c))

theorem boxOf_blk (c : Dev nD) (k : Fin 80) : boxOf (iblk m c 2 (pt k)) (iblk m c 3 (pt k)) = box (W0 m c) k := by
  funext j
  unfold boxOf
  rw [blk2, blk3]
  rfl

/-- The boxes' result at an index. -/
theorem G5_at (c : Dev nD) (k : Fin 80) (q : Fin 4) (i : Fin 500) : G5 m c (ix3 k q i) = box (W0 m c) k i q := by
  rw [← boxOf_blk]
  unfold G5
  exact out5_at (iblk m c 0 (pt k)) (iblk m c 1 (pt k)) (iblk m c 2 (pt k)) (iblk m c 3 (pt k)) q i

/-- The scores' result at an index: the score of a kept slot, the bottom elsewhere. -/
theorem G4_at (c : Dev nD) (k : Fin 80) : ∃ K : Fin 500 → Prop,
    Greedy.step (fun j => 0 < score (W0 m c) k j) (sup (score (W0 m c) k) (num (W0 m c) k) (box (W0 m c) k)) K = K ∧
      ∀ i, G4 m c (ix3 k 0 i) = kept (score (W0 m c) k i) (K i) := by
  have h := out4_at (iblk m c 0 (pt k)) (iblk m c 1 (pt k)) (iblk m c 2 (pt k)) (iblk m c 3 (pt k))
  rw [boxOf_blk, show at1 (iblk m c 0 (pt k)) = score (W0 m c) k from funext fun j => blk0 m c (pt k) j,
    show at1 (iblk m c 1 (pt k)) = num (W0 m c) k from funext fun j => blk1 m c (pt k) j] at h
  obtain ⟨K, hK, h⟩ := h
  refine ⟨K, hK, fun i => ?_⟩
  unfold G4
  exact h i

end Cert.Proof.PI
-- ==== Proof.PI.Tail.lean ====
/-
  The kernel's flat candidates after its call.
-/
module

public import proofs.«01_k».proof.Proof.PI.Arrays
public import proofs.«01_k».proof.Proof.PI.TailOps
public import proofs.«01_k».proof.Proof.Tails

@[expose] public section

set_option maxRecDepth 100000
set_option maxHeartbeats 4000000

noncomputable section

namespace Cert.Proof.PI

open Cert.KernelIdeal Cert.KernelIdeal.Gen
open Idealize.ShloMosaic Idealize.ShloMosaic.StableHlo
open Idealize.ShloMosaic.TcCoe

variable (m : (ℓ : Loc nD τ sig) → Buf (Elt Ideal) ℓ)

/-- The contents after the call. -/
def called (c : Dev nD) : Valuation τ sig (Elt Ideal) :=
  Pipeline.withArrays spec0 c (V0 m c) fun w => (dats m 0 c).arrAt w (cfg0 (F := Ideal)).N

theorem arr_inj : Function.Injective (Pipeline.arrRef spec0) := by decide +kernel

theorem called_0 (c : Dev nD) : called m c (Proc.devRef .tc main_v38_0) = G4 m c :=
  (Pipeline.withArrays_arr spec0 arr_inj c (V0 m c) (fun w => (dats m 0 c).arrAt w (cfg0 (F := Ideal)).N) 4).trans (final4 m c)
theorem called_1 (c : Dev nD) : called m c (Proc.devRef .tc main_v38_1) = G5 m c :=
  (Pipeline.withArrays_arr spec0 arr_inj c (V0 m c) (fun w => (dats m 0 c).arrAt w (cfg0 (F := Ideal)).N) 5).trans (final5 m c)
theorem called_keep (c : Dev nD) (b : Ref sig .tc) (hb : ∀ w, Pipeline.arrRef spec0 w ≠ b) :
    called m c (Proc.devRef .tc b) = pre0 (W0 m c) (Proc.devRef .tc b) :=
  (Pipeline.withArrays_of_ne spec0 c (V0 m c) _ b hb).trans (V_eq m c b)

/-- The contents at the flat candidates. -/
def flat (c : Dev nD) : Valuation τ sig (Elt Ideal) := after (opsS (F := Ideal)) (called m c)

theorem final_eq (c : Dev nD) (b : Ref sig .tc) :
    Pipeline.afterTail₀ (cfgs (F := Ideal)) (dats m) 0 (V0 m) (tail (F := Ideal)) c b = Tails.lastK (flat m c) (Proc.devRef .tc b) := by
  unfold Pipeline.afterTail₀ flat
  have h : ∀ X : Valuation τ sig (Elt Ideal), after (tail (F := Ideal)).flatten X = Tails.lastK (after (opsS (F := Ideal)) X) := by
    intro X
    simp only [tail, List.flatten_cons, List.flatten_nil, List.append_nil, hostOps1_cut, after_append]
    rfl
  rw [h]
  rfl

theorem flat_v39 (c : Dev nD) : flat m c (Proc.devRef .tc main_v39) = shapeCast S40000 (G4 m c) shapeCasts_S80x1x500_S40000 := by
  rw [← called_0]
  unfold flat
  generalize called m c = X
  after_reads_simp
  rfl
theorem flat_v41 (c : Dev nD) : flat m c (Proc.devRef .tc main_v41)
    = shapeCast S40000x4 (transpose S80x500x4 [0, 2, 1] (G5 m c) transposes_S80x4x500_S80x500x4_0_2_1) shapeCasts_S80x500x4_S40000x4 := by
  rw [← called_1]
  unfold flat
  generalize called m c = X
  after_reads_simp
  rfl
theorem flat_v42 (c : Dev nD) : flat m c (Proc.devRef .tc main_v42) = shapeCast S40000 (pre0 (W0 m c) (Proc.devRef .tc main_v7)) shapeCasts_S80x500_S40000 := by
  rw [← called_keep m c main_v7 (by decide +kernel)]
  unfold flat
  generalize called m c = X
  after_reads_simp
  rfl
theorem flat_arg3 (c : Dev nD) : flat m c (Proc.devRef .tc main_arg3) = m (c, Proc.devRef .tc main_arg3) := by
  have e : pre0 (W0 m c) (Proc.devRef .tc main_arg3) = m (c, Proc.devRef .tc main_arg3) := by
    unfold pre0
    after_reads_simp
    rfl
  rw [← e, ← called_keep m c main_arg3 (by decide +kernel)]
  unfold flat
  generalize called m c = X
  after_reads_simp

end Cert.Proof.PI
-- ==== Proof.Pre.lean ====
/-
  What the precondition says of the selected scores and indices.
-/
module

public import proofs.«01_k».proof.Proof.Gen.Pre_selected
public import proofs.«01_k».proof.Proof.Slots
public import Idealize.ShloMosaic.Lib.ReduceAll
public import Idealize.ShloMosaic.Lib.Pointwise
public import Mathlib.Order.Fin.Basic

@[expose] public section

set_option maxRecDepth 100000
set_option maxHeartbeats 4000000

noncomputable section

namespace Cert.Proof.Pre

open Idealize.ShloMosaic Cert.Pre_selected Cert.Proof.Slots

theorem ori_decide (p q r : Prop) [Decidable p] [Decidable q] [Decidable r] :
    IntOp.ori (BitVec.ofBool (decide p)) (IntOp.andi (BitVec.ofBool (decide q)) (BitVec.ofBool (decide r)))
      = BitVec.ofBool (decide (p ∨ (q ∧ r))) := by
  by_cases p <;> by_cases q <;> by_cases r <;> simp [*] <;> decide

/-- The selected scores are the bottom or positive and finite, and the indices ascend along the slots. -/
theorem selected (a0 a1 : FVec Ideal S80x512x1 .f32) (a2 : FVec Ideal S20000x324 .f32) (a3 : FVec Ideal S20000x1024 .f32) (a4 : FVec Ideal S20000x4 .f32)
    (h : Cert.Pre_selected.fn (F := Ideal) a0 a1 a2 a3 a4 = fun _ => 1#1) :
    (∀ (c : Fin 80) (i : Fin 500), a0 (ix3 c (slot i) 0) = Ideal.ofBits .f32 0xFF800000#32
      ∨ (0 < a0 (ix3 c (slot i) 0) ∧ a0 (ix3 c (slot i) 0) < Ideal.ofBits .f32 0x7F800000#32))
    ∧ ∀ (c : Fin 80) (i : Fin 499), a1 (ix3 c (slot i.castSucc) 0) < a1 (ix3 c (slot i.succ) 0) := by
  have e := congrFun h ix0
  unfold Cert.Pre_selected.fn at e
  dsimp only at e
  obtain ⟨e1, e2⟩ := IntOp.andi_eq_one.1 e
  haveI : Subsingleton S_.Idx := ⟨fun a b => funext fun k => k.elim0⟩
  refine ⟨fun c i => ?_, fun c i => ?_⟩
  · have p := Host.reduce_andi_all _ _ _ _ _ e1 (ix2 c i)
    pointwise at p
    rw [ori_decide, WordCmp.ofBool_decide_eq_one_iff] at p
    exact p
  · have p := Host.reduce_andi_all _ _ _ _ _ e2 (ix2 c i)
    pointwise at p
    have q := (WordCmp.ofBool_decide_eq_one_iff _).1 p
    have k : (⟨1 + i.val, by omega⟩ : Fin 512) = slot i.succ := Fin.ext (Nat.add_comm _ _)
    rw [← k]
    exact q

/-- On such scores, finite and positive say the same. -/
theorem finite_iff (s : EReal) (h : s = Ideal.ofBits .f32 0xFF800000#32 ∨ (0 < s ∧ s < Ideal.ofBits .f32 0x7F800000#32)) :
    FloatOps.absf (F := Ideal) (φ := .f32) s < Ideal.ofBits .f32 0x7F800000#32 ↔ 0 < s := by
  have e1 : Ideal.ofBits .f32 0x7F800000#32 = ⊤ := by simp [Ideal.ofBits, Ideal.ieee]
  have e2 : Ideal.ofBits .f32 0xFF800000#32 = ⊥ := by simp [Ideal.ofBits, Ideal.ieee]
  rw [e1, e2] at h
  rw [e1]
  show max s (-s) < ⊤ ↔ 0 < s
  rcases h with rfl | ⟨h0, h1⟩
  · simp
  · refine ⟨fun _ => h0, fun _ => max_lt h1 ?_⟩
    rw [lt_top_iff_ne_top]
    intro e
    rw [EReal.neg_eq_top_iff] at e
    rw [e] at h0
    simp at h0

/-- Ascending from each slot to the next is ascending. -/
theorem ascending (n : Fin 500 → EReal) (h : ∀ i : Fin 499, n i.castSucc < n i.succ) (i j : Fin 500) (g : i < j) : n i < n j :=
  Fin.strictMono_iff_lt_succ.2 h g

end Cert.Proof.Pre
-- ==== Proof.Join.lean ====
/-
  Both programs' flat candidates are the same, and so are their results.
-/
module

public import proofs.«01_k».proof.Proof.RI.Tail
public import proofs.«01_k».proof.Proof.PI.Tail
public import proofs.«01_k».proof.Proof.Pre

@[expose] public section

set_option maxRecDepth 100000
set_option maxHeartbeats 4000000

noncomputable section

namespace Cert.Proof.Join

open Idealize.ShloMosaic Idealize.ShloMosaic.StableHlo Cert.Proof.Slots

theorem flat2 {α : Type} (x : (⟨3, ![80, 1, 500]⟩ : Shape).Idx → α) (y : (⟨2, ![80, 500]⟩ : Shape).Idx → α)
    (hx : (⟨3, ![80, 1, 500]⟩ : Shape).ShapeCasts ⟨1, ![40000]⟩) (hy : (⟨2, ![80, 500]⟩ : Shape).ShapeCasts ⟨1, ![40000]⟩)
    (h : ∀ (c : Fin 80) (i : Fin 500), x (ix3 c 0 i) = y (ix2 c i)) :
    shapeCast ⟨1, ![40000]⟩ x hx = shapeCast ⟨1, ![40000]⟩ y hy := by
  have hc : (⟨3, ![80, 1, 500]⟩ : Shape).ShapeCasts ⟨2, ![80, 500]⟩ := by decide
  have e : y = shapeCast ⟨2, ![80, 500]⟩ x hc := by
    funext j
    obtain ⟨a, b, rfl⟩ : ∃ a b, j = ix2 a b := ⟨j 0, j 1, eq_ix2 j⟩
    rw [← h]
    refine (shapeCast_apply x hc (ix2 a b) (ix3 a 0 b) ?_).symm
    rw [rowMajor_val2 _ 500 rfl, rowMajor_val3 _ 500 500 rfl rfl]
    show a.val * 500 + 0 * 500 + b.val = a.val * 500 + b.val
    omega
  rw [e]
  exact (shapeCast_comp x hc hy).symm

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two memories hold the same arguments. -/
def Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m' c}

theorem score_eq (h : Agree m m' c) : RI.score (RI.V0 m' c) = PI.score (PI.W0 m c) := by
  funext k i
  exact congrFun h.1 _
theorem num_eq (h : Agree m m' c) : RI.num (RI.V0 m' c) = PI.num (PI.W0 m c) := by
  funext k i
  exact congrFun h.2.1 _
theorem delt_eq (h : Agree m m' c) : RI.delt (RI.V0 m' c) = PI.delt (PI.W0 m c) := by
  funext n k q
  exact congrFun h.2.2.1 _
theorem prop_eq (h : Agree m m' c) : RI.prop (RI.V0 m' c) = PI.prop (PI.W0 m c) := by
  funext n q
  exact congrFun h.2.2.2.2 _
theorem box_eq (h : Agree m m' c) : RI.box (RI.V0 m' c) = PI.box (PI.W0 m c) := by
  funext k i
  unfold RI.box PI.box
  rw [num_eq h, delt_eq h, prop_eq h]

/-- What the proof needs of the selected scores and indices. -/
def Selected (W : Valuation Cert.KernelIdeal.τ Cert.KernelIdeal.sig (Elt Ideal)) : Prop :=
  (∀ (k : Fin 80) (i : Fin 500), PI.score W k i = Ideal.ofBits .f32 0xFF800000#32
      ∨ (0 < PI.score W k i ∧ PI.score W k i < Ideal.ofBits .f32 0x7F800000#32))
    ∧ ∀ (k : Fin 80) (i j : Fin 500), i < j → PI.num W k i < PI.num W k j

/-- The scores after suppression agree. -/
theorem scores_eq (h : Agree m m' c) (hs : Selected (PI.W0 m c)) (k : Fin 80) (i : Fin 500) :
    PI.G4 m c (ix3 k 0 i) = RI.flat m' c (Proc.devRef .tc Cert.ReferenceIdeal.main_v227) (ix2 k i) := by
  obtain ⟨a, rfl⟩ := (Order.perm_bijective (RI.score (RI.V0 m' c) k)).surjective i
  refine Eq.trans ?_ (RI.flat_score m' c k a).symm
  obtain ⟨K, hK, e⟩ := PI.G4_at m c k
  rw [e]
  unfold RI.sorted
  rw [score_eq h]
  refine congrArg (PI.kept _) (propext ?_)
  refine (Greedy.sorted_eq (Order.perm (PI.score (PI.W0 m c) k)) (Order.perm_bijective _) _ _
    (Order.perm_pre (PI.score (PI.W0 m c) k) (PI.num (PI.W0 m c) k) (hs.2 k)) K hK a).trans (iff_of_eq ?_)
  unfold RI.after_turns
  refine congrArg₂ (fun v O => Greedy.seq v O 500 a) (funext fun b => propext ?_) (funext fun b => funext fun b' => ?_)
  · unfold RI.valid RI.sorted
    rw [score_eq h]
    exact (Pre.finite_iff _ (hs.1 k _)).symm
  · unfold RI.meets RI.sorted
    rw [score_eq h, box_eq h]

theorem v48_eq : PI.flat m c (Proc.devRef .tc Cert.KernelIdeal.main_v48) = RI.flat m' c (Proc.devRef .tc Cert.ReferenceIdeal.main_v236) := by
  unfold PI.flat RI.flat
  generalize PI.called m c = X
  generalize RI.loopEnd m' c = Y
  after_reads_simp
  rfl

/-- The two results agree. -/
theorem results_eq (h : Agree m m' c) (hs : Selected (PI.W0 m c)) :
    Tails.lastK (PI.flat m c) (Proc.devRef .tc Cert.KernelIdeal.main_v84) = Tails.lastR (RI.flat m' c) (Proc.devRef .tc Cert.ReferenceIdeal.main_v272) := by
  refine Tails.tails_eq _ _ ?_ ?_ ?_ v48_eq ?_
  · rw [PI.flat_v39, RI.flat_v233]
    exact flat2 _ _ _ _ (scores_eq h hs)
  · rw [PI.flat_v41, RI.flat_v234]
    refine congrArg (fun x => shapeCast Cert.ReferenceIdeal.S40000x4 x Cert.ReferenceIdeal.Gen.shapeCasts_S80x500x4_S40000x4) (funext fun j => ?_)
    obtain ⟨a, b, q, rfl⟩ : ∃ a b q, j = ix3 a b q := ⟨j 0, j 1, j 2, eq_ix3 j⟩
    refine Eq.trans ?_ (RI.preA_box (RI.V0 m' c) a b q).symm
    rw [box_eq h, ← PI.G5_at]
    pointwise
  · rw [PI.flat_v42, RI.flat_v235]
    refine congrArg (fun x => shapeCast Cert.ReferenceIdeal.S40000 x Cert.ReferenceIdeal.Gen.shapeCasts_S80x500_S40000) (funext fun j => ?_)
    obtain ⟨a, b, rfl⟩ : ∃ a b, j = ix2 a b := ⟨j 0, j 1, eq_ix2 j⟩
    refine (PI.pre0_v7 (PI.W0 m c) a b).trans (Eq.trans ?_ (RI.preC_v4 (RI.V0 m' c) a b).symm)
    rw [num_eq h]
  · rw [PI.flat_arg3, RI.flat_arg3]
    exact h.2.2.2.1.symm

end Cert.Proof.Join
-- ==== Proof.S.Rows.lean ====
/-
  The masked softmax of a row, as the call and as the host compute it.
-/
module

public import proofs.«01_k».proof.Proof.Gen.SoftmaxIdeal.Frame
public import proofs.«01_k».proof.Proof.Gen.MaskedIdeal.Run
public import Idealize.ShloMosaic.Lib.Pointwise
public import Idealize.ShloMosaic.Lib.Pipeline.ValueKit
public import Idealize.ShloMosaic.Lib.KernelVsHost

@[expose] public section

set_option maxRecDepth 100000
set_option maxHeartbeats 4000000

noncomputable section

namespace Cert.Proof.S

open Idealize.ShloMosaic

/-- A row's greatest logit, and a class's share of the row. -/
def most (f : Fin 81 → EReal) : EReal := Finset.fold max (Ideal.ofBits FTy.f32 0xFF800000#32) f Finset.univ
def share (f : Fin 81 → EReal) (j : Fin 81) : EReal :=
  Ideal.div (Ideal.exp (f j - most f)) (∑ x, Ideal.exp (f x - most f))

/-- The share where it passes the threshold, the least value elsewhere. -/
def cell (f : Fin 81 → EReal) (j : Fin 81) : EReal :=
  if Ideal.ofBits FTy.f32 0x3D4CCCCD#32 < share f j then share f j else Ideal.ofBits FTy.f32 0xFF800000#32

theorem pay_at (v : Vec Ideal Cert.SoftmaxIdeal.S2000x81 .f32) (r : Fin 2000) (j : Fin 81) :
    Cert.SoftmaxIdeal.Gen.k0_pay1 v (ix2 r j) = cell (fun x => v (ix2 r x)) j := by
  unfold Cert.SoftmaxIdeal.Gen.k0_pay1 cell share most
  dsimp only
  pointwise

open Cert.MaskedIdeal Cert.MaskedIdeal.Gen in
/-- The host's shares, a class to a row. -/
def cut (v : Vec Ideal S20000x81 .f32) : Vec Ideal S80x20000 .f32 :=
  transpose S80x20000 [1, 0] (extractStridedSlice S20000x80 ![0, 1] (Host.divf (Host.exp (subf v (broadcastInDim S20000x81 ![0, 1] bcast_S20000x1_S20000x81_0_1 (broadcastInDim S20000x1 ![0] bcast_S20000_S20000x1_0 (maximumf (broadcastInDim S20000 ![] bcast_S_S20000 (constant (F := Ideal) S_ .f32 0xFF800000#32)) (Host.reduce FloatOps.maximumf v (constant (F := Ideal) S_ .f32 0xFF800000#32) reducesTo_S20000x81_S20000_d1 h_S_)))))) (broadcastInDim S20000x81 ![0, 1] bcast_S20000x1_S20000x81_0_1 (broadcastInDim S20000x1 ![0] bcast_S20000_S20000x1_0 (Host.reduceAdd (Host.exp (subf v (broadcastInDim S20000x81 ![0, 1] bcast_S20000x1_S20000x81_0_1 (broadcastInDim S20000x1 ![0] bcast_S20000_S20000x1_0 (maximumf (broadcastInDim S20000 ![] bcast_S_S20000 (constant (F := Ideal) S_ .f32 0xFF800000#32)) (Host.reduce FloatOps.maximumf v (constant (F := Ideal) S_ .f32 0xFF800000#32) reducesTo_S20000x81_S20000_d1 h_S_)))))) (constant (F := Ideal) S_ .f32 0x00000000#32) reducesTo_S20000x81_S20000_d1 h_S_)))) slices_S20000x81_S20000x80_0_1) transposes_S20000x80_S80x20000_1_0

open Cert.MaskedIdeal Cert.MaskedIdeal.Gen in
/-- The host's masked scores. -/
def host (v : Vec Ideal S20000x81 .f32) : Vec Ideal S80x20000 .f32 :=
  select (cmpf .ogt (cut v) (broadcastInDim S80x20000 ![] bcast_S_S80x20000 (constant (F := Ideal) S_ .f32 0x3D4CCCCD#32))) (cut v) (broadcastInDim S80x20000 ![] bcast_S_S80x20000 (constant (F := Ideal) S_ .f32 0xFF800000#32))

theorem host_at (v : Vec Ideal Cert.MaskedIdeal.S20000x81 .f32) (k : Fin 80) (n : Fin 20000) :
    host v (ix2 k n) = cell (fun x => v (ix2 n x)) k.succ := by
  unfold host cut cell share most
  dsimp only
  pointwise
  have e : (⟨1 + k.val, by omega⟩ : Fin 81) = k.succ := Fin.ext (Nat.add_comm ..)
  rw [max_eq_right ((Finset.le_fold_max _).2 (Or.inl le_rfl)), e]

end Cert.Proof.S

end
-- ==== Proof.S.Call.lean ====
/-
  The softmax call and the masked class scores after it.
-/
module

public import proofs.«01_k».proof.Proof.S.Rows

@[expose] public section

set_option maxRecDepth 100000
set_option maxHeartbeats 4000000

noncomputable section

namespace Cert.Proof.S

open Cert.SoftmaxIdeal Cert.SoftmaxIdeal.Gen
open Idealize.ShloMosaic Idealize.ShloMosaic.StableHlo
open Idealize.ShloMosaic.TcCoe

variable (m : (ℓ : Loc nD τ sig) → Buf (Elt Ideal) ℓ)

/-- The logits a device is launched with. -/
def logits (c : Dev nD) : Vec Ideal S20000x81 .f32 := m ((c : Thread nD τ).loc main_arg0)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)

theorem out_at (x : Vec Ideal S2000x81 .f32) (r : Fin 2000) (j : Fin 81) : out0_1 x (ix2 r j) = cell (fun k => x (ix2 r k)) j := by
  have h : View.ld x r0_0 = x := View.ld_unit_lit _ _ (by decide)
  unfold out0_1
  rw [View.canon_cons_unit_lit _ _ _ (by decide), h]
  pointwise
  exact pay_at x r j

/-- Every logit's masked share. -/
def G (c : Dev nD) : S20000x81.Idx → EReal := fun i => cell (fun x => logits m c (ix2 (i 0) x)) (i 1)

theorem final (c : Dev nD) : (dats m 0 c).arrAt 1 cfg0.N = G m c := by
  refine (dats m 0 c).arrAt_eq_of_covers 1 _ (by decide +kernel) fun t hf y => ?_
  blk_simp
  rw [after0_1]
  obtain ⟨a, b, rfl⟩ : ∃ (a : Fin 2000) (b : Fin 81), y = ix2 a b := ⟨y 0, y 1, eq_ix2 y⟩
  rw [out_at]
  unfold G
  have hb : ((win0_1.blk (G := grid0) t).view.emb (ix2 a b)) 1 = b := by
    refine Fin.ext ?_
    blk_simp [e1]
  rw [hb]
  congr 1
  funext x
  unfold logits
  blk_simp [iblk]
  rw [V_main_arg0]
  blk_ext [e0, e1]

theorem arr_inj : Function.Injective (Pipeline.arrRef spec0) := by decide +kernel

/-- The contents after the call. -/
def called (c : Dev nD) : Valuation τ sig (Elt Ideal) :=
  Pipeline.withArrays spec0 c (V0 m c) fun w => (dats m 0 c).arrAt w cfg0.N

theorem called_0 (c : Dev nD) : called m c (Proc.devRef .tc main_v0) = G m c :=
  (Pipeline.withArrays_arr spec0 arr_inj c (V0 m c) (fun w => (dats m 0 c).arrAt w cfg0.N) 1).trans (final m c)

theorem tail_eq (c : Dev nD) (b : Ref sig .tc) :
    Pipeline.afterTail₀ cfgs (dats m) 0 (V0 m) [hostOps1] c b = after (hostOps1 (F := Ideal)) (called m c) (Proc.devRef .tc b) := by
  unfold Pipeline.afterTail₀
  rw [List.flatten_cons, List.flatten_nil, List.append_nil]
  rfl

theorem result (c : Dev nD) : Pipeline.afterTail₀ cfgs (dats m) 0 (V0 m) [hostOps1] c main_v2 = host (logits m c) := by
  have h : after (hostOps1 (F := Ideal)) (called m c) (Proc.devRef .tc main_v2)
      = extractStridedSlice S80x20000 ![1, 0] (transpose S81x20000 [1, 0] (G m c) transposes_S20000x81_S81x20000_1_0) slices_S81x20000_S80x20000_1_0 := by
    rw [← called_0]
    generalize called m c = X
    after_reads_simp
  rw [tail_eq, h]
  funext i
  obtain ⟨k, n, rfl⟩ : ∃ (k : Fin 80) (n : Fin 20000), i = ix2 k n := ⟨i 0, i 1, eq_ix2 i⟩
  rw [host_at]
  pointwise
  have e : (⟨1 + k.val, by omega⟩ : Fin 81) = k.succ := Fin.ext (Nat.add_comm ..)
  rw [e]
  rfl

/-- The call's program runs to the host's masked scores of its logits. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v2) = host (logits m c)
      ∧ r.2.mem ((c.tc : Thread nD τ).loc main_arg0) = m ((c.tc : Thread nD τ).loc main_arg0)) :=
  (θ_run defs _ _).mono (fun _ h c => ⟨((h c).2 main_v2 (by decide +kernel)).trans (result m c),
    ((h c).1 0).trans (((dats m 0 c).arrAt_in 0 rfl _).trans ((A_eq m c 0).trans (V_main_arg0 m c)))⟩) (run_main m g)

end Cert.Proof.S

end
-- ==== Proof.S.Kth.lean ====
/-
  The 500th greatest of a family of keys, found bit by bit from the highest, and found by a sort.
-/
module

public import Mathlib.Data.Finset.Card
public import Mathlib.Data.Fintype.Card
public import Mathlib.Data.Fintype.Fin
public import Mathlib.Tactic.Ring
public import Mathlib.Tactic.NormNum

@[expose] public section

namespace Cert.Proof.S

variable {ι : Type} [Fintype ι] (k : ι → ℕ)

/-- How many keys reach a bound. -/
def reach (x : ℕ) : ℕ := (Finset.univ.filter fun i => x ≤ k i).card

/-- The bound that 500 keys reach and no greater bound does. -/
def IsKth (x : ℕ) : Prop := 500 ≤ reach k x ∧ reach k (x + 1) < 500

theorem reach_anti {x y : ℕ} (h : x ≤ y) : reach k y ≤ reach k x :=
  Finset.card_le_card fun i hi => by
    simp only [Finset.mem_filter, Finset.mem_univ, true_and] at hi ⊢
    omega

theorem isKth_unique {x y : ℕ} (hx : IsKth k x) (hy : IsKth k y) : x = y := by
  by_contra hne
  rcases Nat.lt_or_gt_of_ne hne with h | h
  · have := reach_anti k (show x + 1 ≤ y from h)
    have := hx.2; have := hy.1; omega
  · have := reach_anti k (show y + 1 ≤ x from h)
    have := hy.2; have := hx.1; omega

/-- What `t` steps of the search have found: the bits from `30 - t` up. -/
def Found (t : ℕ) (p : ℕ) : Prop :=
  ∃ a, p = 2 ^ (30 - t) * a ∧ p + 2 ^ (30 - t) ≤ 2 ^ 30 ∧ 500 ≤ reach k p ∧ reach k (p + 2 ^ (30 - t)) < 500

theorem found_zero (h : 500 ≤ reach k 0) (hk : ∀ i, k i < 2 ^ 30) : Found k 0 0 := by
  refine ⟨0, by simp, by norm_num, h, ?_⟩
  have : reach k (0 + 2 ^ (30 - 0)) = 0 := by
    unfold reach
    rw [Finset.card_eq_zero, Finset.filter_eq_empty_iff]
    intro i _
    have := hk i
    simp only [Nat.sub_zero, Nat.zero_add]
    omega
  omega

theorem found_or {t p : ℕ} (ht : t < 30) (h : Found k t p) : p ||| 2 ^ (29 - t) = p + 2 ^ (29 - t) := by
  obtain ⟨a, hp, -⟩ := h
  have e : 30 - t = (29 - t) + 1 := by omega
  rw [hp, ← Nat.two_pow_add_eq_or_of_lt (by rw [e]; exact Nat.pow_lt_pow_right Nat.one_lt_two (by omega))]

theorem found_step {t p : ℕ} (ht : t < 30) (h : Found k t p) :
    Found k (t + 1) (if 500 ≤ reach k (p + 2 ^ (29 - t)) then p + 2 ^ (29 - t) else p) := by
  obtain ⟨a, hp, hb, h1, h2⟩ := h
  have e : 30 - (t + 1) = 29 - t := by omega
  have e' : 2 ^ (30 - t) = 2 * 2 ^ (29 - t) := by
    rw [show 30 - t = (29 - t) + 1 by omega, pow_succ, Nat.mul_comm]
  unfold Found
  rw [e]
  rw [e'] at hp hb h2
  split
  · next hc =>
    refine ⟨2 * a + 1, by rw [hp]; ring, by omega, hc, ?_⟩
    rw [show p + 2 ^ (29 - t) + 2 ^ (29 - t) = p + 2 * 2 ^ (29 - t) by ring]
    exact h2
  · next hc => exact ⟨2 * a, by rw [hp]; ring, by omega, h1, by omega⟩

theorem found_last {p : ℕ} (h : Found k 30 p) : IsKth k p := by
  obtain ⟨a, -, -, h1, h2⟩ := h
  exact ⟨h1, by simpa using h2⟩

/-- The key at place 499 of a descending arrangement. -/
theorem isKth_sorted {n : ℕ} (k : Fin n → ℕ) (σ : Fin n → Fin n) (hσ : Function.Bijective σ)
    (hd : ∀ i j : Fin n, i < j → k (σ j) ≤ k (σ i)) (h : 499 < n) : IsKth k (k (σ ⟨499, h⟩)) := by
  have hd' : ∀ i j : Fin n, i ≤ j → k (σ j) ≤ k (σ i) := fun i j hij => by
    rcases hij.lt_or_eq with g | g
    · exact hd i j g
    · rw [g]
  have card : ∀ q : Fin n → Prop, ∀ [DecidablePred q], (Finset.univ.filter fun i => q i).card = (Finset.univ.filter fun i => q (σ i)).card := by
    intro q _
    refine (Finset.card_bij (fun i _ => σ i) ?_ (fun a _ b _ e => hσ.1 e) ?_).symm
    · intro i hi
      simpa using hi
    · intro b hb
      obtain ⟨a, rfl⟩ := hσ.2 b
      exact ⟨a, by simpa using hb, rfl⟩
  constructor
  · unfold reach
    rw [card]
    calc 500 = (Finset.univ : Finset (Fin 500)).card := by simp
      _ = (Finset.univ.image (Fin.castLE (show 500 ≤ n from h))).card :=
        (Finset.card_image_of_injective _ (Fin.castLE_injective _)).symm
      _ ≤ _ := Finset.card_le_card fun i hi => by
        obtain ⟨a, -, rfl⟩ := Finset.mem_image.1 hi
        simp only [Finset.mem_filter, Finset.mem_univ, true_and]
        refine hd' _ _ ?_
        rw [Fin.le_def]
        have := a.isLt
        simp only [Fin.val_castLE]
        omega
  · unfold reach
    rw [card]
    calc _ ≤ (Finset.univ.image (Fin.castLE (show 499 ≤ n by omega))).card := Finset.card_le_card fun i hi => by
          simp only [Finset.mem_filter, Finset.mem_univ, true_and] at hi
          have hlt : i.val < 499 := by
            by_contra hc
            have := hd' ⟨499, h⟩ i (by rw [Fin.le_def]; simp only; omega)
            omega
          exact Finset.mem_image.2 ⟨⟨i.val, hlt⟩, Finset.mem_univ _, Fin.ext rfl⟩
      _ = 499 := by rw [Finset.card_image_of_injective _ (Fin.castLE_injective _)]; simp
      _ < 500 := by norm_num

end Cert.Proof.S
-- ==== Proof.S.Search.lean ====
/-
  The bitwise search of the threshold call, and the host's sort.
-/
module

public import proofs.«01_k».proof.Proof.S.Kth
public import proofs.«01_k».proof.Proof.Gen.SearchIdeal.Value
public import proofs.«01_k».proof.Proof.Gen.KthIdeal.Run
public import proofs.«01_k».proof.Proof.Gen.Pre_in_range
public import proofs.«01_k».proof.Proof.Order
public import proofs.«01_k».proof.Proof.Slots
public import Idealize.ShloMosaic.Lib.ReduceAll
public import Idealize.ShloMosaic.Lib.Pointwise
public import Idealize.ShloMosaic.Lib.Pipeline.ValueKit

@[expose] public section

set_option maxRecDepth 100000
set_option maxHeartbeats 4000000

noncomputable section

namespace Cert.Proof.S

open Cert.SearchIdeal Cert.SearchIdeal.Gen
open Idealize.ShloMosaic Idealize.ShloMosaic.StableHlo
open Idealize.ShloMosaic.TcCoe

/-- A comparison's bit as a number. -/
theorem indicator (q : Prop) [Decidable q] :
    FloatOps.sitofp (F := Ideal) FTy.f32 ((BitVec.ofBool (decide q)).setWidth 32) = if q then (1 : EReal) else 0 := by
  show (((BitVec.toInt _ : ℤ) : ℝ) : EReal) = _
  by_cases h : q
  · simp [h]
  · simp [h]

theorem sum_indicator {ι : Type} (A : Finset ι) (q : ι → Prop) [DecidablePred q] :
    (∑ i ∈ A, if q i then (1 : EReal) else 0) = (((A.filter q).card : ℕ) : EReal) := by
  rw [Finset.sum_boole]

/-- A class's keys by row and lane. -/
abbrev Place : Type := Fin 160 × Fin 128

theorem step_at (v : Vec Ideal S10x160x128 .i32) (t : Fin k0_t1_loop.trips) (p : IVec S10x1x1 32) (a : Fin 10)
    (hv : ∀ r l, (v (ix3 a r l)).toNat < 2 ^ 30)
    (h : Found (fun i : Place => (v (ix3 a i.1 i.2)).toNat) t.val (p (ix3 a 0 0)).toNat) :
    Found (fun i : Place => (v (ix3 a i.1 i.2)).toNat) (t.val + 1) (k0_pay2 (F := Ideal) v t p (ix3 a 0 0)).toNat := by
  have ht : t.val < 30 := lt_of_lt_of_eq t.isLt (by decide)
  have hw : Scalar.shli (1#32) (Scalar.subi (29#32) (Scf.iv 0#32 1#32 ↑t)) = BitVec.ofNat 32 (2 ^ (29 - t.val)) :=
    (by decide +kernel : ∀ t : Fin 30, Scalar.shli (1#32) (Scalar.subi (29#32) (Scf.iv 0#32 1#32 t.val)) = BitVec.ofNat 32 (2 ^ (29 - t.val)))
      ⟨t.val, ht⟩
  have hb : 2 ^ (29 - t.val) ≤ 2 ^ 29 := Nat.pow_le_pow_right (by norm_num) (by omega)
  have hx : (IntOp.ori (p (ix3 a 0 0)) (Scalar.shli (1#32) (Scalar.subi (29#32) (Scf.iv 0#32 1#32 ↑t)))).toNat
      = (p (ix3 a 0 0)).toNat + 2 ^ (29 - t.val) := by
    rw [hw]
    show (p (ix3 a 0 0) ||| BitVec.ofNat 32 (2 ^ (29 - t.val))).toNat = _
    rw [BitVec.toNat_or, BitVec.toNat_ofNat, Nat.mod_eq_of_lt (by omega)]
    exact found_or _ ht h
  have hp : (p (ix3 a 0 0)).toNat + 2 ^ (29 - t.val) < 2 ^ 31 := by
    obtain ⟨_, -, hq, -⟩ := h
    have := Nat.two_pow_pos (30 - t.val)
    omega
  have key := found_step _ ht h
  unfold k0_pay2
  dsimp only
  pointwise
  generalize IntOp.ori (p (ix3 a 0 0)) (Scalar.shli (1#32) (Scalar.subi (29#32) (Scf.iv 0#32 1#32 ↑t))) = x at hx ⊢
  have hs : (∑ r : Fin 160, ∑ l : Fin 128, FloatOps.sitofp (F := Ideal) FTy.f32 (BitVec.setWidth 32 (IntOp.cmpi CmpIPredicate.sge (v (ix3 a r l)) x)))
      = ((reach (fun i : Place => (v (ix3 a i.1 i.2)).toNat) ((p (ix3 a 0 0)).toNat + 2 ^ (29 - t.val)) : ℕ) : EReal) := by
    unfold reach
    rw [← sum_indicator, ← Finset.univ_product_univ, Finset.sum_product]
    refine Finset.sum_congr rfl fun r _ => Finset.sum_congr rfl fun l _ => ?_
    have hl := hv r l
    rw [WordCmp.cmpi_sge_of_lt (by omega) (by omega), indicator, hx]
  have e500 : Ideal.ofBits FTy.f32 1140457472#32 = ((500 : ℕ) : EReal) := by
    simp [Ideal.ofBits, Ideal.ieee]
    rw [← EReal.coe_mul, show ((16384000 : ℝ) * (2 ^ 15)⁻¹) = 500 by norm_num]
    rfl
  rw [hs, e500]
  simp only [Nat.cast_le]
  split
  · next hc => rw [if_pos hc] at key; rw [hx]; exact key
  · next hc => rw [if_neg hc] at key; exact key

theorem in_range (x : IVec Cert.Pre_in_range.S80x160x128 32) (h : Cert.Pre_in_range.fn (F := Ideal) x = fun _ => 1#1)
    (i : Fin 80) (r : Fin 160) (l : Fin 128) : (x (ix3 i r l)).toNat < 2 ^ 30 := by
  have e := congrFun h ix0
  unfold Cert.Pre_in_range.fn at e
  dsimp only at e
  haveI : Subsingleton Cert.Pre_in_range.S_.Idx := ⟨fun a b => funext fun k => k.elim0⟩
  have p := Host.reduce_andi_all _ _ _ _ _ e (ix3 i r l)
  pointwise at p
  have q := WordCmp.andi_sge_zero_slt_ofNat (w := 32) (k := 1073741824) (by norm_num) (x (ix3 i r l))
  have p' := q.symm.trans p
  exact (WordCmp.ofBool_decide_eq_one_iff _).1 p'

end Cert.Proof.S

end
-- ==== Proof.S.Thresh.lean ====
/-
  The threshold call from its keys: its search ends at the host's 500th greatest key.
-/
module

public import proofs.«01_k».proof.Proof.S.Search

@[expose] public section

set_option maxRecDepth 100000
set_option maxHeartbeats 4000000

noncomputable section

namespace Cert.Proof.S.Thresh

open Idealize.ShloMosaic Cert.KthIdeal Cert.KthIdeal.Gen in
/-- The host's 500th greatest key of every class. -/
def host (v : IVec S80x160x128 32) : IVec S80x1x128 32 :=
  broadcastInDim S80x1x128 ![0, 1, 2] bcast_S80x1x1_S80x1x128_0_1_2 (broadcastInDim S80x1x1 ![0] bcast_S80_S80x1x1_0 (shapeCast _ (extractStridedSlice S80x1 ![0, 499] ((Host.topK S80x500 1 (IntOp.cmpi .sgt) (shapeCast _ v shapeCasts_S80x160x128_S80x20480) sliceFits_S80x20480_S80x500).1) slices_S80x500_S80x1_0_499) shapeCasts_S80x1_S80))

open Cert.SearchIdeal Cert.SearchIdeal.Gen
open Idealize.ShloMosaic Idealize.ShloMosaic.StableHlo
open Idealize.ShloMosaic.TcCoe

theorem foldl_inv {σ : Type} {n : ℕ} (g : Fin n → σ → σ) (inv : ℕ → σ → Prop) (step : ∀ (t : Fin n) (x : σ), inv t.val x → inv (t.val + 1) (g t x))
    (init : σ) (h : inv 0 init) : inv n ((List.finRange n).foldl (fun acc k => g k acc) init) := by
  have key : ∀ j (hj : j ≤ n), inv j (((List.finRange n).take j).foldl (fun acc k => g k acc) init) := by
    intro j
    induction j with
    | zero => intro _; simpa using h
    | succ j ih =>
      intro hj
      have hl : j < (List.finRange n).length := by simpa using hj
      rw [List.take_succ_eq_append_getElem hl, List.foldl_append]
      have := step ⟨j, hj⟩ _ (ih (by omega))
      simpa using this
  have := key n le_rfl
  rwa [List.take_of_length_le (by simp)] at this

theorem out_eq (c : Dev nD) (i : grid0.Coords) (arg1 : Memref sig .tc .vmem S10x160x128 .i32) (harg1 : arg1.IsWhole) (arg2 : Memref sig .tc .vmem S10x1x128 .i32) (harg2 : arg2.IsWhole)
    (x0 : Vec Ideal S10x160x128 .i32) :
    out0_A_1 (F := Ideal) c i arg1 harg1 arg2 harg2 x0 = k0_pay3 (Scf.fold (fun t p => k0_pay2 (F := Ideal) x0 t p) k0_pay1) := by
  have h : View.readAt (Elt Ideal) arg1.view (Rect.unit ![0, 0, 0] S10x160x128.size inb_S10x160x128_S10x160x128_0_0_0).toLoadRect (harg1.unread x0) = x0 := by
    rw [View.readAt_eq_ld, Memref.IsWhole.read_unread]
    exact View.ld_unit_lit _ _ (by decide)
  unfold out0_A_1
  rw [View.read_writes_eq_canon _ _ _ (cover0_A_1 c i arg1 harg1 arg2 harg2 x0)]
  unfold kernelRun0_A
  dsimp only
  rw [View.canon_cons_unit_lit _ _ _ (by decide)]
  unfold kernelRun0_A.sl.r
  rw [h]

/-- What the body leaves at a class of its block. -/
theorem out_kth (x : Vec Ideal S10x160x128 .i32) (a : Fin 10) (l : Fin 128) (hx : ∀ r l, (x (ix3 a r l)).toNat < 2 ^ 30) :
    IsKth (fun i : Place => (x (ix3 a i.1 i.2)).toNat)
      (k0_pay3 (Scf.fold (fun t p => k0_pay2 (F := Ideal) x t p) k0_pay1) (ix3 a 0 l)).toNat := by
  have hz : 500 ≤ reach (fun i : Place => (x (ix3 a i.1 i.2)).toNat) 0 := by
    unfold reach
    simp [Place]
  have f := foldl_inv (fun t p => k0_pay2 (F := Ideal) x t p)
    (fun t p => Found (fun i : Place => (x (ix3 a i.1 i.2)).toNat) t (p (ix3 a 0 0)).toNat)
    (fun t p h => step_at x t p a hx h) k0_pay1 (found_zero _ hz fun i => hx i.1 i.2)
  rw [← Scf.fold_eq] at f
  generalize Scf.fold (fun t p => k0_pay2 (F := Ideal) x t p) k0_pay1 = w at f ⊢
  have e : k0_pay3 w (ix3 a 0 l) = w (ix3 a 0 0) := by
    unfold k0_pay3
    pointwise
  rw [e]
  exact found_last _ f

/-- The place from which the `k`-th greatest key comes. -/
def perm {n : ℕ} (s : Fin n → BitVec 32) : Fin n → Fin n := sortedFrom fun k k' => IntOp.cmpi .sgt (s k) (s k') == 1#1

theorem perm_desc {n : ℕ} (s : Fin n → BitVec 32) (hs : ∀ i, (s i).toNat < 2 ^ 30) (i j : Fin n) (h : i < j) :
    (s (perm s j)).toNat ≤ (s (perm s i)).toNat := by
  have hp := Order.lex_sort (fun i => (((s i).toNat : ℕ) : EReal)) (· < ·) (fun k k' => IntOp.cmpi .sgt (s k) (s k') == 1#1)
    (fun a b => by
      have ha := hs a
      have hb := hs b
      rw [beq_iff_eq, WordCmp.cmpi_sgt_of_lt (by omega) (by omega), WordCmp.ofBool_decide_eq_one_iff, Nat.cast_lt])
    (List.finRange n) (List.pairwise_lt_finRange n)
  rw [List.pairwise_iff_get] at hp
  rcases hp (i.cast (length_sortPositions _ _).symm) (j.cast (length_sortPositions _ _).symm) h with g | ⟨g, -⟩
  · exact le_of_lt (Nat.cast_lt.1 g)
  · exact le_of_eq (Nat.cast_inj.1 g).symm

theorem topK_values (x : IVec ⟨2, ![80, 20480]⟩ 32) (h : (⟨2, ![80, 20480]⟩ : Shape).Slices (fun _ => 0) ⟨2, ![80, 500]⟩) (c : Fin 80) (i : Fin 500) :
    (Host.topK ⟨2, ![80, 500]⟩ 1 (IntOp.cmpi .sgt) x h).1 (ix2 c i) = x (ix2 c (perm (fun j => x (ix2 c j)) (i.castLE (by norm_num)))) := by
  unfold Host.topK Host.sort2
  dsimp only
  pointwise
  refine (congrArg x (Slots.along_ix2 c (i.castLE (by norm_num)) _)).trans ?_
  refine congrArg (fun f : Fin 20480 → Fin 20480 → Bool => x (ix2 c (sortedFrom f (i.castLE (by norm_num))))) ?_
  funext k k'
  exact congrArg₂ (fun a b => IntOp.cmpi .sgt (x a) (x b) == 1#1) (Slots.along_ix2 c (i.castLE (by norm_num)) k) (Slots.along_ix2 c (i.castLE (by norm_num)) k')

theorem reach_equiv {ι κ : Type} [Fintype ι] [Fintype κ] (e : ι ≃ κ) (k : κ → ℕ) (x : ℕ) : reach (fun i => k (e i)) x = reach k x := by
  unfold reach
  refine Finset.card_bij (fun i _ => e i) ?_ (fun a _ b _ h => e.injective h) ?_
  · intro i hi
    simpa using hi
  · intro b hb
    exact ⟨e.symm b, by simpa using hb, by simp⟩

theorem host_kth (v : IVec S80x160x128 32) (k : Fin 80) (l : Fin 128) (hv : ∀ r l, (v (ix3 k r l)).toNat < 2 ^ 30) :
    IsKth (fun i : Place => (v (ix3 k i.1 i.2)).toNat) (host v (ix3 k 0 l)).toNat := by
  have e : host v (ix3 k 0 l) = (shapeCast Cert.KthIdeal.S80x20480 v Cert.KthIdeal.Gen.shapeCasts_S80x160x128_S80x20480)
      (ix2 k (perm (fun j => (shapeCast Cert.KthIdeal.S80x20480 v Cert.KthIdeal.Gen.shapeCasts_S80x160x128_S80x20480) (ix2 k j)) ⟨499, by norm_num⟩)) := by
    have e' : host v (ix3 k 0 l) = (Host.topK Cert.KthIdeal.S80x500 1 (IntOp.cmpi .sgt)
        (shapeCast Cert.KthIdeal.S80x20480 v Cert.KthIdeal.Gen.shapeCasts_S80x160x128_S80x20480) Cert.KthIdeal.Gen.sliceFits_S80x20480_S80x500).1 (ix2 k (499 : Fin 500)) := by
      unfold host
      pointwise
    exact e'.trans (topK_values _ _ k 499)
  have c : ∀ j : Fin 20480, (shapeCast Cert.KthIdeal.S80x20480 v Cert.KthIdeal.Gen.shapeCasts_S80x160x128_S80x20480) (ix2 k j)
      = v (ix3 k (finProdFinEquiv.symm j : Fin 160 × Fin 128).1 (finProdFinEquiv.symm j : Fin 160 × Fin 128).2) := by
    intro j
    pointwise
    rfl
  rw [e]
  simp only [c]
  have s := isKth_sorted (fun j : Fin (160 * 128) => (v (ix3 k (finProdFinEquiv.symm j : Fin 160 × Fin 128).1 (finProdFinEquiv.symm j : Fin 160 × Fin 128).2)).toNat)
    _ ⟨sortedFrom_injective _, sortedFrom_surjective _⟩
    (fun i j h => perm_desc (fun j : Fin (160 * 128) => v (ix3 k (finProdFinEquiv.symm j : Fin 160 × Fin 128).1 (finProdFinEquiv.symm j : Fin 160 × Fin 128).2))
      (fun j => hv _ _) i j h) (by norm_num)
  unfold IsKth at s ⊢
  rw [reach_equiv finProdFinEquiv.symm (fun i : Place => (v (ix3 k i.1 i.2)).toNat), reach_equiv finProdFinEquiv.symm (fun i : Place => (v (ix3 k i.1 i.2)).toNat)] at s
  exact s

variable (m : (ℓ : Loc nD τ sig) → Buf (Elt Ideal) ℓ)

/-- The keys a device is launched with. -/
def keys (c : Dev nD) : IVec S80x160x128 32 := m ((c : Thread nD τ).loc main_arg0)

theorem e0 : ∀ t : Fin cfg0.N, win0_0.index t = ![t.val, 0, 0] := (by decide +kernel : ∀ t : Fin grid0.N, _)
theorem e1 : ∀ t : Fin cfg0.N, win0_1.index t = ![t.val, 0, 0] := (by decide +kernel : ∀ t : Fin grid0.N, _)

/-- The class that a place of a point's block is. -/
def cls (t : Fin cfg0.N) (a : Fin 10) : Fin 80 :=
  ⟨t.val * 10 + a.val, by have h := lt_of_lt_of_eq t.isLt (show cfg0.N = 8 by decide +kernel); have := a.isLt; omega⟩

theorem final (c : Dev nD) (hv : ∀ k r l, (keys m c (ix3 k r l)).toNat < 2 ^ 30) : (dats m 0 c).arrAt 1 cfg0.N = host (keys m c) := by
  refine (dats m 0 c).arrAt_eq_of_covers 1 _ (by decide +kernel) fun t hf y => ?_
  blk_simp
  rw [after0_1]
  unfold outsAt0
  rw [out_eq]
  obtain ⟨a, z, b, rfl⟩ : ∃ (a : Fin 10) (z : Fin 1) (b : Fin 128), y = ix3 a z b := ⟨y 0, y 1, y 2, eq_ix3 y⟩
  obtain rfl : z = 0 := Subsingleton.elim _ _
  have hb : ∀ r l, iblk m c 0 t (ix3 a r l) = keys m c (ix3 (cls t a) r l) := by
    intro r l
    unfold keys
    blk_simp [iblk]
    rw [V_main_arg0]
    blk_ext [e0, cls]
  have hy : ((win0_1.blk (G := grid0) t).view.emb (ix3 a 0 b)) = ix3 (cls t a) 0 b := by
    blk_ext [e1, cls]
  have k1 := out_kth (iblk m c 0 t) a b (fun r l => by rw [hb]; exact hv _ _ _)
  have k2 := host_kth (keys m c) (cls t a) b (fun r l => hv _ _ _)
  simp only [hb] at k1
  rw [hy]
  exact BitVec.eq_of_toNat_eq (isKth_unique _ k1 k2)

/-- The call's program runs to the host's 500th greatest keys. -/
theorem run (g : Dev nD → PrngReg) (hv : ∀ c k r l, (keys m c (ix3 k r l)).toNat < 2 ^ 30) :
    θ_run (defs (F := Ideal)) (onTc (τ := τ) (main (F := Ideal))) ⟨m, fun _ => 0, g⟩ (fun r => ∀ c : Dev nD,
      r.2.mem ((c.tc : Thread nD τ).loc main_v0) = host (keys m c)
      ∧ r.2.mem ((c.tc : Thread nD τ).loc main_arg0) = m ((c.tc : Thread nD τ).loc main_arg0)) :=
  (θ_run defs _ _).mono (fun _ h c => ⟨(h c).1.trans (final m c (hv c)), (h c).2⟩) (Cert.SearchIdeal.Value.run_blocks m g)

end Cert.Proof.S.Thresh

end
-- ==== Proof.S.Ranks.lean ====
/-
  The 500 first of a family of keys, by size and then by place, and their list by place.
-/
module

public import proofs.«01_k».proof.Proof.S.Kth

@[expose] public section

namespace Cert.Proof.S

open Classical

variable {ι : Type} [Fintype ι] (k pos : ι → ℕ)

/-- How many members of a set have an earlier place. -/
noncomputable def before (q : ι → Prop) (i : ι) : ℕ := (Finset.univ.filter fun j => pos j < pos i ∧ q j).card

/-- Chosen at the threshold `x`: a greater key, or the same one and early enough. -/
def Chosen (x : ℕ) (i : ι) : Prop :=
  x < k i ∨ (k i = x ∧ before pos (fun j => k j = x) i + (Finset.univ.filter fun j => x < k j).card < 500)

/-- By size, equal keys by place. -/
def Ahead (i j : ι) : Prop := k j < k i ∨ (k i = k j ∧ pos i < pos j)

theorem ahead_count {n : ℕ} (ρ : Fin n → ι) (hρ : Function.Bijective ρ) (hd : ∀ i j : Fin n, i < j → Ahead k pos (ρ i) (ρ j)) (j : Fin n) :
    (Finset.univ.filter fun i => Ahead k pos i (ρ j)).card = j.val := by
  have asym : ∀ a b, Ahead k pos a b → ¬ Ahead k pos b a := by
    intro a b h h'
    unfold Ahead at h h'
    omega
  have irr : ∀ a, ¬ Ahead k pos a a := fun a h => asym a a h h
  have e : (Finset.univ.filter fun i => Ahead k pos i (ρ j)) = (Finset.univ.filter fun i : Fin n => i < j).image ρ := by
    ext i
    obtain ⟨a, rfl⟩ := hρ.2 i
    simp only [Finset.mem_filter, Finset.mem_univ, true_and, Finset.mem_image]
    constructor
    · intro h
      refine ⟨a, ?_, rfl⟩
      rcases lt_trichotomy a j with g | g | g
      · exact g
      · exact absurd (g ▸ h) (irr _)
      · exact absurd h (asym _ _ (hd _ _ g))
    · rintro ⟨b, hb, e⟩
      exact e ▸ hd _ _ hb
  rw [e, Finset.card_image_of_injective _ hρ.1]
  have := Fin.card_Iio j
  rw [← this]
  congr 1
  ext i
  simp

/-- The chosen are the 500 first of the order by size and place. -/
theorem chosen_iff {n : ℕ} (ρ : Fin n → ι) (hρ : Function.Bijective ρ) (hd : ∀ i j : Fin n, i < j → Ahead k pos (ρ i) (ρ j))
    (x : ℕ) (hx : IsKth k x) (j : Fin n) : Chosen k pos x (ρ j) ↔ j.val < 500 := by
  have c := ahead_count k pos ρ hρ hd j
  obtain ⟨h1, h2⟩ := hx
  unfold reach at h1 h2
  unfold Chosen
  rcases lt_trichotomy (k (ρ j)) x with g | g | g
  · refine ⟨fun h => by omega, fun h => ?_⟩
    have : (Finset.univ.filter fun i => x ≤ k i).card ≤ (Finset.univ.filter fun i => Ahead k pos i (ρ j)).card :=
      Finset.card_le_card fun i hi => by
        simp only [Finset.mem_filter, Finset.mem_univ, true_and] at hi ⊢
        exact Or.inl (by omega)
    omega
  · have e : (Finset.univ.filter fun i => Ahead k pos i (ρ j))
        = (Finset.univ.filter fun i => pos i < pos (ρ j) ∧ k i = x) ∪ (Finset.univ.filter fun i => x < k i) := by
      ext i
      simp only [Finset.mem_filter, Finset.mem_univ, true_and, Finset.mem_union]
      unfold Ahead
      constructor <;> intro h <;> omega
    have d : Disjoint (Finset.univ.filter fun i => pos i < pos (ρ j) ∧ k i = x) (Finset.univ.filter fun i => x < k i) := by
      rw [Finset.disjoint_filter]
      intro i _ h
      omega
    rw [e, Finset.card_union_of_disjoint d] at c
    have c2 : before pos (fun j => k j = x) (ρ j) + (Finset.univ.filter fun j => x < k j).card = j.val := by
      unfold before
      convert c
    constructor <;> intro h <;> omega
  · refine ⟨fun _ => ?_, fun _ => Or.inl g⟩
    have : (Finset.univ.filter fun i => Ahead k pos i (ρ j)).card ≤ (Finset.univ.filter fun i => x + 1 ≤ k i).card :=
      Finset.card_le_card fun i hi => by
        simp only [Finset.mem_filter, Finset.mem_univ, true_and] at hi ⊢
        unfold Ahead at hi
        omega
    omega

/-- The first 500 listed by place: the entry `r` has `r` chosen before it. -/
theorem listed {n : ℕ} (ρ : Fin n → ι) (hρ : Function.Bijective ρ) (hd : ∀ i j : Fin n, i < j → Ahead k pos (ρ i) (ρ j))
    (x : ℕ) (hx : IsKth k x) (hn : 500 ≤ n) (τ : Fin 500 → Fin 500) (hτ : Function.Bijective τ)
    (ht : ∀ r s : Fin 500, r < s → pos (ρ ((τ r).castLE hn)) < pos (ρ ((τ s).castLE hn))) (r : Fin 500) :
    Chosen k pos x (ρ ((τ r).castLE hn)) ∧ before pos (Chosen k pos x) (ρ ((τ r).castLE hn)) = r.val := by
  have C := chosen_iff k pos ρ hρ hd x hx
  refine ⟨(C _).2 (τ r).isLt, ?_⟩
  have e : (Finset.univ.filter fun i => pos i < pos (ρ ((τ r).castLE hn)) ∧ Chosen k pos x i)
      = (Finset.univ.filter fun s : Fin 500 => s < r).image fun s => ρ ((τ s).castLE hn) := by
    ext i
    obtain ⟨a, rfl⟩ := hρ.2 i
    simp only [Finset.mem_filter, Finset.mem_univ, true_and, Finset.mem_image]
    rw [C]
    constructor
    · rintro ⟨h, ha⟩
      obtain ⟨s, hs⟩ := hτ.2 ⟨a.val, ha⟩
      have e : (τ s).castLE hn = a := by rw [hs]; rfl
      refine ⟨s, ?_, by rw [e]⟩
      rw [← e] at h
      rcases lt_trichotomy s r with g | g | g
      · exact g
      · exact absurd h (by rw [g]; omega)
      · exact absurd (ht _ _ g) (by omega)
    · rintro ⟨s, hs, e⟩
      have e' := hρ.1 e
      refine ⟨e' ▸ ht _ _ hs, ?_⟩
      rw [← e']
      exact (τ s).isLt
  unfold before
  rw [e, Finset.card_image_of_injective _ (fun a b h => hτ.1 (Fin.castLE_injective _ (hρ.1 h)))]
  have := Fin.card_Iio r
  rw [← this]
  congr 1
  ext i
  simp

/-- At most 500 are chosen. -/
theorem chosen_card {n : ℕ} (ρ : Fin n → ι) (hρ : Function.Bijective ρ) (hd : ∀ i j : Fin n, i < j → Ahead k pos (ρ i) (ρ j))
    (x : ℕ) (hx : IsKth k x) : (Finset.univ.filter fun j => Chosen k pos x j).card ≤ 500 := by
  have C := chosen_iff k pos ρ hρ hd x hx
  have e : (Finset.univ.filter fun j => Chosen k pos x j) = (Finset.univ.filter fun j : Fin n => j.val < 500).image ρ := by
    ext j
    obtain ⟨a, rfl⟩ := hρ.2 j
    simp only [Finset.mem_filter, Finset.mem_univ, true_and, Finset.mem_image]
    rw [C]
    exact ⟨fun h => ⟨a, h, rfl⟩, fun ⟨b, hb, e⟩ => hρ.1 e ▸ hb⟩
  rw [e, Finset.card_image_of_injective _ hρ.1]
  calc _ = ((Finset.univ.filter fun j : Fin n => j.val < 500).image Fin.val).card := (Finset.card_image_of_injective _ Fin.val_injective).symm
    _ ≤ (Finset.range 500).card := Finset.card_le_card fun j hj => by
      obtain ⟨a, ha, rfl⟩ := Finset.mem_image.1 hj
      simpa using ha
    _ = 500 := by simp

end Cert.Proof.S
-- ==== Proof.S.Count.lean ====
/-
  Counting a set of places of a class by row and lane, and the words of its keys.
-/
module

public import proofs.«01_k».proof.Proof.S.Ranks
public import proofs.«01_k».proof.Proof.S.Search

@[expose] public section

set_option maxRecDepth 100000

noncomputable section

namespace Cert.Proof.S

open Classical
open Idealize.ShloMosaic

/-- A place's number, row by row. -/
def pos (i : Place) : ℕ := i.1.val * 128 + i.2.val

section
variable (q : Place → Prop)

/-- Members of a row. -/
def tot (a : Fin 160) : ℕ := (Finset.univ.filter fun l : Fin 128 => q (a, l)).card
/-- Members of the rows above. -/
def rows (a : Fin 160) : ℕ := ∑ b ∈ Finset.univ.filter (fun b : Fin 160 => b < a), tot q b
/-- Members of the row to the left. -/
def lanes (a : Fin 160) (l : Fin 128) : ℕ := (Finset.univ.filter fun j : Fin 128 => j < l ∧ q (a, j)).card

theorem before_eq (a : Fin 160) (l : Fin 128) : before pos q (a, l) = rows q a + lanes q a l := by
  unfold before rows
  rw [Finset.card_filter, ← Finset.univ_product_univ, Finset.sum_product, Finset.sum_filter]
  have e : ∀ b : Fin 160, (∑ j : Fin 128, if pos (b, j) < pos (a, l) ∧ q (b, j) then 1 else 0)
      = (if b < a then tot q b else 0) + (if b = a then lanes q a l else 0) := by
    intro b
    rw [← Finset.card_filter]
    rcases lt_trichotomy b a with g | g | g
    · rw [if_pos g, if_neg g.ne, Nat.add_zero]
      unfold tot
      congr 1
      ext j
      rw [Finset.mem_filter, Finset.mem_filter]
      simp only [Finset.mem_univ, true_and, pos]
      have := j.isLt
      rw [Fin.lt_def] at g
      exact ⟨fun h => h.2, fun h => ⟨by omega, h⟩⟩
    · subst g
      rw [if_neg (lt_irrefl _), if_pos rfl, Nat.zero_add]
      unfold lanes
      congr 1
      ext j
      rw [Finset.mem_filter, Finset.mem_filter]
      simp only [Finset.mem_univ, true_and, pos, Fin.lt_def]
      exact ⟨fun h => ⟨by omega, h.2⟩, fun h => ⟨by omega, h.2⟩⟩
    · rw [if_neg (not_lt.2 g.le), if_neg g.ne', Nat.add_zero, Finset.card_eq_zero, Finset.filter_eq_empty_iff]
      intro j _ h
      have h1 := h.1
      have := l.isLt
      rw [Fin.lt_def] at g
      simp only [pos] at h1
      omega
  rw [Finset.sum_congr rfl fun b _ => e b, Finset.sum_add_distrib]
  simp

theorem rows_step {a b : Fin 160} (h : b < a) : rows q b + tot q b ≤ rows q a := by
  unfold rows
  have hb : b ∉ Finset.univ.filter (fun c : Fin 160 => c < b) := by simp
  rw [Nat.add_comm, ← Finset.sum_insert hb]
  refine Finset.sum_le_sum_of_subset fun c hc => ?_
  rcases Finset.mem_insert.1 hc with rfl | hc
  · simpa using h
  · simp only [Finset.mem_filter, Finset.mem_univ, true_and] at hc ⊢
    exact hc.trans h

theorem rows_total (a : Fin 160) : rows q a + tot q a ≤ (Finset.univ.filter fun i => q i).card := by
  have t : (Finset.univ.filter fun i => q i).card = ∑ b, tot q b := by
    rw [Finset.card_filter, ← Finset.univ_product_univ, Finset.sum_product]
    refine Finset.sum_congr rfl fun b _ => ?_
    rw [← Finset.card_filter]
    rfl
  rw [t]
  unfold rows
  have hb : a ∉ Finset.univ.filter (fun c : Fin 160 => c < a) := by simp
  rw [Nat.add_comm, ← Finset.sum_insert hb]
  exact Finset.sum_le_sum_of_subset (Finset.subset_univ _)

theorem lanes_lt {a : Fin 160} {l : Fin 128} (h : q (a, l)) : lanes q a l < tot q a := by
  refine Finset.card_lt_card (Finset.ssubset_iff_subset_ne.2 ⟨fun j hj => ?_, fun e => ?_⟩)
  · simp only [Finset.mem_filter, Finset.mem_univ, true_and] at hj ⊢
    exact hj.2
  · have : l ∈ Finset.univ.filter fun j : Fin 128 => j < l ∧ q (a, j) := by
      rw [e]
      simpa using h
    simp at this

theorem lanes_mono {a : Fin 160} {l l' : Fin 128} (h : q (a, l)) (hl : l < l') : lanes q a l < lanes q a l' := by
  refine Finset.card_lt_card (Finset.ssubset_iff_subset_ne.2 ⟨fun j hj => ?_, fun e => ?_⟩)
  · simp only [Finset.mem_filter, Finset.mem_univ, true_and] at hj ⊢
    exact ⟨hj.1.trans hl, hj.2⟩
  · have : l ∈ Finset.univ.filter fun j : Fin 128 => j < l ∧ q (a, j) := by
      rw [e]
      simp [h, hl]
    simp at this

theorem lanes_inj {a : Fin 160} {l l' : Fin 128} (h : q (a, l)) (h' : q (a, l')) (e : lanes q a l' = lanes q a l) : l' = l := by
  rcases lt_trichotomy l' l with g | g | g
  · have := lanes_mono q h' g
    omega
  · exact g
  · have := lanes_mono q h g
    omega

theorem rows_unique {a b : Fin 160} {r : ℕ} (ha : rows q a ≤ r ∧ r < rows q a + tot q a) :
    (rows q b ≤ r ∧ r < rows q b + tot q b) ↔ b = a := by
  refine ⟨fun hb => ?_, fun e => e ▸ ha⟩
  rcases lt_trichotomy b a with g | g | g
  · have := rows_step q g
    omega
  · exact g
  · have := rows_step q g
    omega

end

/-! ## Numbers among the extended reals -/

theorem nat_coe (n : ℕ) : ((n : ℕ) : EReal) = ((n : ℝ) : EReal) := rfl

theorem nat_lt_sub (a c : ℕ) : ((a : ℕ) : EReal) < ((500 : ℕ) : EReal) - ((c : ℕ) : EReal) ↔ a + c < 500 := by
  rw [nat_coe, nat_coe, nat_coe, ← EReal.coe_sub, EReal.coe_lt_coe_iff, lt_sub_iff_add_lt]
  exact_mod_cast Iff.rfl

theorem word_nat (n : ℕ) (h : n < 2 ^ 31) : FloatOps.sitofp (F := Ideal) FTy.f32 (BitVec.ofNat 32 n) = ((n : ℕ) : EReal) := by
  show (((BitVec.toInt _ : ℤ) : ℝ) : EReal) = _
  rw [nat_coe, BitVec.toInt_eq_toNat_of_lt (by rw [BitVec.toNat_ofNat, Nat.mod_eq_of_lt (by omega)]; omega), BitVec.toNat_ofNat, Nat.mod_eq_of_lt (by omega)]
  simp

/-- A word's number back to the word. -/
theorem word_back (φ : FTy) (w : BitVec 32) : Ideal.fptosi 32 (FloatOps.sitofp (F := Ideal) φ w : EReal) = w := by
  show Ideal.fptosi 32 (((BitVec.toInt w : ℤ) : ℝ) : EReal) = w
  have h1 := BitVec.toInt_lt (x := w)
  have h2 := BitVec.le_toInt w
  unfold Ideal.fptosi
  have e : Ideal.toIntClamped (-(2 ^ (32 - 1) : Nat)) ((2 ^ (32 - 1) : Nat) - 1) (((BitVec.toInt w : ℤ) : ℝ) : EReal) = w.toInt := by
    show max _ (min _ (if 0 ≤ ((w.toInt : ℤ) : ℝ) then ⌊((w.toInt : ℤ) : ℝ)⌋ else ⌈((w.toInt : ℤ) : ℝ)⌉)) = _
    rw [Int.floor_intCast, Int.ceil_intCast, ite_self]
    norm_num at h1 h2 ⊢
    omega
  rw [e, BitVec.ofInt_toInt]

theorem back_zero : Ideal.fptosi 32 (0 : EReal) = 0#32 := by
  have := word_back .f32 0#32
  rwa [show (FloatOps.sitofp (F := Ideal) FTy.f32 (0#32) : EReal) = 0 from by
    show (((BitVec.toInt _ : ℤ) : ℝ) : EReal) = _
    simp] at this

end Cert.Proof.S

end
-- ==== Proof.S.Bytes.lean ====
/-
  The order of keys as signed words, and a key put together from its four bytes.
-/
module

public import Idealize.ShloMosaic.PureOps.Ideal
public import Idealize.ShloMosaic.Lib.WordCmp

@[expose] public section

namespace Cert.Proof.S

open Idealize.ShloMosaic

/-- A key's number in the order of signed words. -/
def ord (k : BitVec 32) : ℕ := (k.toInt + 2 ^ 31).toNat

theorem ord_lt (x y : BitVec 32) : x.toInt < y.toInt ↔ ord x < ord y := by
  have h1 := BitVec.le_toInt x
  have h2 := BitVec.le_toInt y
  norm_num at h1 h2
  unfold ord
  omega

theorem ord_inj (x y : BitVec 32) : ord x = ord y ↔ x = y := by
  have h1 := BitVec.le_toInt x
  have h2 := BitVec.le_toInt y
  norm_num at h1 h2
  constructor
  · intro h
    unfold ord at h
    exact BitVec.eq_of_toInt_eq (by omega)
  · exact fun h => h ▸ rfl

theorem cmpi_sgt_ord (x y : BitVec 32) : IntOp.cmpi .sgt x y = BitVec.ofBool (decide (ord y < ord x)) := by
  rw [WordCmp.cmpi_sgt_eq]
  congr 1
  exact decide_eq_decide.2 (ord_lt y x)

theorem cmpi_eq_ord (x y : BitVec 32) : IntOp.cmpi .eq x y = BitVec.ofBool (decide (ord x = ord y)) := by
  rw [WordCmp.cmpi_eq_eq]
  congr 1
  exact decide_eq_decide.2 (ord_inj x y).symm

/-- An arithmetic shift to the right, as a number. -/
theorem shift_nat (k : BitVec 32) (n : BitVec 32) (hn : n.toNat < 32) :
    (IntOp.shrsi ArithUnit.vector k n).toNat
      = if k.toNat < 2147483648 then k.toNat / 2 ^ n.toNat else 4294967295 - (4294967295 - k.toNat) / 2 ^ n.toNat := by
  unfold IntOp.shrsi
  rw [if_pos hn, BitVec.sshiftRight']
  have m := BitVec.msb_eq_decide k
  by_cases h : k.toNat < 2147483648
  · rw [if_pos h]
    have m' : k.msb = false := by
      rw [m, decide_eq_false_iff_not, not_le]
      exact h
    rw [BitVec.sshiftRight_eq_of_msb_false m', BitVec.toNat_ushiftRight, Nat.shiftRight_eq_div_pow]
  · rw [if_neg h]
    have m' : k.msb = true := by
      rw [m, decide_eq_true_iff]
      exact not_lt.1 h
    rw [BitVec.sshiftRight_eq_of_msb_true m', BitVec.toNat_not, BitVec.toNat_ushiftRight, BitVec.toNat_not, Nat.shiftRight_eq_div_pow]

theorem low_nat (x : BitVec 32) : (IntOp.andi x 255#32).toNat = x.toNat % 256 := by
  unfold IntOp.andi
  rw [BitVec.toNat_and, show (255#32).toNat = 2 ^ 8 - 1 by decide, Nat.and_two_pow_sub_one_eq_mod]

theorem digits (k a b c : ℕ) (h : k < 4294967296)
    (ha : a = if k < 2147483648 then k / 16777216 else 4294967295 - (4294967295 - k) / 16777216)
    (hb : b = if k < 2147483648 then k / 65536 else 4294967295 - (4294967295 - k) / 65536)
    (hc : c = if k < 2147483648 then k / 256 else 4294967295 - (4294967295 - k) / 256) :
    (((a * 16777216 % 4294967296 + b % 256 * 65536 % 4294967296) % 4294967296 + c % 256 * 256 % 4294967296) % 4294967296 + k % 256) % 4294967296 = k := by
  have a' : a * 16777216 % 4294967296 = k / 16777216 * 16777216 := by
    split at ha <;> omega
  have b' : b % 256 = k / 65536 % 256 := by
    split at hb <;> omega
  have c' : c % 256 = k / 256 % 256 := by
    split at hc <;> omega
  rw [a', b', c']
  omega

/-- A key from its four bytes. -/
theorem bytes (k : BitVec 32) :
    IntOp.addi (IntOp.addi (IntOp.addi (IntOp.muli (IntOp.shrsi ArithUnit.vector k 24#32) 16777216#32)
      (IntOp.muli (IntOp.andi (IntOp.shrsi ArithUnit.vector k 16#32) 255#32) 65536#32))
      (IntOp.muli (IntOp.andi (IntOp.shrsi ArithUnit.vector k 8#32) 255#32) 256#32))
      (IntOp.andi k 255#32) = k := by
  have d := digits k.toNat _ _ _ k.isLt (shift_nat k 24#32 (by decide)) (shift_nat k 16#32 (by decide)) (shift_nat k 8#32 (by decide))
  have l16 := low_nat (IntOp.shrsi ArithUnit.vector k 16#32)
  have l8 := low_nat (IntOp.shrsi ArithUnit.vector k 8#32)
  have l0 := low_nat k
  rw [← l16, ← l8, ← l0] at d
  generalize IntOp.andi (IntOp.shrsi ArithUnit.vector k 16#32) 255#32 = x16 at *
  generalize IntOp.andi (IntOp.shrsi ArithUnit.vector k 8#32) 255#32 = x8 at *
  generalize IntOp.shrsi ArithUnit.vector k 24#32 = x24 at *
  generalize IntOp.andi k 255#32 = x0 at *
  apply BitVec.eq_of_toNat_eq
  unfold IntOp.addi IntOp.muli
  rw [BitVec.toNat_add, BitVec.toNat_add, BitVec.toNat_add, BitVec.toNat_mul, BitVec.toNat_mul, BitVec.toNat_mul]
  exact d

end Cert.Proof.S
-- ==== Proof.S.Mask.lean ====
/-
  The compact call's mask of chosen keys, and its counts by row and lane.
-/
module

public import proofs.«01_k».proof.Proof.S.Count
public import proofs.«01_k».proof.Proof.S.Bytes
public import proofs.«01_k».proof.Proof.Gen.ListingIdeal.Value

@[expose] public section

set_option maxRecDepth 100000
set_option maxHeartbeats 4000000

noncomputable section

namespace Cert.Proof.S.Pick

open Classical
open Cert.ListingIdeal Cert.ListingIdeal.Gen
open Idealize.ShloMosaic Idealize.ShloMosaic.StableHlo
open Idealize.ShloMosaic.TcCoe

theorem total_block (v : FVec Ideal S1x160x128 .f32) :
    extractAt ![0, 0, 0] (shapeCast S1x1x1 (multiReduction .add [1, 2] S1 v 0x00000000#32 reduces_S1x160x128_S1 (.inl rfl) rfl) shapeCasts_S1_S1x1x1) inpos_S1x1x1_p0_0_0
      = ∑ r : Fin 160, ∑ l : Fin 128, v (ix3 0 r l) := by
  pointwise

theorem as_block (w : FVec Ideal S160x128 .f32) (r : Fin 160) (l : Fin 128) :
    shapeCast S1x160x128 w shapeCasts_S160x128_S1x160x128 (ix3 0 r l) = w (ix2 r l) := by
  pointwise

theorem iota_lt (n : ℕ) (hn : n ≤ 1024) (a b : Fin n) :
    IntOp.cmpi .slt (BitVec.ofNat 32 a.val) (BitVec.ofNat 32 b.val) = BitVec.ofBool (decide (a < b)) := by
  have ha := a.isLt
  have hb := b.isLt
  rw [WordCmp.cmpi_slt_of_lt (by rw [BitVec.toNat_ofNat, Nat.mod_eq_of_lt (by omega)]; omega) (by rw [BitVec.toNat_ofNat, Nat.mod_eq_of_lt (by omega)]; omega)]
  rw [BitVec.toNat_ofNat, Nat.mod_eq_of_lt (by omega), BitVec.toNat_ofNat, Nat.mod_eq_of_lt (by omega)]
  simp only [Fin.lt_def]

theorem left_at (a l : Fin 128) : k0_pay4 (F := Ideal) (ix2 a l) = if a < l then (1 : EReal) else 0 := by
  have e : k0_pay4 (F := Ideal) (ix2 a l) = FloatOps.sitofp (F := Ideal) FTy.f32 ((IntOp.cmpi .slt (BitVec.ofNat 32 a.val) (BitVec.ofNat 32 l.val)).setWidth 32) := by
    pointwise [k0_pay4]
  rw [e, iota_lt 128 (by norm_num), indicator]

theorem above_at (a b : Fin 160) : k0_pay5 (F := Ideal) (ix2 a b) = if b < a then (1 : EReal) else 0 := by
  have e : k0_pay5 (F := Ideal) (ix2 a b) = FloatOps.sitofp (F := Ideal) FTy.f32 ((IntOp.cmpi .slt (BitVec.ofNat 32 b.val) (BitVec.ofNat 32 a.val)).setWidth 32) := by
    pointwise [k0_pay5]
  rw [e, iota_lt 160 (by norm_num), indicator]

section
variable (S : IVec S160x128 1) (Q : Place → Prop) (hS : ∀ a l, S (ix2 a l) = BitVec.ofBool (decide (Q (a, l))))
include hS

theorem tot_at (a : Fin 160) : k0_pay8 (F := Ideal) S (ix2 a 0) = ((tot Q a : ℕ) : EReal) := by
  have e : k0_pay8 (F := Ideal) S (ix2 a 0) = ∑ x : Fin 128, FloatOps.sitofp (F := Ideal) FTy.f32 ((S (ix2 a x)).setWidth 32) := by
    pointwise [k0_pay8]
  rw [e]
  simp only [hS, indicator]
  exact sum_indicator _ _

theorem rows_sum (a : Fin 160) : (∑ x : Fin 160, k0_pay5 (F := Ideal) (ix2 a x) * ((tot Q x : ℕ) : EReal)) = ((rows Q a : ℕ) : EReal) := by
  unfold rows
  simp only [above_at, ite_mul, one_mul, zero_mul]
  rw [← Finset.sum_filter, Nat.cast_sum]

theorem lanes_sum (a : Fin 160) (l : Fin 128) :
    (∑ x : Fin 128, FloatOps.sitofp (F := Ideal) FTy.f32 ((S (ix2 a x)).setWidth 32) * k0_pay4 (F := Ideal) (ix2 x l)) = ((lanes Q a l : ℕ) : EReal) := by
  unfold lanes
  rw [← sum_indicator]
  refine Finset.sum_congr rfl fun x _ => ?_
  rw [hS, indicator, left_at]
  by_cases h : x < l <;> by_cases g : Q (a, x) <;> simp [h, g]

theorem rows_at (a : Fin 160) : k0_pay9 (F := Ideal) (k0_pay5 (F := Ideal)) S (ix2 a 0) = ((rows Q a : ℕ) : EReal) := by
  have e : k0_pay9 (F := Ideal) (k0_pay5 (F := Ideal)) S (ix2 a 0) = ∑ x : Fin 160, k0_pay5 (F := Ideal) (ix2 a x) * k0_pay8 (F := Ideal) S (ix2 x 0) := by
    pointwise [k0_pay9]
  rw [e]
  simp only [tot_at S Q hS]
  exact rows_sum S Q hS a

end

end Cert.Proof.S.Pick

end
-- ==== Proof.S.Chosen.lean ====
/-
  The compact call's mask of chosen keys.
-/
module

public import proofs.«01_k».proof.Proof.S.Count
public import proofs.«01_k».proof.Proof.S.Mask
public import proofs.«01_k».proof.Proof.S.Bytes
public import proofs.«01_k».proof.Proof.Gen.ListingIdeal.Value

@[expose] public section

set_option maxRecDepth 100000
set_option maxHeartbeats 4000000

noncomputable section

namespace Cert.Proof.S.Pick

open Classical
open Cert.ListingIdeal Cert.ListingIdeal.Gen
open Idealize.ShloMosaic Idealize.ShloMosaic.StableHlo
open Idealize.ShloMosaic.TcCoe

/-- The test of the equal keys, the count of the greater ones kept apart. -/
theorem core (x0 : Vec Ideal S1x160x128 .i32) (x1 : Vec Ideal S1x1x128 .i32) (t : EReal) (a : Fin 160) (l : Fin 128) (w5 : FVec Ideal S128x128 .bf16) (w6 : FVec Ideal S160x160 .bf16) :
    (let v4 : IVec S160x128 32 := broadcastTo S160x128 (shapeCast S1x128 x1 shapeCasts_S1x1x128_S1x128) broadcasts_S1x128_S160x128
     let v7 : IVec S160x128 1 := cmpi .eq (k0_pay3 x0) v4
     let v28 : FVec Ideal S160x128 .f32 := sitofp .f32 (extui 32 v7 natLt_1_32)
     let v30 : FVec Ideal S160x128 .f32 := matmul dot_S160x128_S128x128_S160x128_1_0_0_1_n_n none (truncf .bf16 v28 bitsLt_bf16_f32) w5 (constant S160x128 .f32 0x00000000#32)
     let v34 : FVec Ideal S160x1 .f32 := shapeCast S160x1 (multiReduction .add [1] S160 v28 0x00000000#32 reduces_S160x128_S160 (.inl rfl) rfl) shapeCasts_S160_S160x1
     let v36 : FVec Ideal S160x1 .f32 := matmul dot_S160x160_S160x1_S160x1_1_0_0_1_n_n none w6 (truncf .bf16 v34 bitsLt_bf16_f32) (constant S160x1 .f32 0x00000000#32)
     (cmpf .olt (addf (broadcastTo S160x128 v36 broadcasts_S160x1_S160x128) v30) (broadcast S160x128 t) : IVec S160x128 1)) (ix2 a l)
    = BitVec.ofBool (decide (
        (∑ y : Fin 160, w6 (ix2 a y) * ∑ x : Fin 128, FloatOps.sitofp (F := Ideal) FTy.f32 ((IntOp.cmpi .eq (x0 (ix3 0 y x)) (x1 (ix3 0 0 x))).setWidth 32))
        + (∑ x : Fin 128, FloatOps.sitofp (F := Ideal) FTy.f32 ((IntOp.cmpi .eq (x0 (ix3 0 a x)) (x1 (ix3 0 0 x))).setWidth 32) * w5 (ix2 x l))
        < t)) := by
  dsimp only
  pointwise [k0_pay3]

/-- The comparison's bit of a greater key. -/
theorem gt_read (x0 : Vec Ideal S1x160x128 .i32) (x1 : Vec Ideal S1x1x128 .i32) (r : Fin 160) (l : Fin 128) :
    (cmpi .sgt (k0_pay3 x0) (broadcastTo S160x128 (shapeCast S1x128 x1 shapeCasts_S1x1x128_S1x128) broadcasts_S1x128_S160x128) : IVec S160x128 1) (ix2 r l)
    = IntOp.cmpi .sgt (x0 (ix3 0 r l)) (x1 (ix3 0 0 l)) := by
  pointwise [k0_pay3]

theorem eq_read (x0 : Vec Ideal S1x160x128 .i32) (x1 : Vec Ideal S1x1x128 .i32) (r : Fin 160) (l : Fin 128) :
    (cmpi .eq (k0_pay3 x0) (broadcastTo S160x128 (shapeCast S1x128 x1 shapeCasts_S1x1x128_S1x128) broadcasts_S1x128_S160x128) : IVec S160x128 1) (ix2 r l)
    = IntOp.cmpi .eq (x0 (ix3 0 r l)) (x1 (ix3 0 0 l)) := by
  pointwise [k0_pay3]

theorem number_read (v : IVec S160x128 1) (r : Fin 160) (l : Fin 128) :
    (sitofp (F := Ideal) .f32 (extui 32 v natLt_1_32)) (ix2 r l) = FloatOps.sitofp (F := Ideal) FTy.f32 ((v (ix2 r l)).setWidth 32) := by
  pointwise

theorem read6 (x0 : Vec Ideal S1x160x128 .i32) (x1 : Vec Ideal S1x1x128 .i32) (a : Fin 160) (l : Fin 128) :
    k0_pay6 (F := Ideal) x0 x1 (ix2 a l) = IntOp.ori (IntOp.cmpi .sgt (x0 (ix3 0 a l)) (x1 (ix3 0 0 l)))
      (IntOp.andi (IntOp.cmpi .eq (x0 (ix3 0 a l)) (x1 (ix3 0 0 l))) (BitVec.ofBool (decide (
        (∑ y : Fin 160, k0_pay5 (F := Ideal) (ix2 a y) * ∑ x : Fin 128, FloatOps.sitofp (F := Ideal) FTy.f32 ((IntOp.cmpi .eq (x0 (ix3 0 y x)) (x1 (ix3 0 0 x))).setWidth 32))
        + (∑ x : Fin 128, FloatOps.sitofp (F := Ideal) FTy.f32 ((IntOp.cmpi .eq (x0 (ix3 0 a x)) (x1 (ix3 0 0 x))).setWidth 32) * k0_pay4 (F := Ideal) (ix2 x l))
        < Ideal.ofBits FTy.f32 1140457472#32 - ∑ r : Fin 160, ∑ l : Fin 128, FloatOps.sitofp (F := Ideal) FTy.f32 ((IntOp.cmpi .sgt (x0 (ix3 0 r l)) (x1 (ix3 0 0 l))).setWidth 32))))) := by
  have c := core x0 x1 (Ideal.ofBits FTy.f32 1140457472#32 - ∑ r : Fin 160, ∑ l : Fin 128, FloatOps.sitofp (F := Ideal) FTy.f32 ((IntOp.cmpi .sgt (x0 (ix3 0 r l)) (x1 (ix3 0 0 l))).setWidth 32)) a l (k0_pay4 (F := Ideal)) (k0_pay5 (F := Ideal))
  rw [← c, ← gt_read, ← eq_read]
  simp only [← gt_read x0 x1, ← number_read, ← as_block]
  rw [← total_block]
  rfl

/-- The mask holds of the chosen keys. -/
theorem mask_at (x0 : Vec Ideal S1x160x128 .i32) (x1 : Vec Ideal S1x1x128 .i32) (p : ℕ)
    (h1 : ∀ l, ord (x1 (ix3 0 0 l)) = p) (a : Fin 160) (l : Fin 128) :
    k0_pay6 (F := Ideal) x0 x1 (ix2 a l) = BitVec.ofBool (decide (Chosen (fun i : Place => ord (x0 (ix3 0 i.1 i.2))) pos p (a, l))) := by
  have gt : ∀ a l, IntOp.cmpi .sgt (x0 (ix3 0 a l)) (x1 (ix3 0 0 l)) = BitVec.ofBool (decide (p < ord (x0 (ix3 0 a l)))) := by
    intro a l
    rw [cmpi_sgt_ord, h1]
  have eq : ∀ a l, IntOp.cmpi .eq (x0 (ix3 0 a l)) (x1 (ix3 0 0 l)) = BitVec.ofBool (decide (ord (x0 (ix3 0 a l)) = p)) := by
    intro a l
    rw [cmpi_eq_ord, h1]
  set q : Place → Prop := fun i => ord (x0 (ix3 0 i.1 i.2)) = p with hq
  have tt : (∑ r : Fin 160, ∑ l : Fin 128, FloatOps.sitofp (F := Ideal) FTy.f32 ((IntOp.cmpi .sgt (x0 (ix3 0 r l)) (x1 (ix3 0 0 l))).setWidth 32))
      = (((Finset.univ.filter fun j : Place => p < ord (x0 (ix3 0 j.1 j.2))).card : ℕ) : EReal) := by
    rw [← sum_indicator, ← Finset.univ_product_univ, Finset.sum_product]
    refine Finset.sum_congr rfl fun r _ => Finset.sum_congr rfl fun l _ => ?_
    rw [gt, indicator]
  have e500 : Ideal.ofBits FTy.f32 1140457472#32 = ((500 : ℕ) : EReal) := by
    simp [Ideal.ofBits, Ideal.ieee]
    rw [← EReal.coe_mul, show ((16384000 : ℝ) * (2 ^ 15)⁻¹) = 500 by norm_num]
    rfl
  have lan : ∀ a l, (∑ x : Fin 128, FloatOps.sitofp (F := Ideal) FTy.f32 ((IntOp.cmpi .eq (x0 (ix3 0 a x)) (x1 (ix3 0 0 x))).setWidth 32) * k0_pay4 (F := Ideal) (ix2 x l)) = ((lanes q a l : ℕ) : EReal) := by
    intro a l
    unfold lanes
    rw [← sum_indicator]
    refine Finset.sum_congr rfl fun x _ => ?_
    rw [eq, indicator, left_at]
    by_cases h : x < l <;> by_cases g : q (a, x) <;> simp [h, hq] <;> simpa [hq] using g
  have row : ∀ a, (∑ y : Fin 160, k0_pay5 (F := Ideal) (ix2 a y) * ∑ x : Fin 128, FloatOps.sitofp (F := Ideal) FTy.f32 ((IntOp.cmpi .eq (x0 (ix3 0 y x)) (x1 (ix3 0 0 x))).setWidth 32)) = ((rows q a : ℕ) : EReal) := by
    intro a
    unfold rows
    simp only [eq, indicator, above_at, ite_mul, one_mul, zero_mul]
    rw [← Finset.sum_filter, Nat.cast_sum]
    refine Finset.sum_congr rfl fun y _ => ?_
    unfold tot
    rw [← sum_indicator]
    refine Finset.sum_congr rfl fun x _ => ?_
    by_cases g : ord (x0 (ix3 0 y x)) = p
    · rw [if_pos g, if_pos (show q (y, x) from g)]
    · rw [if_neg g, if_neg (show ¬ q (y, x) from g)]
  rw [read6, tt, e500, lan, row, gt, eq, ← Nat.cast_add, WordCmp.andi_ofBool, WordCmp.ori_ofBool]
  congr 1
  rw [← Bool.decide_and, ← Bool.decide_or]
  refine decide_eq_decide.2 ?_
  rw [nat_lt_sub, ← before_eq]
  exact Iff.rfl

end Cert.Proof.S.Pick

end
-- ==== Proof.S.Picks.lean ====
/-
  The compact call's one-hot rows and lanes, and the entry they fetch.
-/
module

public import proofs.«01_k».proof.Proof.S.Count
public import proofs.«01_k».proof.Proof.S.Chosen
public import proofs.«01_k».proof.Proof.Gen.ListingIdeal.Value

@[expose] public section

set_option maxRecDepth 100000
set_option maxHeartbeats 4000000

noncomputable section

namespace Cert.Proof.S.Pick

open Classical
open Cert.ListingIdeal Cert.ListingIdeal.Gen
open Idealize.ShloMosaic Idealize.ShloMosaic.StableHlo
open Idealize.ShloMosaic.TcCoe

section
variable (S : IVec S160x128 1) (Q : Place → Prop) (hS : ∀ a l, S (ix2 a l) = BitVec.ofBool (decide (Q (a, l))))
include hS

/-- The one-hot of the row of a rank. -/
theorem hot_at (a : Fin 160) (r : Fin 512) : k0_pay11 (F := Ideal) (k0_pay5 (F := Ideal)) S (ix2 a r) = if rows Q a ≤ r.val ∧ r.val < rows Q a + tot Q a then (1 : EReal) else 0 := by
  have e : ∀ L : FVec Ideal S160x160 .bf16, k0_pay11 (F := Ideal) L S (ix2 a r) = FloatOps.sitofp (F := Ideal) FTy.f32 ((IntOp.andi
      (BitVec.ofBool (decide (k0_pay9 (F := Ideal) L S (ix2 a 0) ≤ FloatOps.sitofp (F := Ideal) FTy.f32 (BitVec.ofNat 32 r.val))))
      (BitVec.ofBool (decide (FloatOps.sitofp (F := Ideal) FTy.f32 (BitVec.ofNat 32 r.val) < k0_pay9 (F := Ideal) L S (ix2 a 0) + k0_pay8 (F := Ideal) S (ix2 a 0))))).setWidth 32) := by
    intro L
    pointwise [k0_pay11]
  have := r.isLt
  rw [e, rows_at S Q hS, tot_at S Q hS, word_nat _ (by omega), ← Nat.cast_add, WordCmp.andi_ofBool, ← Bool.decide_and, indicator]
  simp only [Nat.cast_le, Nat.cast_lt]

/-- The high and low parts of a row's offset add up to it. -/
theorem parts_at (a : Fin 160) : ∃ h d : ℝ, k0_pay21 (F := Ideal) (k0_pay5 (F := Ideal)) S (ix2 a 0) = (h : EReal)
    ∧ k0_pay13 (F := Ideal) (k0_pay5 (F := Ideal)) S (ix2 a 0) = (d : EReal) ∧ h * 256 + d = rows Q a := by
  have e1 : ∀ L : FVec Ideal S160x160 .bf16, k0_pay21 (F := Ideal) L S (ix2 a 0) = Ideal.liftRound Int.floor (k0_pay9 (F := Ideal) L S (ix2 a 0) * Ideal.ofBits .f32 998244352#32) := by
    intro L
    pointwise [k0_pay21, k0_pay12]
  have e2 : ∀ L : FVec Ideal S160x160 .bf16, k0_pay13 (F := Ideal) L S (ix2 a 0) = k0_pay9 (F := Ideal) L S (ix2 a 0)
      - Ideal.liftRound Int.floor (k0_pay9 (F := Ideal) L S (ix2 a 0) * Ideal.ofBits .f32 998244352#32) * Ideal.ofBits .f32 1132462080#32 := by
    intro L
    pointwise [k0_pay13, k0_pay12]
  have c1 : Ideal.ofBits FTy.f32 998244352#32 = ((1 / 256 : ℝ) : EReal) := by
    simp [Ideal.ofBits, Ideal.ieee]
    rw [← EReal.coe_mul]
    norm_num
  have c2 : Ideal.ofBits FTy.f32 1132462080#32 = ((256 : ℝ) : EReal) := by
    simp [Ideal.ofBits, Ideal.ieee]
    rw [← EReal.coe_mul]
    norm_num
  refine ⟨((⌊((rows Q a : ℕ) : ℝ) * (1 / 256)⌋ : ℤ) : ℝ), ((rows Q a : ℕ) : ℝ) - ((⌊((rows Q a : ℕ) : ℝ) * (1 / 256)⌋ : ℤ) : ℝ) * 256, ?_, ?_, by ring⟩
  · rw [e1, rows_at S Q hS, nat_coe, c1, ← EReal.coe_mul]
    rfl
  · rw [e2, rows_at S Q hS, nat_coe, c1, c2, ← EReal.coe_mul]
    show _ - (((⌊((rows Q a : ℕ) : ℝ) * (1 / 256)⌋ : ℤ) : ℝ) : EReal) * _ = _
    rw [← EReal.coe_mul, ← EReal.coe_sub]

end

/-! ## Reading the product with the one-hot rows -/

section
variable (f : FVec Ideal S512x1 .f32) (b : FVec Ideal S160x512 .bf16) (v73 v75 : FVec Ideal S160x1 .f32) (v78 v83 v88 v91 v92 v95 : FVec Ideal S160x128 .bf16) (v96 : FVec Ideal S160x1 .bf16)

theorem one_at (r : Fin 512) (l : Fin 128) : k0_pay24 f b v73 v75 v78 v83 v88 v91 v92 v95 v96 (ix2 r l)
    = FloatOps.sitofp (F := Ideal) FTy.f32 ((IntOp.andi
      (BitVec.ofBool (decide ((∑ x : Fin 160, b (ix2 x r) * v92 (ix2 x l)) = f (ix2 r 0) - ((∑ x : Fin 160, b (ix2 x r) * v96 (ix2 x 0)) * Ideal.ofBits .f32 1132462080#32 + ∑ x : Fin 160, b (ix2 x r) * v73 (ix2 x 0)))))
      (BitVec.ofBool (decide (Ideal.ofBits .f32 1056964608#32 < ∑ x : Fin 160, b (ix2 x r) * v95 (ix2 x l))))).setWidth 32) := by
  pointwise [k0_pay24, k0_pay22]

theorem row_at (r : Fin 512) : k0_pay23 b v73 v75 v78 v83 v88 v91 v92 v95 v96 (ix2 r 0) = ∑ x : Fin 160, b (ix2 x r) * v75 (ix2 x 0) := by
  pointwise [k0_pay23, k0_pay22]

theorem slice_at (r : Fin 512) (l : Fin 128) (o : ℕ) (h : S512x1152.Slices ![0, o] S512x128) (v : FVec Ideal S160x128 .bf16) (k : ℕ)
    (hk : (k = 0 ∧ o = 256 ∧ v = v78) ∨ (k = 1 ∧ o = 384 ∧ v = v83) ∨ (k = 2 ∧ o = 512 ∧ v = v88) ∨ (k = 3 ∧ o = 640 ∧ v = v91)) :
    extractStridedSlice S512x128 ![0, o] (k0_pay22 b v73 v75 v78 v83 v88 v91 v92 v95 v96) h (ix2 r l) = ∑ x : Fin 160, b (ix2 x r) * v (ix2 x l) := by
  have := l.isLt
  rcases hk with ⟨-, rfl, rfl⟩ | ⟨-, rfl, rfl⟩ | ⟨-, rfl, rfl⟩ | ⟨-, rfl, rfl⟩
  all_goals
    pointwise [k0_pay22]
  · refine Finset.sum_congr rfl fun x _ => ?_
    rw [dif_neg (by omega), dif_neg (by omega), dif_pos (by omega)]
    refine congrArg (fun y => b (ix2 x r) * v (ix2 x y)) (Fin.ext ?_)
    show 256 + l.val - 128 - 128 = l.val
    omega
  · refine Finset.sum_congr rfl fun x _ => ?_
    rw [dif_neg (by omega), dif_neg (by omega), dif_neg (by omega), dif_pos (by omega)]
    refine congrArg (fun y => b (ix2 x r) * v (ix2 x y)) (Fin.ext ?_)
    show 384 + l.val - 128 - 128 - 128 = l.val
    omega
  · refine Finset.sum_congr rfl fun x _ => ?_
    rw [dif_neg (by omega), dif_neg (by omega), dif_neg (by omega), dif_neg (by omega), dif_pos (by omega)]
    refine congrArg (fun y => b (ix2 x r) * v (ix2 x y)) (Fin.ext ?_)
    show 512 + l.val - 128 - 128 - 128 - 128 = l.val
    omega
  · refine Finset.sum_congr rfl fun x _ => ?_
    rw [dif_neg (by omega), dif_neg (by omega), dif_neg (by omega), dif_neg (by omega), dif_neg (by omega), dif_pos (by omega)]
    refine congrArg (fun y => b (ix2 x r) * v (ix2 x y)) (Fin.ext ?_)
    show 640 + l.val - 128 - 128 - 128 - 128 - 128 = l.val
    omega

theorem lane_sum (r : Fin 512) : k0_pay25 f b v73 v75 v78 v83 v88 v91 v92 v95 v96 (ix2 r 0)
    = ∑ l : Fin 128, k0_pay24 f b v73 v75 v78 v83 v88 v91 v92 v95 v96 (ix2 r l) * FloatOps.sitofp (F := Ideal) FTy.f32 (BitVec.ofNat 32 l.val) := by
  pointwise [k0_pay25]

theorem byte0 (r : Fin 512) : k0_pay26 f b v73 v75 v78 v83 v88 v91 v92 v95 v96 (ix2 r 0)
    = ∑ l : Fin 128, k0_pay24 f b v73 v75 v78 v83 v88 v91 v92 v95 v96 (ix2 r l) * ∑ x : Fin 160, b (ix2 x r) * v78 (ix2 x l) := by
  simp only [← slice_at b v73 v75 v78 v83 v88 v91 v92 v95 v96 r _ 256 slices_S512x1152_o0_256_S512x128 v78 0 (by simp)]
  pointwise [k0_pay26]

theorem byte1 (r : Fin 512) : k0_pay27 f b v73 v75 v78 v83 v88 v91 v92 v95 v96 (ix2 r 0)
    = ∑ l : Fin 128, k0_pay24 f b v73 v75 v78 v83 v88 v91 v92 v95 v96 (ix2 r l) * ∑ x : Fin 160, b (ix2 x r) * v83 (ix2 x l) := by
  simp only [← slice_at b v73 v75 v78 v83 v88 v91 v92 v95 v96 r _ 384 slices_S512x1152_o0_384_S512x128 v83 1 (by simp)]
  pointwise [k0_pay27]

theorem byte2 (r : Fin 512) : k0_pay28 f b v73 v75 v78 v83 v88 v91 v92 v95 v96 (ix2 r 0)
    = ∑ l : Fin 128, k0_pay24 f b v73 v75 v78 v83 v88 v91 v92 v95 v96 (ix2 r l) * ∑ x : Fin 160, b (ix2 x r) * v88 (ix2 x l) := by
  simp only [← slice_at b v73 v75 v78 v83 v88 v91 v92 v95 v96 r _ 512 slices_S512x1152_o0_512_S512x128 v88 2 (by simp)]
  pointwise [k0_pay28]

theorem byte3 (r : Fin 512) : k0_pay29 f b v73 v75 v78 v83 v88 v91 v92 v95 v96 (ix2 r 0)
    = IntOp.muli (Ideal.fptosi 32 (∑ l : Fin 128, k0_pay24 f b v73 v75 v78 v83 v88 v91 v92 v95 v96 (ix2 r l) * ∑ x : Fin 160, b (ix2 x r) * v91 (ix2 x l))) 16777216#32 := by
  simp only [← slice_at b v73 v75 v78 v83 v88 v91 v92 v95 v96 r _ 640 slices_S512x1152_o0_640_S512x128 v91 3 (by simp)]
  pointwise [k0_pay29]
  rfl

end

theorem key_read (A B C : FVec Ideal S512x1 .f32) (D : IVec S512x1 32) (r : Fin 512) : k0_pay1 (F := Ideal) A B C D (ix3 0 r 0)
    = IntOp.addi (IntOp.addi (IntOp.addi (D (ix2 r 0)) (IntOp.muli (Ideal.fptosi 32 (C (ix2 r 0))) 65536#32)) (IntOp.muli (Ideal.fptosi 32 (B (ix2 r 0))) 256#32)) (Ideal.fptosi 32 (A (ix2 r 0))) := by
  pointwise [k0_pay1]
  rfl

theorem place_read (A B : FVec Ideal S512x1 .f32) (r : Fin 512) : k0_pay2 (F := Ideal) A B (ix3 0 r 0) = A (ix2 r 0) * Ideal.ofBits .f32 1124073472#32 + B (ix2 r 0) := by
  pointwise [k0_pay2]

theorem rank_read (r : Fin 512) : k0_pay10 (F := Ideal) (ix2 r 0) = FloatOps.sitofp (F := Ideal) FTy.f32 (BitVec.ofNat 32 r.val) := by
  pointwise [k0_pay10]

theorem row_read (a : Fin 160) : k0_pay14 (F := Ideal) (ix2 a 0) = FloatOps.sitofp (F := Ideal) FTy.f32 (BitVec.ofNat 32 a.val) := by
  pointwise [k0_pay14]

theorem b0_read (x : IVec S160x128 32) (a : Fin 160) (l : Fin 128) : k0_pay15 (F := Ideal) x (ix2 a l) = FloatOps.sitofp (F := Ideal) FTy.bf16 (IntOp.andi (x (ix2 a l)) 255#32) := by
  pointwise [k0_pay15]
theorem b1_read (x : IVec S160x128 32) (a : Fin 160) (l : Fin 128) : k0_pay16 (F := Ideal) x (ix2 a l) = FloatOps.sitofp (F := Ideal) FTy.bf16 (IntOp.andi (IntOp.shrsi ArithUnit.vector (x (ix2 a l)) 8#32) 255#32) := by
  pointwise [k0_pay16]
theorem b2_read (x : IVec S160x128 32) (a : Fin 160) (l : Fin 128) : k0_pay17 (F := Ideal) x (ix2 a l) = FloatOps.sitofp (F := Ideal) FTy.bf16 (IntOp.andi (IntOp.shrsi ArithUnit.vector (x (ix2 a l)) 16#32) 255#32) := by
  pointwise [k0_pay17]
theorem b3_read (x : IVec S160x128 32) (a : Fin 160) (l : Fin 128) : k0_pay18 (F := Ideal) x (ix2 a l) = FloatOps.sitofp (F := Ideal) FTy.bf16 (IntOp.shrsi ArithUnit.vector (x (ix2 a l)) 24#32) := by
  pointwise [k0_pay18]
theorem lane_read (v : FVec Ideal S160x128 .f32) (a : Fin 160) (l : Fin 128) : k0_pay19 (F := Ideal) v (ix2 a l) = v (ix2 a l) := by
  pointwise [k0_pay19]
theorem in_read (S : IVec S160x128 1) (a : Fin 160) (l : Fin 128) : k0_pay20 (F := Ideal) S (ix2 a l) = FloatOps.sitofp (F := Ideal) FTy.f32 ((S (ix2 a l)).setWidth 32) := by
  pointwise [k0_pay20]
theorem word_read (x0 : Vec Ideal S1x160x128 .i32) (a : Fin 160) (l : Fin 128) : k0_pay3 (F := Ideal) x0 (ix2 a l) = x0 (ix3 0 a l) := by
  pointwise [k0_pay3]
theorem seven_read (x0 : Vec Ideal S1x160x128 .i32) (x1 : Vec Ideal S1x1x128 .i32) (a : Fin 160) (l : Fin 128) : k0_pay7 (F := Ideal) x0 x1 (ix2 a l)
    = ∑ x : Fin 128, FloatOps.sitofp (F := Ideal) FTy.f32 ((k0_pay6 (F := Ideal) x0 x1 (ix2 a x)).setWidth 32) * k0_pay4 (F := Ideal) (ix2 x l) := by
  pointwise [k0_pay7]

end Cert.Proof.S.Pick

end
-- ==== Proof.S.Entry.lean ====
/-
  An entry of the compact call's list.
-/
module

public import proofs.«01_k».proof.Proof.S.Count
public import proofs.«01_k».proof.Proof.S.Picks
public import proofs.«01_k».proof.Proof.Gen.ListingIdeal.Value

@[expose] public section

set_option maxRecDepth 100000
set_option maxHeartbeats 4000000

noncomputable section

namespace Cert.Proof.S.Pick

open Classical
open Cert.ListingIdeal Cert.ListingIdeal.Gen
open Idealize.ShloMosaic Idealize.ShloMosaic.StableHlo
open Idealize.ShloMosaic.TcCoe

theorem hot_sum {n : ℕ} (a : Fin n) (b v : Fin n → EReal) (hb : ∀ x, b x = if x = a then 1 else 0) : (∑ x, b x * v x) = v a := by
  simp only [hb, ite_mul, one_mul, zero_mul]
  simp

theorem cold_sum {n : ℕ} (b v : Fin n → EReal) (hb : ∀ x, b x = 0) : (∑ x, b x * v x) = 0 := by
  simp only [hb, zero_mul]
  simp

theorem half_lt (q : Prop) [Decidable q] : Ideal.ofBits FTy.f32 1056964608#32 < (if q then (1 : EReal) else 0) ↔ q := by
  have c : Ideal.ofBits FTy.f32 1056964608#32 = ((1 / 2 : ℝ) : EReal) := by
    simp [Ideal.ofBits, Ideal.ieee]
    rw [← EReal.coe_mul]
    norm_num
  rw [c]
  by_cases h : q
  · rw [if_pos h, ← EReal.coe_one, EReal.coe_lt_coe_iff]
    exact ⟨fun _ => h, fun _ => by norm_num⟩
  · rw [if_neg h, ← EReal.coe_zero, EReal.coe_lt_coe_iff]
    exact ⟨fun g => absurd g (by norm_num), fun g => absurd g h⟩

theorem muli_zero (w : BitVec 32) : IntOp.muli (0#32) w = 0#32 := BitVec.zero_mul

variable (x0 : Vec Ideal S1x160x128 .i32) (x1 : Vec Ideal S1x1x128 .i32)

theorem mask32 : k0_pay32 x0 x1 = k0_pay6 x0 x1 := by
  unfold k0_pay32
  rw [View.ld_unit_lit _ _ (by decide), View.ld_unit_lit _ _ (by decide)]

theorem words30 : k0_pay30 x0 x1 = k0_pay3 (F := Ideal) x0 := by
  unfold k0_pay30
  rw [View.ld_unit_lit _ _ (by decide)]

theorem lanes41 : k0_pay41 x0 x1 = k0_pay19 (k0_pay7 x0 x1) := by
  unfold k0_pay41
  rw [View.ld_unit_lit _ _ (by decide), View.ld_unit_lit _ _ (by decide)]

section
variable (Q : Place → Prop) (hS : ∀ a l, k0_pay6 (F := Ideal) x0 x1 (ix2 a l) = BitVec.ofBool (decide (Q (a, l))))
include hS

theorem hot34 (a : Fin 160) (r : Fin 512) : k0_pay34 x0 x1 (ix2 a r) = if rows Q a ≤ r.val ∧ r.val < rows Q a + tot Q a then (1 : EReal) else 0 := by
  unfold k0_pay34 k0_pay31
  rw [mask32]
  exact hot_at _ Q hS a r

/-- The lane's one-hot in the row of a rank. -/
theorem lane24 (a : Fin 160) (l : Fin 128) (h : Q (a, l)) (r : Fin 512) (hr : rows Q a + lanes Q a l = r.val) (j : Fin 128) :
    k0_pay24 (k0_pay33 x0 x1) (k0_pay34 x0 x1) (k0_pay35 x0 x1) (k0_pay36 x0 x1) (k0_pay37 x0 x1) (k0_pay38 x0 x1) (k0_pay39 x0 x1) (k0_pay40 x0 x1) (k0_pay41 x0 x1) (k0_pay42 x0 x1) (k0_pay43 x0 x1) (ix2 r j)
      = if j = l then (1 : EReal) else 0 := by
  have hl := lanes_lt Q h
  have hb : ∀ x, k0_pay34 x0 x1 (ix2 x r) = if x = a then (1 : EReal) else 0 := by
    intro x
    rw [hot34 x0 x1 Q hS]
    exact if_congr (rows_unique Q ⟨by omega, by omega⟩) rfl rfl
  have h1024 := r.isLt
  obtain ⟨u, d, hu, hd, e⟩ := parts_at (k0_pay6 (F := Ideal) x0 x1) Q hS a
  have c2 : Ideal.ofBits FTy.f32 1132462080#32 = ((256 : ℝ) : EReal) := by
    simp [Ideal.ofBits, Ideal.ieee]
    rw [← EReal.coe_mul]
    norm_num
  rw [one_at, hot_sum a _ (fun x => k0_pay41 x0 x1 (ix2 x j)) hb, hot_sum a _ (fun x => k0_pay43 x0 x1 (ix2 x 0)) hb,
    hot_sum a _ (fun x => k0_pay35 x0 x1 (ix2 x 0)) hb, hot_sum a _ (fun x => k0_pay42 x0 x1 (ix2 x j)) hb]
  have e41 : k0_pay41 x0 x1 (ix2 a j) = ((lanes Q a j : ℕ) : EReal) := by
    rw [lanes41, lane_read, seven_read]
    exact lanes_sum _ Q hS a j
  have e43 : k0_pay43 x0 x1 (ix2 a 0) = (u : EReal) := by
    unfold k0_pay43 k0_pay31
    rw [mask32]
    exact hu
  have e35 : k0_pay35 x0 x1 (ix2 a 0) = (d : EReal) := by
    unfold k0_pay35 k0_pay31
    rw [mask32]
    exact hd
  have e42 : k0_pay42 x0 x1 (ix2 a j) = if Q (a, j) then (1 : EReal) else 0 := by
    unfold k0_pay42
    rw [mask32, in_read, hS, indicator]
  have e33 : k0_pay33 x0 x1 (ix2 r 0) = ((r.val : ℕ) : EReal) := by
    unfold k0_pay33
    rw [rank_read, word_nat _ (by omega)]
  have t : ((lanes Q a j : ℕ) : EReal) = ((r.val : ℕ) : EReal) - ((u : EReal) * ((256 : ℝ) : EReal) + (d : EReal)) ↔ lanes Q a j = lanes Q a l := by
    rw [← EReal.coe_mul, ← EReal.coe_add, e, nat_coe, nat_coe, ← EReal.coe_sub, EReal.coe_eq_coe_iff, ← hr]
    push_cast
    rw [add_sub_cancel_left]
    exact Nat.cast_inj
  rw [e41, e43, e35, e42, e33, c2, WordCmp.andi_ofBool, ← Bool.decide_and, indicator]
  refine if_congr ?_ rfl rfl
  rw [t, half_lt]
  exact ⟨fun g => lanes_inj Q h g.2 g.1, fun g => by subst g; exact ⟨rfl, h⟩⟩

/-- No lane in a row past the last. -/
theorem lane24_none (r : Fin 512) (hr : ∀ a, ¬ (rows Q a ≤ r.val ∧ r.val < rows Q a + tot Q a)) (j : Fin 128) :
    k0_pay24 (k0_pay33 x0 x1) (k0_pay34 x0 x1) (k0_pay35 x0 x1) (k0_pay36 x0 x1) (k0_pay37 x0 x1) (k0_pay38 x0 x1) (k0_pay39 x0 x1) (k0_pay40 x0 x1) (k0_pay41 x0 x1) (k0_pay42 x0 x1) (k0_pay43 x0 x1) (ix2 r j)
      = 0 := by
  have hb : ∀ x, k0_pay34 x0 x1 (ix2 x r) = 0 := fun x => by rw [hot34 x0 x1 Q hS, if_neg (hr x)]
  rw [one_at, cold_sum _ (fun x => k0_pay42 x0 x1 (ix2 x j)) hb, WordCmp.andi_ofBool, ← Bool.decide_and, indicator]
  refine if_neg fun g => ?_
  have := (half_lt False).1 (by simpa using g.2)
  exact this

theorem key_some (a : Fin 160) (l : Fin 128) (h : Q (a, l)) (r : Fin 512) (hr : rows Q a + lanes Q a l = r.val) :
    out0_2 x0 x1 (ix3 0 r 0) = x0 (ix3 0 a l) := by
  have hl := lanes_lt Q h
  have hb : ∀ x, k0_pay34 x0 x1 (ix2 x r) = if x = a then (1 : EReal) else 0 := by
    intro x
    rw [hot34 x0 x1 Q hS]
    exact if_congr (rows_unique Q ⟨by omega, by omega⟩) rfl rfl
  have g := lane24 x0 x1 Q hS a l h r hr
  have two : ∀ v : FVec Ideal S160x128 .bf16, (∑ j : Fin 128, k0_pay24 (k0_pay33 x0 x1) (k0_pay34 x0 x1) (k0_pay35 x0 x1) (k0_pay36 x0 x1) (k0_pay37 x0 x1) (k0_pay38 x0 x1) (k0_pay39 x0 x1) (k0_pay40 x0 x1) (k0_pay41 x0 x1) (k0_pay42 x0 x1) (k0_pay43 x0 x1) (ix2 r j) * ∑ x : Fin 160, k0_pay34 x0 x1 (ix2 x r) * v (ix2 x j)) = v (ix2 a l) := by
    intro v
    rw [hot_sum l _ (fun j => ∑ x : Fin 160, k0_pay34 x0 x1 (ix2 x r) * v (ix2 x j)) g]
    exact hot_sum a _ (fun x => v (ix2 x l)) hb
  unfold out0_2
  rw [View.canon_cons_unit_lit _ _ _ (by decide), key_read, byte0, byte1, byte2, byte3, two, two, two, two]
  unfold k0_pay37 k0_pay38 k0_pay39 k0_pay40
  rw [words30, b0_read, b1_read, b2_read, b3_read, word_back, word_back, word_back, word_back, word_read]
  exact bytes _

theorem place_some (a : Fin 160) (l : Fin 128) (h : Q (a, l)) (r : Fin 512) (hr : rows Q a + lanes Q a l = r.val) :
    out0_3 x0 x1 (ix3 0 r 0) = ((pos (a, l) : ℕ) : EReal) := by
  have hl := lanes_lt Q h
  have hb : ∀ x, k0_pay34 x0 x1 (ix2 x r) = if x = a then (1 : EReal) else 0 := by
    intro x
    rw [hot34 x0 x1 Q hS]
    exact if_congr (rows_unique Q ⟨by omega, by omega⟩) rfl rfl
  have g := lane24 x0 x1 Q hS a l h r hr
  have c : Ideal.ofBits FTy.f32 1124073472#32 = ((128 : ℕ) : EReal) := by
    simp [Ideal.ofBits, Ideal.ieee]
    rw [← EReal.coe_mul, show ((8388608 : ℝ) * (2 ^ 16)⁻¹) = 128 by norm_num]
    rfl
  have ha := a.isLt
  have hl' := l.isLt
  unfold out0_3
  rw [View.canon_cons_unit_lit _ _ _ (by decide), place_read, row_at, lane_sum, hot_sum l _ (fun j : Fin 128 => FloatOps.sitofp (F := Ideal) FTy.f32 (BitVec.ofNat 32 j.val)) g,
    hot_sum a _ (fun x => k0_pay36 x0 x1 (ix2 x 0)) hb]
  unfold k0_pay36 pos
  rw [row_read, word_nat _ (by omega), word_nat _ (by omega), c]
  push_cast
  rfl

theorem key_none (r : Fin 512) (hr : ∀ a, ¬ (rows Q a ≤ r.val ∧ r.val < rows Q a + tot Q a)) : out0_2 x0 x1 (ix3 0 r 0) = 0#32 := by
  have g := lane24_none x0 x1 Q hS r hr
  have two : ∀ v : FVec Ideal S160x128 .bf16, (∑ j : Fin 128, k0_pay24 (k0_pay33 x0 x1) (k0_pay34 x0 x1) (k0_pay35 x0 x1) (k0_pay36 x0 x1) (k0_pay37 x0 x1) (k0_pay38 x0 x1) (k0_pay39 x0 x1) (k0_pay40 x0 x1) (k0_pay41 x0 x1) (k0_pay42 x0 x1) (k0_pay43 x0 x1) (ix2 r j) * ∑ x : Fin 160, k0_pay34 x0 x1 (ix2 x r) * v (ix2 x j)) = 0 :=
    fun v => cold_sum _ (fun j => ∑ x : Fin 160, k0_pay34 x0 x1 (ix2 x r) * v (ix2 x j)) g
  unfold out0_2
  rw [View.canon_cons_unit_lit _ _ _ (by decide), key_read, byte0, byte1, byte2, byte3, two, two, two, two, back_zero, muli_zero, muli_zero, muli_zero]
  rfl

theorem place_none (r : Fin 512) (hr : ∀ a, ¬ (rows Q a ≤ r.val ∧ r.val < rows Q a + tot Q a)) : out0_3 x0 x1 (ix3 0 r 0) = 0 := by
  have g := lane24_none x0 x1 Q hS r hr
  have hb : ∀ x, k0_pay34 x0 x1 (ix2 x r) = 0 := fun x => by rw [hot34 x0 x1 Q hS, if_neg (hr x)]
  unfold out0_3
  rw [View.canon_cons_unit_lit _ _ _ (by decide), place_read, row_at, lane_sum, cold_sum _ (fun j : Fin 128 => FloatOps.sitofp (F := Ideal) FTy.f32 (BitVec.ofNat 32 j.val)) g,
    cold_sum _ (fun x => k0_pay36 x0 x1 (ix2 x 0)) hb, zero_mul, add_zero]

end

end Cert.Proof.S.Pick

end
-- ==== Proof.S.Sorted.lean ====
/-
  The reference's list: the 500 greatest keys of a class, sorted by place.
-/
module

public import proofs.«01_k».proof.Proof.S.Entry
public import proofs.«01_k».proof.Proof.S.Thresh
public import proofs.«01_k».proof.Proof.Gen.SortedIdeal.Run
public import proofs.«01_k».proof.Proof.Gen.Pre_kth_given

@[expose] public section

set_option maxRecDepth 100000
set_option maxHeartbeats 4000000

noncomputable section

namespace Cert.Proof.S.Pick

open Classical
open Idealize.ShloMosaic Idealize.ShloMosaic.StableHlo
open Idealize.ShloMosaic.TcCoe
open Thresh (perm)

/-- Greater keys first, equal ones in their order. -/
theorem perm_first {n : ℕ} (s : Fin n → BitVec 32) (i j : Fin n) (h : i < j) :
    ord (s (perm s j)) < ord (s (perm s i)) ∨ (ord (s (perm s i)) = ord (s (perm s j)) ∧ perm s i < perm s j) := by
  have hp := Order.lex_sort (fun i => ((ord (s i) : ℕ) : EReal)) (· < ·) (fun k k' => IntOp.cmpi .sgt (s k) (s k') == 1#1)
    (fun a b => by rw [beq_iff_eq, cmpi_sgt_ord, WordCmp.ofBool_decide_eq_one_iff, Nat.cast_lt])
    (List.finRange n) (List.pairwise_lt_finRange n)
  rw [List.pairwise_iff_get] at hp
  rcases hp (i.cast (length_sortPositions _ _).symm) (j.cast (length_sortPositions _ _).symm) h with g | ⟨g, q⟩
  · exact Or.inl (Nat.cast_lt.1 g)
  · exact Or.inr ⟨Nat.cast_inj.1 g, q⟩

/-- The places by size, ascending. -/
def asc {n : ℕ} (s : Fin n → BitVec 32) : Fin n → Fin n := sortedFrom fun k k' => IntOp.cmpi .slt (s k) (s k') == 1#1

theorem asc_lt {n : ℕ} (s : Fin n → BitVec 32) (hs : ∀ i, (s i).toNat < 2 ^ 30) (hi : Function.Injective fun i => (s i).toNat) (i j : Fin n) (h : i < j) :
    (s (asc s i)).toNat < (s (asc s j)).toNat := by
  have hp := Order.lex_sort (fun i => (((2 ^ 30 - (s i).toNat : ℕ)) : EReal)) (· < ·) (fun k k' => IntOp.cmpi .slt (s k) (s k') == 1#1)
    (fun a b => by
      have ha := hs a
      have hb := hs b
      rw [beq_iff_eq, WordCmp.cmpi_slt_of_lt (by omega) (by omega), WordCmp.ofBool_decide_eq_one_iff, Nat.cast_lt]
      omega)
    (List.finRange n) (List.pairwise_lt_finRange n)
  rw [List.pairwise_iff_get] at hp
  have ha := hs (asc s i)
  have hb := hs (asc s j)
  rcases hp (i.cast (length_sortPositions _ _).symm) (j.cast (length_sortPositions _ _).symm) h with g | ⟨g, q⟩
  · have g' : 2 ^ 30 - (s (asc s j)).toNat < 2 ^ 30 - (s (asc s i)).toNat := Nat.cast_lt.1 g
    omega
  · have g' : 2 ^ 30 - (s (asc s i)).toNat = 2 ^ 30 - (s (asc s j)).toNat := Nat.cast_inj.1 g
    have e : asc s i = asc s j := hi (by show (s (asc s i)).toNat = (s (asc s j)).toNat; omega)
    exact absurd (sortedFrom_injective _ e) h.ne

theorem topK_indices (x : IVec ⟨2, ![80, 20480]⟩ 32) (h : (⟨2, ![80, 20480]⟩ : Shape).Slices (fun _ => 0) ⟨2, ![80, 500]⟩) (c : Fin 80) (i : Fin 500) :
    (Host.topK ⟨2, ![80, 500]⟩ 1 (IntOp.cmpi .sgt) x h).2 (ix2 c i) = BitVec.ofNat 32 (perm (fun j => x (ix2 c j)) (i.castLE (by norm_num))).val := by
  unfold Host.topK Host.sort2
  dsimp only
  pointwise
  refine (congrArg (fun j : (⟨2, ![80, 20480]⟩ : Shape).Idx => BitVec.ofNat 32 (j 1).val) (Slots.along_ix2 c (i.castLE (by norm_num)) _)).trans ?_
  refine congrArg (fun f : Fin 20480 → Fin 20480 → Bool => BitVec.ofNat 32 (sortedFrom f (i.castLE (by norm_num))).val) ?_
  funext k k'
  exact congrArg₂ (fun a b => IntOp.cmpi .sgt (x a) (x b) == 1#1) (Slots.along_ix2 c (i.castLE (by norm_num)) k) (Slots.along_ix2 c (i.castLE (by norm_num)) k')

open Cert.SortedIdeal Cert.SortedIdeal.Gen

theorem sort_at (x y : IVec S80x500 32) (c : Fin 80) (i : Fin 500) :
    (Host.sort2 S80x500 1 comparator_i32_i32_d1 x y).1 (ix2 c i) = x (ix2 c (asc (fun j => x (ix2 c j)) i))
    ∧ (Host.sort2 S80x500 1 comparator_i32_i32_d1 x y).2 (ix2 c i) = y (ix2 c (asc (fun j => x (ix2 c j)) i)) := by
  have e : (sortedFrom fun k k' => comparator_i32_i32_d1 (x ((ix2 c i : S80x500.Idx).along 1 k), y ((ix2 c i : S80x500.Idx).along 1 k)) (x ((ix2 c i : S80x500.Idx).along 1 k'), y ((ix2 c i : S80x500.Idx).along 1 k')) == 1#1)
      = asc (fun j => x (ix2 c j)) := by
    unfold asc
    refine congrArg (fun f : Fin 500 → Fin 500 → Bool => sortedFrom f) ?_
    funext k k'
    exact congrArg₂ (fun a b => IntOp.cmpi .slt (x a) (x b) == 1#1) (Slots.along_ix2 c i k) (Slots.along_ix2 c i k')
  constructor
  · exact (congrArg x (Slots.along_ix2 c i _)).trans (congrArg (fun f : Fin 500 → Fin 500 => x (ix2 c (f i))) e)
  · exact (congrArg y (Slots.along_ix2 c i _)).trans (congrArg (fun f : Fin 500 → Fin 500 => y (ix2 c (f i))) e)

theorem pad_in {α : Type} (x : S80x500.Idx → α) (z : S_.Idx → α) (c : Fin 80) (r : Fin 512) (h : r.val < 500) :
    broadcastInDim S80x512x1 ![0, 1] bcast_S80x512_S80x512x1_0_1 (pad S80x512 ![0, 0] ![0, 12] ![0, 0] x z pads_S80x500_S80x512_000_0120 h_S_) (ix3 c r 0) = x (ix2 c ⟨r.val, h⟩) := by
  pointwise
  rw [dif_pos h]

theorem pad_out {α : Type} (x : S80x500.Idx → α) (z : S_.Idx → α) (c : Fin 80) (r : Fin 512) (h : ¬ r.val < 500) :
    broadcastInDim S80x512x1 ![0, 1] bcast_S80x512_S80x512x1_0_1 (pad S80x512 ![0, 0] ![0, 12] ![0, 0] x z pads_S80x500_S80x512_000_0120 h_S_) (ix3 c r 0) = z (Shape.Idx.first h_S_) := by
  pointwise
  rw [dif_neg h]

/-- The reference's sorted keys, padded. -/
def hostKeys (v : IVec S80x160x128 32) : IVec S80x512x1 32 :=
  broadcastInDim S80x512x1 ![0, 1] bcast_S80x512_S80x512x1_0_1 (pad S80x512 ![0, 0] ![0, 12] ![0, 0] ((Host.sort2 S80x500 1 comparator_i32_i32_d1 ((Host.topK S80x500 1 (IntOp.cmpi .sgt) (shapeCast _ v shapeCasts_S80x160x128_S80x20480) sliceFits_S80x20480_S80x500).2) ((Host.topK S80x500 1 (IntOp.cmpi .sgt) (shapeCast _ v shapeCasts_S80x160x128_S80x20480) sliceFits_S80x20480_S80x500).1)).2) (id (constantI S_ 32 0#32)) pads_S80x500_S80x512_000_0120 h_S_)

/-- The reference's sorted places, padded. -/
def hostPlaces (v : IVec S80x160x128 32) : FVec Ideal S80x512x1 .f32 :=
  broadcastInDim S80x512x1 ![0, 1] bcast_S80x512_S80x512x1_0_1 (pad S80x512 ![0, 0] ![0, 12] ![0, 0] (sitofp .f32 ((Host.sort2 S80x500 1 comparator_i32_i32_d1 ((Host.topK S80x500 1 (IntOp.cmpi .sgt) (shapeCast _ v shapeCasts_S80x160x128_S80x20480) sliceFits_S80x20480_S80x500).2) ((Host.topK S80x500 1 (IntOp.cmpi .sgt) (shapeCast _ v shapeCasts_S80x160x128_S80x20480) sliceFits_S80x20480_S80x500).1)).1)) (sitofp .f32 (constantI S_ 32 0#32)) pads_S80x500_S80x512_000_0120 h_S_)

theorem zero_number : FloatOps.sitofp (F := Ideal) FTy.f32 (0#32) = (0 : EReal) := by
  show (((BitVec.toInt _ : ℤ) : ℝ) : EReal) = _
  simp

theorem host_none (v : IVec S80x160x128 32) (c : Fin 80) (r : Fin 512) (h : ¬ r.val < 500) :
    hostKeys v (ix3 c r 0) = 0#32 ∧ hostPlaces v (ix3 c r 0) = 0 := by
  refine ⟨pad_out _ _ c r h, (pad_out _ _ c r h).trans ?_⟩
  exact zero_number

/-- The keys of a class in one row. -/
def line (v : IVec S80x160x128 32) (c : Fin 80) : Fin 20480 → BitVec 32 := fun j =>
  (shapeCast S80x20480 v shapeCasts_S80x160x128_S80x20480) (ix2 c j)

/-- The place of a key of the row. -/
def spot (j : Fin 20480) : Place := (finProdFinEquiv (m := 160) (n := 128)).symm j

theorem spot_bij : Function.Bijective spot := (finProdFinEquiv (m := 160) (n := 128)).symm.bijective

theorem pos_spot (j : Fin 20480) : pos (spot j) = j.val := by
  have h := congrArg Fin.val ((finProdFinEquiv (m := 160) (n := 128)).apply_symm_apply j)
  have h' : (spot j).2.val + 128 * (spot j).1.val = j.val := h
  unfold pos
  omega

theorem line_at (v : IVec S80x160x128 32) (c : Fin 80) (j : Fin 20480) : line v c j = v (ix3 c (spot j).1 (spot j).2) := by
  unfold line
  pointwise
  rfl

theorem ahead (v : IVec S80x160x128 32) (c : Fin 80) (i j : Fin 20480) (h : i < j) :
    Ahead (fun i : Place => ord (v (ix3 c i.1 i.2))) pos (spot (perm (line v c) i)) (spot (perm (line v c) j)) := by
  have q := perm_first (line v c) i j h
  unfold Ahead
  rw [pos_spot, pos_spot]
  simp only [line_at] at q ⊢
  exact q

theorem host_kth (v : IVec S80x160x128 32) (c : Fin 80) (l : Fin 128) :
    IsKth (fun i : Place => ord (v (ix3 c i.1 i.2))) (ord (Thresh.host v (ix3 c 0 l))) := by
  have e : Thresh.host v (ix3 c 0 l) = line v c (perm (line v c) ⟨499, by norm_num⟩) := by
    have e' : Thresh.host v (ix3 c 0 l) = (Host.topK Cert.KthIdeal.S80x500 1 (IntOp.cmpi .sgt)
        (shapeCast Cert.KthIdeal.S80x20480 v Cert.KthIdeal.Gen.shapeCasts_S80x160x128_S80x20480) Cert.KthIdeal.Gen.sliceFits_S80x20480_S80x500).1 (ix2 c (499 : Fin 500)) := by
      unfold Thresh.host
      pointwise
    exact e'.trans (Thresh.topK_values _ _ c 499)
  have s := isKth_sorted (fun j => ord (line v c j)) (perm (line v c)) ⟨sortedFrom_injective _, sortedFrom_surjective _⟩
    (fun i j h => (perm_first (line v c) i j h).elim le_of_lt fun g => g.1.ge) (by norm_num)
  rw [e]
  simp only [line_at] at s ⊢
  unfold IsKth at s ⊢
  unfold spot at s
  rw [Thresh.reach_equiv finProdFinEquiv.symm (fun i : Place => ord (v (ix3 c i.1 i.2))), Thresh.reach_equiv finProdFinEquiv.symm (fun i : Place => ord (v (ix3 c i.1 i.2)))] at s
  exact s

theorem host_some (v : IVec S80x160x128 32) (c : Fin 80) (p : ℕ) (hp : IsKth (fun i : Place => ord (v (ix3 c i.1 i.2))) p)
    (r : Fin 512) (h : r.val < 500) : ∃ i : Place, Chosen (fun i : Place => ord (v (ix3 c i.1 i.2))) pos p i
      ∧ before pos (Chosen (fun i : Place => ord (v (ix3 c i.1 i.2))) pos p) i = r.val
      ∧ hostKeys v (ix3 c r 0) = v (ix3 c i.1 i.2) ∧ hostPlaces v (ix3 c r 0) = ((pos i : ℕ) : EReal) := by
  set idx : Fin 500 → BitVec 32 := fun j => (Host.topK S80x500 1 (IntOp.cmpi .sgt) (shapeCast S80x20480 v shapeCasts_S80x160x128_S80x20480) sliceFits_S80x20480_S80x500).2 (ix2 c j) with hidx
  have i1 : ∀ j, idx j = BitVec.ofNat 32 (perm (line v c) (j.castLE (by norm_num))).val := fun j => topK_indices _ _ c j
  have i2 : ∀ j, (idx j).toNat = (perm (line v c) (j.castLE (by norm_num))).val := by
    intro j
    have := (perm (line v c) (j.castLE (by norm_num))).isLt
    rw [i1, BitVec.toNat_ofNat, Nat.mod_eq_of_lt (by omega)]
  have inj : Function.Injective fun j => (idx j).toNat := by
    intro a b e
    have e' : (perm (line v c) (a.castLE (by norm_num))).val = (perm (line v c) (b.castLE (by norm_num))).val := by rw [← i2, ← i2]; exact e
    exact Fin.castLE_injective _ (sortedFrom_injective _ (Fin.ext e'))
  have lt : ∀ j, (idx j).toNat < 2 ^ 30 := by
    intro j
    have := (perm (line v c) (j.castLE (by norm_num))).isLt
    rw [i2]
    omega
  have L := listed (fun i : Place => ord (v (ix3 c i.1 i.2))) pos (fun j => spot (perm (line v c) j)) (spot_bij.comp ⟨sortedFrom_injective _, sortedFrom_surjective _⟩)
    (fun i j h => ahead v c i j h) p hp (by norm_num) (asc idx) ⟨sortedFrom_injective _, sortedFrom_surjective _⟩
    (fun a b hab => by
      rw [pos_spot, pos_spot, ← i2, ← i2]
      exact asc_lt idx lt inj a b hab) ⟨r.val, h⟩
  refine ⟨_, L.1, L.2, ?_, ?_⟩
  · refine (pad_in _ _ c r h).trans (((sort_at _ _ c ⟨r.val, h⟩).2).trans ((Thresh.topK_values _ _ c _).trans ?_))
    exact line_at v c _
  · refine (pad_in _ _ c r h).trans ?_
    refine (congrArg (FloatOps.sitofp (F := Ideal) FTy.f32) ((sort_at _ _ c ⟨r.val, h⟩).1)).trans ?_
    rw [pos_spot]
    refine (congrArg (FloatOps.sitofp (F := Ideal) FTy.f32) (i1 (asc idx ⟨r.val, h⟩))).trans ?_
    have := (perm (line v c) ((asc idx ⟨r.val, h⟩).castLE (by norm_num))).isLt
    exact word_nat _ (by omega)

end Cert.Proof.S.Pick

end
-- ==== Proof.S.Listed.lean ====
/-
  The compact call's list against the reference's.
-/
module

public import proofs.«01_k».proof.Proof.S.Sorted

@[expose] public section

set_option maxRecDepth 100000
set_option maxHeartbeats 4000000

noncomputable section

namespace Cert.Proof.S.Pick

open Classical
open Idealize.ShloMosaic Idealize.ShloMosaic.StableHlo
open Idealize.ShloMosaic.TcCoe
open Thresh (perm)

theorem few (v : IVec Cert.SortedIdeal.S80x160x128 32) (c : Fin 80) (p : ℕ) (hp : IsKth (fun i : Place => ord (v (ix3 c i.1 i.2))) p) :
    (Finset.univ.filter fun i => Chosen (fun i : Place => ord (v (ix3 c i.1 i.2))) pos p i).card ≤ 500 :=
  chosen_card _ pos (fun j => spot (perm (line v c) j)) (spot_bij.comp ⟨sortedFrom_injective _, sortedFrom_surjective _⟩) (fun i j h => ahead v c i j h) p hp

theorem given (x : IVec Cert.Pre_kth_given.S80x160x128 32) (q : IVec Cert.Pre_kth_given.S80x1x128 32) (h : Cert.Pre_kth_given.fn (F := Ideal) x q = fun _ => 1#1) :
    q = Thresh.host x := by
  have e := congrFun h ix0
  unfold Cert.Pre_kth_given.fn at e
  dsimp only at e
  haveI : Subsingleton Cert.Pre_kth_given.S_.Idx := ⟨fun a b => funext fun k => k.elim0⟩
  funext j
  have p := Host.reduce_andi_all _ _ _ _ _ e j
  have p' : IntOp.cmpi .eq (q j) (Thresh.host x j) = 1#1 := p
  rw [WordCmp.cmpi_eq_eq, WordCmp.ofBool_decide_eq_one_iff] at p'
  exact p'

open Cert.ListingIdeal Cert.ListingIdeal.Gen

variable (m : (ℓ : Loc nD τ sig) → Buf (Elt Ideal) ℓ)

/-- The keys a device is launched with. -/
def keys (c : Dev nD) : IVec S80x160x128 32 := m ((c : Thread nD τ).loc main_arg0)
/-- The thresholds a device is launched with. -/
def marks (c : Dev nD) : IVec S80x1x128 32 := m ((c : Thread nD τ).loc main_arg1)

theorem e0 : ∀ t : Fin cfg0.N, win0_0.index t = ![t.val, 0, 0] := (by decide +kernel : ∀ t : Fin grid0.N, _)
theorem e1 : ∀ t : Fin cfg0.N, win0_1.index t = ![t.val, 0, 0] := (by decide +kernel : ∀ t : Fin grid0.N, _)
theorem e2 : ∀ t : Fin cfg0.N, win0_2.index t = ![t.val, 0, 0] := (by decide +kernel : ∀ t : Fin grid0.N, _)
theorem e3 : ∀ t : Fin cfg0.N, win0_3.index t = ![t.val, 0, 0] := (by decide +kernel : ∀ t : Fin grid0.N, _)

/-- The class of a point. -/
def cls (t : Fin cfg0.N) : Fin 80 := ⟨t.val, lt_of_lt_of_eq t.isLt (show cfg0.N = 80 by decide +kernel)⟩

theorem block0 (c : Dev nD) (t : Fin cfg0.N) (r : Fin 160) (l : Fin 128) : iblk m c 0 t (ix3 0 r l) = keys m c (ix3 (cls t) r l) := by
  unfold keys
  blk_simp [iblk]
  rw [V_main_arg0]
  blk_ext [e0, cls]

theorem block1 (c : Dev nD) (t : Fin cfg0.N) (l : Fin 128) : iblk m c 1 t (ix3 0 0 l) = marks m c (ix3 (cls t) 0 l) := by
  unfold marks
  blk_simp [iblk]
  rw [V_main_arg1]
  blk_ext [e1, cls]

theorem entry (c : Dev nD) (t : Fin cfg0.N) (hm : marks m c = Thresh.host (keys m c)) (r : Fin 512) :
    out0_2 (iblk m c 0 t) (iblk m c 1 t) (ix3 0 r 0) = hostKeys (keys m c) (ix3 (cls t) r 0)
    ∧ out0_3 (iblk m c 0 t) (iblk m c 1 t) (ix3 0 r 0) = hostPlaces (keys m c) (ix3 (cls t) r 0) := by
  have kth : ∀ l, IsKth (fun i : Place => ord (keys m c (ix3 (cls t) i.1 i.2))) (ord (marks m c (ix3 (cls t) 0 l))) := by
    intro l
    rw [hm]
    exact host_kth (keys m c) (cls t) l
  have hp := kth 0
  generalize hpe : ord (marks m c (ix3 (cls t) 0 0)) = p at hp
  have h1 : ∀ l, ord (iblk m c 1 t (ix3 0 0 l)) = p := fun l => by
    rw [block1]
    exact isKth_unique _ (kth l) hp
  have M := mask_at (iblk m c 0 t) (iblk m c 1 t) p h1
  simp only [block0] at M
  by_cases h : r.val < 500
  · obtain ⟨i, c1, c2, c3, c4⟩ := host_some (keys m c) (cls t) p hp r h
    rw [c3, c4]
    have c2' : rows _ i.1 + lanes _ i.1 i.2 = r.val := (before_eq _ i.1 i.2).symm.trans c2
    refine ⟨?_, place_some _ _ _ M i.1 i.2 c1 r c2'⟩
    rw [key_some _ _ _ M i.1 i.2 c1 r c2', block0]
  · obtain ⟨n1, n2⟩ := host_none (keys m c) (cls t) r h
    have hr : ∀ a, ¬ (rows (Chosen (fun i : Place => ord (keys m c (ix3 (cls t) i.1 i.2))) pos p) a ≤ r.val
        ∧ r.val < rows (Chosen (fun i : Place => ord (keys m c (ix3 (cls t) i.1 i.2))) pos p) a + tot (Chosen (fun i : Place => ord (keys m c (ix3 (cls t) i.1 i.2))) pos p) a) := by
      intro a g
      have f := few (keys m c) (cls t) p hp
      have s := rows_total (Chosen (fun i : Place => ord (keys m c (ix3 (cls t) i.1 i.2))) pos p) a
      omega
    rw [n1, n2]
    exact ⟨key_none _ _ _ M r hr, place_none _ _ _ M r hr⟩

theorem final2 (c : Dev nD) (hm : marks m c = Thresh.host (keys m c)) :
    (dats m 0 c).arrAt 2 cfg0.N = hostKeys (keys m c) := by
  refine (dats m 0 c).arrAt_eq_of_covers 2 _ (by decide +kernel) fun t hf y => ?_
  blk_simp
  rw [after0_2]
  obtain ⟨a, r, b, rfl⟩ : ∃ (a : Fin 1) (r : Fin 512) (b : Fin 1), y = ix3 a r b := ⟨y 0, y 1, y 2, eq_ix3 y⟩
  obtain rfl : a = 0 := Subsingleton.elim _ _
  obtain rfl : b = 0 := Subsingleton.elim _ _
  have hy : ((win0_2.blk (G := grid0) t).view.emb (ix3 0 r 0)) = ix3 (cls t) r 0 := by
    blk_ext [e2, cls]
  rw [hy]
  exact (entry m c t hm r).1

theorem final3 (c : Dev nD) (hm : marks m c = Thresh.host (keys m c)) :
    (dats m 0 c).arrAt 3 cfg0.N = hostPlaces (keys m c) := by
  refine (dats m 0 c).arrAt_eq_of_covers 3 _ (by decide +kernel) fun t hf y => ?_
  blk_simp
  rw [after0_3]
  obtain ⟨a, r, b, rfl⟩ : ∃ (a : Fin 1) (r : Fin 512) (b : Fin 1), y = ix3 a r b := ⟨y 0, y 1, y 2, eq_ix3 y⟩
  obtain rfl : a = 0 := Subsingleton.elim _ _
  obtain rfl : b = 0 := Subsingleton.elim _ _
  have hy : ((win0_3.blk (G := grid0) t).view.emb (ix3 0 r 0)) = ix3 (cls t) r 0 := by
    blk_ext [e3, cls]
  rw [hy]
  exact (entry m c t hm r).2

/-- The call's program runs to the reference's list. -/
theorem run (g : Dev nD → PrngReg) (hm : ∀ c, marks m c = Thresh.host (keys m c)) :
    θ_run (defs (F := Ideal)) (onTc (τ := τ) (main (F := Ideal))) ⟨m, fun _ => 0, g⟩ (fun r => ∀ c : Dev nD,
      r.2.mem ((c.tc : Thread nD τ).loc main_v0_0) = hostKeys (keys m c)
      ∧ r.2.mem ((c.tc : Thread nD τ).loc main_v0_1) = hostPlaces (keys m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final2 m c (hm c)), (h c).2.1.trans (final3 m c (hm c)), (h c).2.2.1, (h c).2.2.2⟩)
    (Cert.ListingIdeal.Value.run_blocks m g)

end Cert.Proof.S.Pick

end
-- ==== Proof.lean ====
/-
  The certificate: the masked softmax, and box post-processing from the selected scores, kernel and reference.
-/
module

public import proofs.«01_k».proof.Defs
public import proofs.«01_k».proof.Proof.Gen.KernelIdeal
public import proofs.«01_k».proof.Proof.Gen.ReferenceIdeal
public import proofs.«01_k».proof.Proof.Gen.Pre_selected
public import proofs.«01_k».proof.Proof.Gen.Softmax
public import proofs.«01_k».proof.Proof.Gen.Softmax.Skeleton
public import proofs.«01_k».proof.Proof.Gen.Softmax.Launch
public import proofs.«01_k».proof.Proof.Gen.Softmax.Points
public import proofs.«01_k».proof.Proof.Gen.Softmax.Frame
public import proofs.«01_k».proof.Proof.Gen.SoftmaxIdeal
public import proofs.«01_k».proof.Proof.Gen.SoftmaxIdeal.Skeleton
public import proofs.«01_k».proof.Proof.Gen.SoftmaxIdeal.Launch
public import proofs.«01_k».proof.Proof.Gen.SoftmaxIdeal.Points
public import proofs.«01_k».proof.Proof.Gen.SoftmaxIdeal.Frame
public import proofs.«01_k».proof.Proof.Gen.MaskedIdeal
public import proofs.«01_k».proof.Proof.Gen.MaskedIdeal.Run
public import proofs.«01_k».proof.Proof.Gen.Threshold
public import proofs.«01_k».proof.Proof.Gen.Threshold.Skeleton
public import proofs.«01_k».proof.Proof.Gen.Threshold.Launch
public import proofs.«01_k».proof.Proof.Gen.Threshold.Points
public import proofs.«01_k».proof.Proof.Gen.Threshold.Frame
public import proofs.«01_k».proof.Proof.Gen.Compact
public import proofs.«01_k».proof.Proof.Gen.Compact.Skeleton
public import proofs.«01_k».proof.Proof.Gen.Compact.Launch
public import proofs.«01_k».proof.Proof.Gen.Compact.Points
public import proofs.«01_k».proof.Proof.Gen.Compact.Frame
public import proofs.«01_k».proof.Proof.Gen.Search
public import proofs.«01_k».proof.Proof.Gen.Search.Skeleton
public import proofs.«01_k».proof.Proof.Gen.Search.Launch
public import proofs.«01_k».proof.Proof.Gen.Search.Points
public import proofs.«01_k».proof.Proof.Gen.Search.Frame
public import proofs.«01_k».proof.Proof.Gen.SearchIdeal
public import proofs.«01_k».proof.Proof.Gen.SearchIdeal.Skeleton
public import proofs.«01_k».proof.Proof.Gen.SearchIdeal.Launch
public import proofs.«01_k».proof.Proof.Gen.SearchIdeal.Points
public import proofs.«01_k».proof.Proof.Gen.SearchIdeal.Frame
public import proofs.«01_k».proof.Proof.Gen.SearchIdeal.Value
public import proofs.«01_k».proof.Proof.Gen.Pre_in_range
public import proofs.«01_k».proof.Proof.Gen.KthIdeal
public import proofs.«01_k».proof.Proof.Gen.KthIdeal.Run
public import proofs.«01_k».proof.Proof.Gen.Listing
public import proofs.«01_k».proof.Proof.Gen.Listing.Skeleton
public import proofs.«01_k».proof.Proof.Gen.Listing.Launch
public import proofs.«01_k».proof.Proof.Gen.Listing.Points
public import proofs.«01_k».proof.Proof.Gen.Listing.Frame
public import proofs.«01_k».proof.Proof.Gen.ListingIdeal
public import proofs.«01_k».proof.Proof.Gen.ListingIdeal.Skeleton
public import proofs.«01_k».proof.Proof.Gen.ListingIdeal.Launch
public import proofs.«01_k».proof.Proof.Gen.ListingIdeal.Points
public import proofs.«01_k».proof.Proof.Gen.ListingIdeal.Frame
public import proofs.«01_k».proof.Proof.Gen.ListingIdeal.Value
public import proofs.«01_k».proof.Proof.Gen.Pre_kth_given
public import proofs.«01_k».proof.Proof.Gen.SortedIdeal
public import proofs.«01_k».proof.Proof.Gen.SortedIdeal.Run
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.ReferenceIdeal.Run
public import proofs.«01_k».proof.Proof.RI.Frame
public import proofs.«01_k».proof.Proof.Join
public import proofs.«01_k».proof.Proof.S.Call
public import proofs.«01_k».proof.Proof.S.Thresh
public import proofs.«01_k».proof.Proof.S.Listed
public import Idealize.ShloMosaic.Adequacy
public import Idealize.ShloMosaic.Init

@[expose] public section

noncomputable section

namespace Cert.Proof

open Idealize.ShloMosaic Idealize.SL.Sem

theorem reference_frame : Cert.quiescent_ReferenceIdeal := fun m g _ =>
  (θ_run _ _ _).mono (fun _ h => ⟨fun c => (h.1 c).2, h.2⟩) (RI.run m g)

theorem kernel_frame : Cert.quiescent_KernelIdeal := fun m g _ => PI.frame m g PI.halts

/-- The kernel's run: its result and its arguments as launched. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD, ∀ b ∈ [Cert.KernelIdeal.main_v84, Cert.KernelIdeal.main_arg0, Cert.KernelIdeal.main_arg1, Cert.KernelIdeal.main_arg2,
          Cert.KernelIdeal.main_arg3, Cert.KernelIdeal.main_arg4],
        r.2.mem ((c.tc : Thread Cert.KernelIdeal.nD Cert.KernelIdeal.τ).loc b)
          = Pipeline.afterTail₀ (Cert.KernelIdeal.cfgs (F := Ideal)) (PI.dats m) 0 (PI.V0 m) (PI.tail (F := Ideal)) c b) :=
  (θ_run _ _ _).mono (fun _ h => h.1) (PI.run_at m g PI.halts _ (by decide +kernel))

theorem same : Cert.algebraic_KernelIdeal_ReferenceIdeal_pre_selected := by
  intro m g m' g' hp ha
  have hs : ∀ c, Join.Selected (PI.W0 m c) := fun c => by
    obtain ⟨h0, h1⟩ := Pre.selected _ _ _ _ _ (hp c)
    exact ⟨h0, fun k i j hij => Pre.ascending _ (h1 k) i j hij⟩
  refine ⟨fun c => Tails.lastK (PI.flat m c) (Proc.devRef .tc Cert.KernelIdeal.main_v84), ?_, ?_⟩
  · refine (θ_run _ _ _).mono (fun r h c => ⟨?_, ?_, ?_, ?_, ?_, ?_⟩) (kernel_run m g)
    · exact (h c Cert.KernelIdeal.main_v84 (by simp)).trans (PI.final_eq m c _)
    · exact (h c Cert.KernelIdeal.main_arg0 (by simp)).trans (PI.W_arg m (PI.dats m) _ (by decide) c)
    · exact (h c Cert.KernelIdeal.main_arg1 (by simp)).trans (PI.W_arg m (PI.dats m) _ (by decide) c)
    · exact (h c Cert.KernelIdeal.main_arg2 (by simp)).trans (PI.W_arg m (PI.dats m) _ (by decide) c)
    · exact (h c Cert.KernelIdeal.main_arg3 (by simp)).trans (PI.W_arg m (PI.dats m) _ (by decide) c)
    · exact (h c Cert.KernelIdeal.main_arg4 (by simp)).trans (PI.W_arg m (PI.dats m) _ (by decide) c)
  · refine (θ_run _ _ _).mono (fun r h c => ⟨?_, (h.1 c).2⟩) (RI.run m' g')
    exact (h.1 c).1.trans (Join.results_eq (ha c) (hs c)).symm

theorem masked_run (m : (ℓ : Loc Cert.MaskedIdeal.nD Cert.MaskedIdeal.τ Cert.MaskedIdeal.sig) → Buf (Elt Ideal) ℓ) (g : Dev Cert.MaskedIdeal.nD → PrngReg) :
    θ_run (Cert.MaskedIdeal.defs (F := Ideal)) (onTc (τ := Cert.MaskedIdeal.τ) (Cert.MaskedIdeal.main (F := Ideal))) ⟨m, fun _ => 0, g⟩ (fun r =>
      ∀ c : Dev Cert.MaskedIdeal.nD,
        r.2.mem ((c.tc : Thread Cert.MaskedIdeal.nD Cert.MaskedIdeal.τ).loc Cert.MaskedIdeal.main_v15)
          = S.host (m ((c.tc : Thread Cert.MaskedIdeal.nD Cert.MaskedIdeal.τ).loc Cert.MaskedIdeal.main_arg0))
        ∧ r.2.mem ((c.tc : Thread Cert.MaskedIdeal.nD Cert.MaskedIdeal.τ).loc Cert.MaskedIdeal.main_arg0)
          = m ((c.tc : Thread Cert.MaskedIdeal.nD Cert.MaskedIdeal.τ).loc Cert.MaskedIdeal.main_arg0)) :=
  (θ_run _ _ _).mono (fun _ h c => ⟨(h c).1, (h c).2⟩) (Cert.MaskedIdeal.Value.run m g)

theorem masked_frame : Cert.quiescent_MaskedIdeal := fun m g _ =>
  (θ_run _ _ _).mono (fun _ h => ⟨fun c => (h c).2, sem_eq_zero_of_no_sems (by decide) _⟩) (masked_run m g)

/-- The softmax call and the host's masked softmax, from equal logits. -/
theorem masked : Cert.algebraic_SoftmaxIdeal_MaskedIdeal := fun m g m' g' _ ha =>
  ⟨fun c => S.host (S.logits m c), S.run m g,
    (θ_run _ _ _).mono (fun _ h c => ⟨(h c).1.trans (congrArg S.host (ha c)), (h c).2⟩) (masked_run m' g')⟩

theorem kth_run (m : (ℓ : Loc Cert.KthIdeal.nD Cert.KthIdeal.τ Cert.KthIdeal.sig) → Buf (Elt Ideal) ℓ) (g : Dev Cert.KthIdeal.nD → PrngReg) :
    θ_run (Cert.KthIdeal.defs (F := Ideal)) (onTc (τ := Cert.KthIdeal.τ) (Cert.KthIdeal.main (F := Ideal))) ⟨m, fun _ => 0, g⟩ (fun r =>
      ∀ c : Dev Cert.KthIdeal.nD,
        r.2.mem ((c.tc : Thread Cert.KthIdeal.nD Cert.KthIdeal.τ).loc Cert.KthIdeal.main_v4)
          = S.Thresh.host (m ((c.tc : Thread Cert.KthIdeal.nD Cert.KthIdeal.τ).loc Cert.KthIdeal.main_arg0))
        ∧ r.2.mem ((c.tc : Thread Cert.KthIdeal.nD Cert.KthIdeal.τ).loc Cert.KthIdeal.main_arg0)
          = m ((c.tc : Thread Cert.KthIdeal.nD Cert.KthIdeal.τ).loc Cert.KthIdeal.main_arg0)) :=
  (θ_run _ _ _).mono (fun _ h c => ⟨(h c).1, (h c).2⟩) (Cert.KthIdeal.Value.run m g)

theorem kth_frame : Cert.quiescent_KthIdeal := fun m g _ =>
  (θ_run _ _ _).mono (fun _ h => ⟨fun c => (h c).2, sem_eq_zero_of_no_sems (by decide) _⟩) (kth_run m g)

/-- The threshold call and the host's sort, from equal keys. -/
theorem kth : Cert.algebraic_SearchIdeal_KthIdeal_pre_in_range := fun m g m' g' hp ha =>
  ⟨fun c => S.Thresh.host (S.Thresh.keys m c), S.Thresh.run m g fun c => S.in_range _ (hp c),
    (θ_run _ _ _).mono (fun _ h c => ⟨(h c).1.trans (congrArg S.Thresh.host (ha c)), (h c).2⟩) (kth_run m' g')⟩

theorem sorted_run (m : (ℓ : Loc Cert.SortedIdeal.nD Cert.SortedIdeal.τ Cert.SortedIdeal.sig) → Buf (Elt Ideal) ℓ) (g : Dev Cert.SortedIdeal.nD → PrngReg) :
    θ_run (Cert.SortedIdeal.defs (F := Ideal)) (onTc (τ := Cert.SortedIdeal.τ) (Cert.SortedIdeal.main (F := Ideal))) ⟨m, fun _ => 0, g⟩ (fun r =>
      ∀ c : Dev Cert.SortedIdeal.nD,
        r.2.mem ((c.tc : Thread Cert.SortedIdeal.nD Cert.SortedIdeal.τ).loc Cert.SortedIdeal.main_v3)
          = S.Pick.hostKeys (m ((c.tc : Thread Cert.SortedIdeal.nD Cert.SortedIdeal.τ).loc Cert.SortedIdeal.main_arg0))
        ∧ r.2.mem ((c.tc : Thread Cert.SortedIdeal.nD Cert.SortedIdeal.τ).loc Cert.SortedIdeal.main_v6)
          = S.Pick.hostPlaces (m ((c.tc : Thread Cert.SortedIdeal.nD Cert.SortedIdeal.τ).loc Cert.SortedIdeal.main_arg0))
        ∧ r.2.mem ((c.tc : Thread Cert.SortedIdeal.nD Cert.SortedIdeal.τ).loc Cert.SortedIdeal.main_arg0)
          = m ((c.tc : Thread Cert.SortedIdeal.nD Cert.SortedIdeal.τ).loc Cert.SortedIdeal.main_arg0)
        ∧ r.2.mem ((c.tc : Thread Cert.SortedIdeal.nD Cert.SortedIdeal.τ).loc Cert.SortedIdeal.main_arg1)
          = m ((c.tc : Thread Cert.SortedIdeal.nD Cert.SortedIdeal.τ).loc Cert.SortedIdeal.main_arg1)) :=
  (θ_run _ _ _).mono (fun _ h c => h c) (Cert.SortedIdeal.Value.run m g)

theorem sorted_frame : Cert.quiescent_SortedIdeal := fun m g _ =>
  (θ_run _ _ _).mono (fun _ h => ⟨fun c => (h c).2.2, sem_eq_zero_of_no_sems (by decide) _⟩) (sorted_run m g)

/-- The compact call and the host's sorted list, from equal keys and thresholds. -/
theorem listed : Cert.algebraic_ListingIdeal_SortedIdeal_pre_kth_given := fun m g m' g' hp ha =>
  ⟨fun c => S.Pick.hostKeys (S.Pick.keys m c), fun c => S.Pick.hostPlaces (S.Pick.keys m c),
    S.Pick.run m g (fun c => S.Pick.given _ _ (hp c)),
    (θ_run _ _ _).mono (fun _ h c => ⟨(h c).1.trans (congrArg S.Pick.hostKeys (ha c).1), (h c).2.1.trans (congrArg S.Pick.hostPlaces (ha c).1), (h c).2.2⟩) (sorted_run m' g')⟩

theorem claim : Cert.Claim := ⟨Cert.KernelIdeal.Gen.facts, Cert.ReferenceIdeal.Gen.facts, Cert.Softmax.Gen.facts, Cert.SoftmaxIdeal.Gen.facts,
  Cert.MaskedIdeal.Gen.facts, Cert.Threshold.Gen.facts, Cert.Compact.Gen.facts, Cert.Search.Gen.facts, Cert.SearchIdeal.Gen.facts,
  Cert.KthIdeal.Gen.facts, Cert.Listing.Gen.facts, Cert.ListingIdeal.Gen.facts, Cert.SortedIdeal.Gen.facts,
  Cert.Pre_selected.Gen.facts, Cert.Pre_in_range.Gen.facts, Cert.Pre_kth_given.Gen.facts,
  kernel_frame, fun m g _ => kernel_frame m g trivial, reference_frame, fun m g _ => reference_frame m g trivial,
  fun m g _ => Cert.Softmax.Gen.frame m g, fun m g _ => Cert.SoftmaxIdeal.Gen.frame m g, masked_frame,
  fun m g _ => Cert.Threshold.Gen.frame m g, fun m g _ => Cert.Compact.Gen.frame m g, fun m g _ => Cert.Search.Gen.frame m g,
  fun m g _ => Cert.SearchIdeal.Gen.frame m g, fun m g _ => Cert.SearchIdeal.Gen.frame m g, kth_frame, fun m g _ => kth_frame m g trivial,
  fun m g _ => Cert.Listing.Gen.frame m g, fun m g _ => Cert.ListingIdeal.Gen.frame m g, fun m g _ => Cert.ListingIdeal.Gen.frame m g,
  sorted_frame, fun m g _ => sorted_frame m g trivial,
  same, trivial, masked, trivial, kth, trivial, listed⟩

end Cert.Proof

end
